-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_norm_finite [hPre_norm_finite : Cert.Pre_norm_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_norm_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_norm_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_norm_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_norm_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_norm_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_norm_finite [hPre_norm_finite : Cert.Pre_norm_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_norm_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_norm_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_norm_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_norm_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_norm_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_mix_norm_finite [hPre_mix_norm_finite : Cert.Pre_mix_norm_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_mix_norm_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).1 = (fun _ => 1#1)
    ∧ (Cert.Pre_mix_norm_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.1 = (fun _ => 1#1)
    ∧ (Cert.Pre_mix_norm_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.1 = (fun _ => 1#1)
    ∧ (Cert.Pre_mix_norm_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.1 = (fun _ => 1#1)
    ∧ (Cert.Pre_mix_norm_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.1 = (fun _ => 1#1)
    ∧ (Cert.Pre_mix_norm_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.2.1 = (fun _ => 1#1)
    ∧ (Cert.Pre_mix_norm_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.2.2.1 = (fun _ => 1#1)
    ∧ (Cert.Pre_mix_norm_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.2.2.2.1 = (fun _ => 1#1)
    ∧ (Cert.Pre_mix_norm_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_mix_norm_finite [hPre_mix_norm_finite : Cert.Pre_mix_norm_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_mix_norm_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).1 = (fun _ => 1#1)
    ∧ (Cert.Pre_mix_norm_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.1 = (fun _ => 1#1)
    ∧ (Cert.Pre_mix_norm_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.1 = (fun _ => 1#1)
    ∧ (Cert.Pre_mix_norm_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.1 = (fun _ => 1#1)
    ∧ (Cert.Pre_mix_norm_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.1 = (fun _ => 1#1)
    ∧ (Cert.Pre_mix_norm_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.2.1 = (fun _ => 1#1)
    ∧ (Cert.Pre_mix_norm_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.2.2.1 = (fun _ => 1#1)
    ∧ (Cert.Pre_mix_norm_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.2.2.2.1 = (fun _ => 1#1)
    ∧ (Cert.Pre_mix_norm_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_norm_finite [hKernel2Ideal : Cert.Kernel2Ideal.Facts] [hPre_norm_finite : Cert.Pre_norm_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_norm_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_norm_finite [hReference2Ideal : Cert.Reference2Ideal.Facts] [hPre_norm_finite : Cert.Pre_norm_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_norm_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_mix_norm_finite [hKernel4Ideal : Cert.Kernel4Ideal.Facts] [hPre_mix_norm_finite : Cert.Pre_mix_norm_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_mix_norm_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_mix_norm_finite [hReference4Ideal : Cert.Reference4Ideal.Facts] [hPre_mix_norm_finite : Cert.Pre_mix_norm_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_mix_norm_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def preserves_Kernel_KernelIdeal : Prop :=
  IdealRules.named_const.Statement Cert.KernelIdeal.κ "gelu_cubic" .f32 0x3D372713#32 ((8943 / 200000 : ℝ) : EReal)
  ∧ IdealRules.named_const.Statement Cert.KernelIdeal.κ "gelu_cubic3" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_v147) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_v148) = v3 c
          ∧ r.2.mem ((c.tc : Thread Cert.ReferenceIdeal.nD Cert.ReferenceIdeal.τ).loc Cert.ReferenceIdeal.main_v149) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_norm_finite [hKernel2Ideal : Cert.Kernel2Ideal.Facts] [hReference2Ideal : Cert.Reference2Ideal.Facts] [hPre_norm_finite : Cert.Pre_norm_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_norm_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_v42) = v1 c
          ∧ r.2.mem ((c.tc : Thread Cert.Reference2Ideal.nD Cert.Reference2Ideal.τ).loc Cert.Reference2Ideal.main_v43) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_mix_norm_finite [hKernel4Ideal : Cert.Kernel4Ideal.Facts] [hReference4Ideal : Cert.Reference4Ideal.Facts] [hPre_mix_norm_finite : Cert.Pre_mix_norm_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_mix_norm_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)) (v2 : (c : Dev Cert.Kernel4Ideal.nD) → Buf (Elt Ideal) ((c.tc : Thread Cert.Kernel4Ideal.nD Cert.Kernel4Ideal.τ).loc Cert.Kernel4Ideal.main_v1_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_v1_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v51) = v0 c
          ∧ r.2.mem ((c.tc : Thread Cert.Reference4Ideal.nD Cert.Reference4Ideal.τ).loc Cert.Reference4Ideal.main_v52) = v1 c
          ∧ r.2.mem ((c.tc : Thread Cert.Reference4Ideal.nD Cert.Reference4Ideal.τ).loc Cert.Reference4Ideal.main_v53) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)) (v4 : (c : Dev Cert.Kernel7Ideal.nD) → Buf (Elt Ideal) ((c.tc : Thread Cert.Kernel7Ideal.nD Cert.Kernel7Ideal.τ).loc Cert.Kernel7Ideal.main_v0_4)) (v5 : (c : Dev Cert.Kernel7Ideal.nD) → Buf (Elt Ideal) ((c.tc : Thread Cert.Kernel7Ideal.nD Cert.Kernel7Ideal.τ).loc Cert.Kernel7Ideal.main_v0_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_v0_4) = v4 c
          ∧ r.2.mem ((c.tc : Thread Cert.Kernel7Ideal.nD Cert.Kernel7Ideal.τ).loc Cert.Kernel7Ideal.main_v0_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v37) = v0 c
          ∧ r.2.mem ((c.tc : Thread Cert.Reference7Ideal.nD Cert.Reference7Ideal.τ).loc Cert.Reference7Ideal.main_v38) = v1 c
          ∧ r.2.mem ((c.tc : Thread Cert.Reference7Ideal.nD Cert.Reference7Ideal.τ).loc Cert.Reference7Ideal.main_v35) = v2 c
          ∧ r.2.mem ((c.tc : Thread Cert.Reference7Ideal.nD Cert.Reference7Ideal.τ).loc Cert.Reference7Ideal.main_v36) = v3 c
          ∧ r.2.mem ((c.tc : Thread Cert.Reference7Ideal.nD Cert.Reference7Ideal.τ).loc Cert.Reference7Ideal.main_v45) = v4 c
          ∧ r.2.mem ((c.tc : Thread Cert.Reference7Ideal.nD Cert.Reference7Ideal.τ).loc Cert.Reference7Ideal.main_v52) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)) (v2 : (c : Dev Cert.Kernel10Ideal.nD) → Buf (Elt Ideal) ((c.tc : Thread Cert.Kernel10Ideal.nD Cert.Kernel10Ideal.τ).loc Cert.Kernel10Ideal.main_v1_2)) (v3 : (c : Dev Cert.Kernel10Ideal.nD) → Buf (Elt Ideal) ((c.tc : Thread Cert.Kernel10Ideal.nD Cert.Kernel10Ideal.τ).loc Cert.Kernel10Ideal.main_v1_3)) (v4 : (c : Dev Cert.Kernel10Ideal.nD) → Buf (Elt Ideal) ((c.tc : Thread Cert.Kernel10Ideal.nD Cert.Kernel10Ideal.τ).loc Cert.Kernel10Ideal.main_v1_4)) (v5 : (c : Dev Cert.Kernel10Ideal.nD) → Buf (Elt Ideal) ((c.tc : Thread Cert.Kernel10Ideal.nD Cert.Kernel10Ideal.τ).loc Cert.Kernel10Ideal.main_v1_5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_v1_2) = v2 c
          ∧ r.2.mem ((c.tc : Thread Cert.Kernel10Ideal.nD Cert.Kernel10Ideal.τ).loc Cert.Kernel10Ideal.main_v1_3) = v3 c
          ∧ r.2.mem ((c.tc : Thread Cert.Kernel10Ideal.nD Cert.Kernel10Ideal.τ).loc Cert.Kernel10Ideal.main_v1_4) = v4 c
          ∧ r.2.mem ((c.tc : Thread Cert.Kernel10Ideal.nD Cert.Kernel10Ideal.τ).loc Cert.Kernel10Ideal.main_v1_5) = v5 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v16) = v0 c
          ∧ r.2.mem ((c.tc : Thread Cert.Reference10Ideal.nD Cert.Reference10Ideal.τ).loc Cert.Reference10Ideal.main_v21) = v1 c
          ∧ r.2.mem ((c.tc : Thread Cert.Reference10Ideal.nD Cert.Reference10Ideal.τ).loc Cert.Reference10Ideal.main_v22) = v2 c
          ∧ r.2.mem ((c.tc : Thread Cert.Reference10Ideal.nD Cert.Reference10Ideal.τ).loc Cert.Reference10Ideal.main_v23) = v3 c
          ∧ r.2.mem ((c.tc : Thread Cert.Reference10Ideal.nD Cert.Reference10Ideal.τ).loc Cert.Reference10Ideal.main_v24) = v4 c
          ∧ r.2.mem ((c.tc : Thread Cert.Reference10Ideal.nD Cert.Reference10Ideal.τ).loc Cert.Reference10Ideal.main_v25) = v5 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v27) = v0 c
          ∧ r.2.mem ((c.tc : Thread Cert.Reference11Ideal.nD Cert.Reference11Ideal.τ).loc Cert.Reference11Ideal.main_v28) = v1 c
          ∧ r.2.mem ((c.tc : Thread Cert.Reference11Ideal.nD Cert.Reference11Ideal.τ).loc Cert.Reference11Ideal.main_v29) = v2 c
          ∧ r.2.mem ((c.tc : Thread Cert.Reference11Ideal.nD Cert.Reference11Ideal.τ).loc Cert.Reference11Ideal.main_v30) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v18) = v0 c
          ∧ r.2.mem ((c.tc : Thread Cert.Reference13Ideal.nD Cert.Reference13Ideal.τ).loc Cert.Reference13Ideal.main_v19) = v1 c
          ∧ r.2.mem ((c.tc : Thread Cert.Reference13Ideal.nD Cert.Reference13Ideal.τ).loc Cert.Reference13Ideal.main_v20) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_norm_finite : Cert.Pre_norm_finite.Facts) (hPre_mix_norm_finite : Cert.Pre_mix_norm_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_norm_finite (hKernel2Ideal := hKernel2Ideal) (hPre_norm_finite := hPre_norm_finite)
    ∧ quiescent_Reference2Ideal (hReference2Ideal := hReference2Ideal)
    ∧ quiescent_Reference2Ideal_pre_norm_finite (hReference2Ideal := hReference2Ideal) (hPre_norm_finite := hPre_norm_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_mix_norm_finite (hKernel4Ideal := hKernel4Ideal) (hPre_mix_norm_finite := hPre_mix_norm_finite)
    ∧ quiescent_Reference4Ideal (hReference4Ideal := hReference4Ideal)
    ∧ quiescent_Reference4Ideal_pre_mix_norm_finite (hReference4Ideal := hReference4Ideal) (hPre_mix_norm_finite := hPre_mix_norm_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_norm_finite (hKernel2Ideal := hKernel2Ideal) (hReference2Ideal := hReference2Ideal) (hPre_norm_finite := hPre_norm_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_mix_norm_finite (hKernel4Ideal := hKernel4Ideal) (hReference4Ideal := hReference4Ideal) (hPre_mix_norm_finite := hPre_mix_norm_finite)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S4096x512 : Shape := ⟨2, ![4096, 512]⟩
abbrev S512 : Shape := ⟨1, ![512]⟩
abbrev S8x128x128 : Shape := ⟨3, ![8, 128, 128]⟩
abbrev S8x128 : Shape := ⟨2, ![8, 128]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)
  bcast_S_S512 : S_.BroadcastsInDim S512 (![] : Fin 0 → Fin S512.rank)
  bcast_S_S8x128x128 : S_.BroadcastsInDim S8x128x128 (![] : Fin 0 → Fin S8x128x128.rank)
  bcast_S_S8x128 : S_.BroadcastsInDim S8x128 (![] : Fin 0 → Fin S8x128.rank)

variable [Facts]

def fn_part1 {F : FTy → Type} [FloatOps F] (main_v3 : IVec S4096x512 1) (main_v7 : IVec S4096x512 1) (main_v11 : IVec S4096x512 1) (main_v14 : IVec S512 1) (main_v17 : IVec S8x128x128 1) (main_v18 : FVec F S8x128 .f32) : IVec S4096x512 1 × IVec S4096x512 1 × IVec S4096x512 1 × IVec S512 1 × IVec S8x128x128 1 × IVec S8x128 1 :=
  let main_cst_4 : FVec F S_ .f32 := constant S_ .f32 0x7F800000#32
  let main_v19 : FVec F S8x128 .f32 := broadcastInDim S8x128 ![] bcast_S_S8x128 main_cst_4
  let main_v20 : IVec S8x128 1 := cmpf .olt main_v18 main_v19
  (main_v3, main_v7, main_v11, main_v14, main_v17, main_v20)

def fn {F : FTy → Type} [FloatOps F] (main_arg0 : FVec F S4096x512 .bf16) (main_arg1 : FVec F S4096x512 .bf16) (main_arg2 : FVec F S4096x512 .bf16) (main_arg3 : FVec F S512 .f32) (main_arg4 : FVec F S8x128x128 .f32) (main_arg5 : FVec F S8x128 .f32) : IVec S4096x512 1 × IVec S4096x512 1 × IVec S4096x512 1 × IVec S512 1 × IVec S8x128x128 1 × IVec S8x128 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S4096x512 .f32 := (extf .f32 · bitsLt_bf16_f32) main_arg1
  let main_v5 : FVec F S4096x512 .f32 := Host.absf main_v4
  let main_cst_0 : FVec F S_ .f32 := constant S_ .f32 0x7F800000#32
  let main_v6 : FVec F S4096x512 .f32 := broadcastInDim S4096x512 ![] bcast_S_S4096x512 main_cst_0
  let main_v7 : IVec S4096x512 1 := cmpf .olt main_v5 main_v6
  let main_v8 : FVec F S4096x512 .f32 := (extf .f32 · bitsLt_bf16_f32) main_arg2
  let main_v9 : FVec F S4096x512 .f32 := Host.absf main_v8
  let main_cst_1 : FVec F S_ .f32 := constant S_ .f32 0x7F800000#32
  let main_v10 : FVec F S4096x512 .f32 := broadcastInDim S4096x512 ![] bcast_S_S4096x512 main_cst_1
  let main_v11 : IVec S4096x512 1 := cmpf .olt main_v9 main_v10
  let main_v12 : FVec F S512 .f32 := Host.absf main_arg3
  let main_cst_2 : FVec F S_ .f32 := constant S_ .f32 0x7F800000#32
  let main_v13 : FVec F S512 .f32 := broadcastInDim S512 ![] bcast_S_S512 main_cst_2
  let main_v14 : IVec S512 1 := cmpf .olt main_v12 main_v13
  let main_v15 : FVec F S8x128x128 .f32 := Host.absf main_arg4
  let main_cst_3 : FVec F S_ .f32 := constant S_ .f32 0x7F800000#32
  let main_v16 : FVec F S8x128x128 .f32 := broadcastInDim S8x128x128 ![] bcast_S_S8x128x128 main_cst_3
  let main_v17 : IVec S8x128x128 1 := cmpf .olt main_v15 main_v16
  let main_v18 : FVec F S8x128 .f32 := Host.absf main_arg5
  fn_part1 (F := F) main_v3 main_v7 main_v11 main_v14 main_v17 main_v18
-- ==== Pre_mix_norm_finite.lean ====
abbrev S4096x768 : Shape := ⟨2, ![4096, 768]⟩
abbrev S4096x512 : Shape := ⟨2, ![4096, 512]⟩
abbrev S4096x1024 : Shape := ⟨2, ![4096, 1024]⟩
abbrev S3840x1024 : Shape := ⟨2, ![3840, 1024]⟩
abbrev S1024 : Shape := ⟨1, ![1024]⟩
abbrev S_ : Shape := ⟨0, ![]⟩

class Facts : Prop where
  bitsLt_bf16_f32 : FTy.bits .bf16 < FTy.bits .f32
  bcast_S_S4096x768 : S_.BroadcastsInDim S4096x768 (![] : Fin 0 → Fin S4096x768.rank)
  bcast_S_S4096x512 : S_.BroadcastsInDim S4096x512 (![] : Fin 0 → Fin S4096x512.rank)
  bcast_S_S4096x1024 : S_.BroadcastsInDim S4096x1024 (![] : Fin 0 → Fin S4096x1024.rank)
  bcast_S_S3840x1024 : S_.BroadcastsInDim S3840x1024 (![] : Fin 0 → Fin S3840x1024.rank)
  bcast_S_S1024 : S_.BroadcastsInDim S1024 (![] : Fin 0 → Fin S1024.rank)

variable [Facts]

def fn_part1 {F : FTy → Type} [FloatOps F] (main_arg5 : FVec F S3840x1024 .bf16) (main_arg6 : FVec F S4096x1024 .f32) (main_arg7 : FVec F S1024 .f32) (main_arg8 : FVec F S4096x1024 .f32) (main_v3 : IVec S4096x768 1) (main_v7 : IVec S4096x512 1) (main_v11 : IVec S4096x512 1) (main_v15 : IVec S4096x1024 1) (main_v17 : FVec F S4096x1024 .f32) (main_v18 : FVec F S4096x1024 .f32) : IVec S4096x768 1 × IVec S4096x512 1 × IVec S4096x512 1 × IVec S4096x1024 1 × IVec S4096x1024 1 × IVec S3840x1024 1 × IVec S4096x1024 1 × IVec S1024 1 × IVec S4096x1024 1 :=
  let main_v19 : IVec S4096x1024 1 := cmpf .olt main_v17 main_v18
  let main_v20 : FVec F S3840x1024 .f32 := (extf .f32 · bitsLt_bf16_f32) main_arg5
  let main_v21 : FVec F S3840x1024 .f32 := Host.absf main_v20
  let main_cst_4 : FVec F S_ .f32 := constant S_ .f32 0x7F800000#32
  let main_v22 : FVec F S3840x1024 .f32 := broadcastInDim S3840x1024 ![] bcast_S_S3840x1024 main_cst_4
  let main_v23 : IVec S3840x1024 1 := cmpf .olt main_v21 main_v22
  let main_v24 : FVec F S4096x1024 .f32 := Host.absf main_arg6
  let main_cst_5 : FVec F S_ .f32 := constant S_ .f32 0x7F800000#32
  let main_v25 : FVec F S4096x1024 .f32 := broadcastInDim S4096x1024 ![] bcast_S_S4096x1024 main_cst_5
  let main_v26 : IVec S4096x1024 1 := cmpf .olt main_v24 main_v25
  let main_v27 : FVec F S1024 .f32 := Host.absf main_arg7
  let main_cst_6 : FVec F S_ .f32 := constant S_ .f32 0x7F800000#32
  let main_v28 : FVec F S1024 .f32 := broadcastInDim S1024 ![] bcast_S_S1024 main_cst_6
  let main_v29 : IVec S1024 1 := cmpf .olt main_v27 main_v28
  let main_v30 : FVec F S4096x1024 .f32 := Host.absf main_arg8
  let main_cst_7 : FVec F S_ .f32 := constant S_ .f32 0x7F800000#32
  let main_v31 : FVec F S4096x1024 .f32 := broadcastInDim S4096x1024 ![] bcast_S_S4096x1024 main_cst_7
  let main_v32 : IVec S4096x1024 1 := cmpf .olt main_v30 main_v31
  (main_v3, main_v7, main_v11, main_v15, main_v19, main_v23, main_v26, main_v29, main_v32)

def fn {F : FTy → Type} [FloatOps F] (main_arg0 : FVec F S4096x768 .bf16) (main_arg1 : FVec F S4096x512 .bf16) (main_arg2 : FVec F S4096x512 .bf16) (main_arg3 : FVec F S4096x1024 .bf16) (main_arg4 : FVec F S4096x1024 .bf16) (main_arg5 : FVec F S3840x1024 .bf16) (main_arg6 : FVec F S4096x1024 .f32) (main_arg7 : FVec F S1024 .f32) (main_arg8 : FVec F S4096x1024 .f32) : IVec S4096x768 1 × IVec S4096x512 1 × IVec S4096x512 1 × IVec S4096x1024 1 × IVec S4096x1024 1 × IVec S3840x1024 1 × IVec S4096x1024 1 × IVec S1024 1 × IVec S4096x1024 1 :=
  let main_v0 : FVec F S4096x768 .f32 := (extf .f32 · bitsLt_bf16_f32) main_arg0
  let main_v1 : FVec F S4096x768 .f32 := Host.absf main_v0
  let main_cst : FVec F S_ .f32 := constant S_ .f32 0x7F800000#32
  let main_v2 : FVec F S4096x768 .f32 := broadcastInDim S4096x768 ![] bcast_S_S4096x768 main_cst
  let main_v3 : IVec S4096x768 1 := cmpf .olt main_v1 main_v2
  let main_v4 : FVec F S4096x512 .f32 := (extf .f32 · bitsLt_bf16_f32) main_arg1
  let main_v5 : FVec F S4096x512 .f32 := Host.absf main_v4
  let main_cst_0 : FVec F S_ .f32 := constant S_ .f32 0x7F800000#32
  let main_v6 : FVec F S4096x512 .f32 := broadcastInDim S4096x512 ![] bcast_S_S4096x512 main_cst_0
  let main_v7 : IVec S4096x512 1 := cmpf .olt main_v5 main_v6
  let main_v8 : FVec F S4096x512 .f32 := (extf .f32 · bitsLt_bf16_f32) main_arg2
  let main_v9 : FVec F S4096x512 .f32 := Host.absf main_v8
  let main_cst_1 : FVec F S_ .f32 := constant S_ .f32 0x7F800000#32
  let main_v10 : FVec F S4096x512 .f32 := broadcastInDim S4096x512 ![] bcast_S_S4096x512 main_cst_1
  let main_v11 : IVec S4096x512 1 := cmpf .olt main_v9 main_v10
  let main_v12 : FVec F S4096x1024 .f32 := (extf .f32 · bitsLt_bf16_f32) main_arg3
  let main_v13 : FVec F S4096x1024 .f32 := Host.absf main_v12
  let main_cst_2 : FVec F S_ .f32 := constant S_ .f32 0x7F800000#32
  let main_v14 : FVec F S4096x1024 .f32 := broadcastInDim S4096x1024 ![] bcast_S_S4096x1024 main_cst_2
  let main_v15 : IVec S4096x1024 1 := cmpf .olt main_v13 main_v14
  let main_v16 : FVec F S4096x1024 .f32 := (extf .f32 · bitsLt_bf16_f32) main_arg4
  let main_v17 : FVec F S4096x1024 .f32 := Host.absf main_v16
  let main_cst_3 : FVec F S_ .f32 := constant S_ .f32 0x7F800000#32
  let main_v18 : FVec F S4096x1024 .f32 := broadcastInDim S4096x1024 ![] bcast_S_S4096x1024 main_cst_3
  fn_part1 (F := F) main_arg5 main_arg6 main_arg7 main_arg8 main_v3 main_v7 main_v11 main_v15 main_v17 main_v18
-- ==== Pre_norm_finite.lean ====
abbrev S4096x5632 : Shape := ⟨2, ![4096, 5632]⟩
abbrev S5632x1024 : Shape := ⟨2, ![5632, 1024]⟩
abbrev S4096x1024 : Shape := ⟨2, ![4096, 1024]⟩
abbrev S1024 : Shape := ⟨1, ![1024]⟩
abbrev S_ : Shape := ⟨0, ![]⟩

class Facts : Prop where
  bitsLt_bf16_f32 : FTy.bits .bf16 < FTy.bits .f32
  bcast_S_S4096x5632 : S_.BroadcastsInDim S4096x5632 (![] : Fin 0 → Fin S4096x5632.rank)
  bcast_S_S5632x1024 : S_.BroadcastsInDim S5632x1024 (![] : Fin 0 → Fin S5632x1024.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x5632 .bf16) (main_arg1 : FVec F S5632x1024 .bf16) (main_arg2 : FVec F S4096x1024 .f32) (main_arg3 : FVec F S1024 .f32) (main_arg4 : FVec F S4096x1024 .f32) : IVec S4096x5632 1 × IVec S5632x1024 1 × IVec S4096x1024 1 × IVec S1024 1 × IVec S4096x1024 1 :=
  let main_v0 : FVec F S4096x5632 .f32 := (extf .f32 · bitsLt_bf16_f32) main_arg0
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_v4 : FVec F S5632x1024 .f32 := (extf .f32 · bitsLt_bf16_f32) main_arg1
  let main_v5 : FVec F S5632x1024 .f32 := Host.absf main_v4
  let main_cst_0 : FVec F S_ .f32 := constant S_ .f32 0x7F800000#32
  let main_v6 : FVec F S5632x1024 .f32 := broadcastInDim S5632x1024 ![] bcast_S_S5632x1024 main_cst_0
  let main_v7 : IVec S5632x1024 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S1024 .f32 := Host.absf main_arg3
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_v14 : FVec F S4096x1024 .f32 := Host.absf main_arg4
  let main_cst_3 : FVec F S_ .f32 := constant S_ .f32 0x7F800000#32
  let main_v15 : FVec F S4096x1024 .f32 := broadcastInDim S4096x1024 ![] bcast_S_S4096x1024 main_cst_3
  let main_v16 : IVec S4096x1024 1 := cmpf .olt main_v14 main_v15
  (main_v3, main_v7, main_v10, main_v13, main_v16)
-- ==== Kernel.lean ====
abbrev S4096x512 : Shape := ⟨2, ![4096, 512]⟩
abbrev S512 : Shape := ⟨1, ![512]⟩
abbrev S8x128x128 : Shape := ⟨3, ![8, 128, 128]⟩
abbrev S8x128 : Shape := ⟨2, ![8, 128]⟩
abbrev S8x128x1 : Shape := ⟨3, ![8, 128, 1]⟩
abbrev S1x512 : Shape := ⟨2, ![1, 512]⟩
abbrev S512x512 : Shape := ⟨2, ![512, 512]⟩
abbrev S128x512 : Shape := ⟨2, ![128, 512]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S128x64 : Shape := ⟨2, ![128, 64]⟩
abbrev S1x128x1 : Shape := ⟨3, ![1, 128, 1]⟩

abbrev nBuf : Space → Nat
  | .hbm => 13
  | .vmem => 16
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S512, .f32⟩
  | .hbm, ⟨4, _⟩ => ⟨S8x128x128, .f32⟩
  | .hbm, ⟨5, _⟩ => ⟨S8x128, .f32⟩
  | .hbm, ⟨6, _⟩ => ⟨S8x128x1, .f32⟩
  | .hbm, ⟨7, _⟩ => ⟨S1x512, .f32⟩
  | .hbm, ⟨8, _⟩ => ⟨S4096x512, .bf16⟩
  | .hbm, ⟨9, _⟩ => ⟨S4096x512, .bf16⟩
  | .hbm, ⟨10, _⟩ => ⟨S8x128x128, .f32⟩
  | .hbm, ⟨11, _⟩ => ⟨S8x128x1, .f32⟩
  | .hbm, ⟨12, _⟩ => ⟨S1x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x512, .f32⟩
  | .local _ .vmem, ⟨7, _⟩ => ⟨S8x128x128, .f32⟩
  | .local _ .vmem, ⟨8, _⟩ => ⟨S8x128x1, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S8x128x128, .f32⟩
  | .local _ .vmem, ⟨14, _⟩ => ⟨S8x128x1, .f32⟩
  | .local _ .vmem, ⟨15, _⟩ => ⟨S1x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "gelu_cubic" => some ((8943 / 200000 : ℝ) : EReal)
  | "gelu_cubic3" => some ((26829 / 200000 : ℝ) : EReal)
  | _ => none
-- ==== ReferenceIdeal.lean ====
abbrev S4096x512 : Shape := ⟨2, ![4096, 512]⟩
abbrev S512 : Shape := ⟨1, ![512]⟩
abbrev S8x128x128 : Shape := ⟨3, ![8, 128, 128]⟩
abbrev S8x128 : Shape := ⟨2, ![8, 128]⟩
abbrev S2x2048x512 : Shape := ⟨3, ![2, 2048, 512]⟩
abbrev S_ : Shape := ⟨0, ![]⟩
abbrev S128x128 : Shape := ⟨2, ![128, 128]⟩
abbrev S1x128x128 : Shape := ⟨3, ![1, 128, 128]⟩
abbrev S2x2048 : Shape := ⟨2, ![2, 2048]⟩
abbrev S2x2048x1 : Shape := ⟨3, ![2, 2048, 1]⟩
abbrev S1x1x512 : Shape := ⟨3, ![1, 1, 512]⟩
abbrev S2x16x128x8x64 : Shape := ⟨5, ![2, 16, 128, 8, 64]⟩
abbrev S8x2x16x64x128 : Shape := ⟨5, ![8, 2, 16, 64, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S8x128x1 : Shape := ⟨3, ![8, 128, 1]⟩
abbrev S1x512 : Shape := ⟨2, ![1, 512]⟩

abbrev nBuf : Space → Nat
  | .hbm => 205
  | .vmem => 0
  | .smem => 0
  | _ => 0

abbrev hbmTy0_0 (i : Nat) : BufTy := match i % 128 with
  | 0 => ⟨S4096x512, .bf16⟩
  | 1 => ⟨S4096x512, .bf16⟩
  | 2 => ⟨S4096x512, .bf16⟩
  | 3 => ⟨S512, .f32⟩
  | 4 => ⟨S8x128x128, .f32⟩
  | 5 => ⟨S8x128, .f32⟩
  | 6 => ⟨S4096x512, .f32⟩
  | 7 => ⟨S2x2048x512, .f32⟩
  | 8 => ⟨S4096x512, .f32⟩
  | 9 => ⟨S2x2048x512, .f32⟩
  | 10 => ⟨S_, .i1⟩
  | 11 => ⟨S128x128, .i1⟩
  | 12 => ⟨S128x128, .i32⟩
  | 13 => ⟨S_, .i32⟩
  | 14 => ⟨S128x128, .i32⟩
  | 15 => ⟨S128x128, .i32⟩
  | 16 => ⟨S128x128, .i32⟩
  | 17 => ⟨S128x128, .i1⟩
  | 18 => ⟨S_, .i1⟩
  | 19 => ⟨S128x128, .i1⟩
  | 20 => ⟨S128x128, .i1⟩
  | 21 => ⟨S1x128x128, .i1⟩
  | 22 => ⟨S_, .i32⟩
  | 23 => ⟨S_, .f32⟩
  | 24 => ⟨S8x128x128, .i1⟩
  | 25 => ⟨S8x128x128, .f32⟩
  | 26 => ⟨S8x128x128, .f32⟩
  | 27 => ⟨S2x2048x512, .f32⟩
  | 28 => ⟨S2x2048x512, .f32⟩
  | 29 => ⟨S2x2048x512, .f32⟩
  | 30 => ⟨S_, .f32⟩
  | 31 => ⟨S2x2048x512, .f32⟩
  | 32 => ⟨S2x2048x512, .f32⟩
  | 33 => ⟨S_, .f32⟩
  | 34 => ⟨S2x2048x512, .f32⟩
  | 35 => ⟨S2x2048x512, .f32⟩
  | 36 => ⟨S_, .f32⟩
  | 37 => ⟨S2x2048x512, .f32⟩
  | 38 => ⟨S2x2048x512, .f32⟩
  | 39 => ⟨S2x2048x512, .f32⟩
  | 40 => ⟨S_, .f32⟩
  | 41 => ⟨S2x2048x512, .f32⟩
  | 42 => ⟨S2x2048x512, .f32⟩
  | 43 => ⟨S2x2048x512, .f32⟩
  | 44 => ⟨S_, .f32⟩
  | 45 => ⟨S2x2048x512, .f32⟩
  | 46 => ⟨S2x2048x512, .f32⟩
  | 47 => ⟨S_, .f32⟩
  | 48 => ⟨S2x2048x512, .f32⟩
  | 49 => ⟨S2x2048x512, .f32⟩
  | 50 => ⟨S2x2048x512, .f32⟩
  | 51 => ⟨S_, .f32⟩
  | 52 => ⟨S2x2048x512, .f32⟩
  | 53 => ⟨S2x2048x512, .f32⟩
  | 54 => ⟨S_, .f32⟩
  | 55 => ⟨S2x2048x512, .f32⟩
  | 56 => ⟨S2x2048x512, .f32⟩
  | 57 => ⟨S2x2048x512, .f32⟩
  | 58 => ⟨S2x2048x512, .f32⟩
  | 59 => ⟨S2x2048x512, .f32⟩
  | 60 => ⟨S2x2048x512, .f32⟩
  | 61 => ⟨S_, .f32⟩
  | 62 => ⟨S2x2048x512, .f32⟩
  | 63 => ⟨S2x2048x512, .f32⟩
  | 64 => ⟨S_, .f32⟩
  | 65 => ⟨S2x2048x512, .f32⟩
  | 66 => ⟨S2x2048x512, .f32⟩
  | 67 => ⟨S_, .f32⟩
  | 68 => ⟨S2x2048x512, .f32⟩
  | 69 => ⟨S2x2048x512, .f32⟩
  | 70 => ⟨S2x2048x512, .f32⟩
  | 71 => ⟨S_, .f32⟩
  | 72 => ⟨S2x2048x512, .f32⟩
  | 73 => ⟨S2x2048x512, .f32⟩
  | 74 => ⟨S2x2048x512, .f32⟩
  | 75 => ⟨S_, .f32⟩
  | 76 => ⟨S2x2048x512, .f32⟩
  | 77 => ⟨S2x2048x512, .f32⟩
  | 78 => ⟨S_, .f32⟩
  | 79 => ⟨S2x2048x512, .f32⟩
  | 80 => ⟨S2x2048x512, .f32⟩
  | 81 => ⟨S2x2048x512, .f32⟩
  | 82 => ⟨S_, .f32⟩
  | 83 => ⟨S2x2048x512, .f32⟩
  | 84 => ⟨S2x2048x512, .f32⟩
  | 85 => ⟨S_, .f32⟩
  | 86 => ⟨S2x2048x512, .f32⟩
  | 87 => ⟨S2x2048x512, .f32⟩
  | 88 => ⟨S2x2048x512, .f32⟩
  | 89 => ⟨S2x2048x512, .f32⟩
  | 90 => ⟨S_, .f32⟩
  | 91 => ⟨S2x2048, .f32⟩
  | 92 => ⟨S2x2048x1, .f32⟩
  | 93 => ⟨S_, .f32⟩
  | 94 => ⟨S2x2048x1, .f32⟩
  | 95 => ⟨S2x2048x1, .f32⟩
  | 96 => ⟨S_, .f32⟩
  | 97 => ⟨S2x2048x1, .f32⟩
  | 98 => ⟨S2x2048x1, .f32⟩
  | 99 => ⟨S2x2048x1, .f32⟩
  | 100 => ⟨S2x2048x1, .f32⟩
  | 101 => ⟨S_, .f32⟩
  | 102 => ⟨S2x2048x1, .f32⟩
  | 103 => ⟨S2x2048x1, .f32⟩
  | 104 => ⟨S2x2048x512, .f32⟩
  | 105 => ⟨S2x2048x512, .f32⟩
  | 106 => ⟨S1x1x512, .f32⟩
  | 107 => ⟨S2x2048x512, .f32⟩
  | 108 => ⟨S2x2048x512, .f32⟩
  | 109 => ⟨S2x16x128x8x64, .f32⟩
  | 110 => ⟨S8x2x16x64x128, .f32⟩
  | 111 => ⟨S2x16x128x8x64, .f32⟩
  | 112 => ⟨S128x8, .f32⟩
  | 113 => ⟨S128x8x1, .f32⟩
  | 114 => ⟨S1x1x128x8x1, .f32⟩
  | 115 => ⟨S2x16x128x8x64, .f32⟩
  | 116 => ⟨S2x16x128x8x64, .f32⟩
  | 117 => ⟨S2x2048x512, .f32⟩
  | 118 => ⟨S2x2048x512, .f32⟩
  | 119 => ⟨S4096x512, .f32⟩
  | 120 => ⟨S2x2048x512, .f32⟩
  | 121 => ⟨S2x2048x512, .f32⟩
  | 122 => ⟨S2x2048x512, .f32⟩
  | 123 => ⟨S2x16x128x8x64, .f32⟩
  | 124 => ⟨S_, .f32⟩
  | 125 => ⟨S128x8, .f32⟩
  | 126 => ⟨S1x1x128x8x1, .f32⟩
  | 127 => ⟨S_, .f32⟩
  | _ => ⟨S4096x512, .bf16⟩

abbrev hbmTy0_1 (i : Nat) : BufTy := match i % 128 with
  | 0 => ⟨S128x8, .f32⟩
  | 1 => ⟨S128x8x1, .f32⟩
  | 2 => ⟨S_, .f32⟩
  | 3 => ⟨S128x8, .f32⟩
  | 4 => ⟨S8x128, .f32⟩
  | 5 => ⟨S8x2x16x64x128, .f32⟩
  | 6 => ⟨S8x128x128, .f32⟩
  | 7 => ⟨S8x2x16x64x128, .f32⟩
  | 8 => ⟨S2x16x128x8x64, .f32⟩
  | 9 => ⟨S2x2048x512, .f32⟩
  | 10 => ⟨S2x2048x512, .f32⟩
  | 11 => ⟨S_, .f32⟩
  | 12 => ⟨S512, .f32⟩
  | 13 => ⟨S1x1x512, .f32⟩
  | 14 => ⟨S2x2048x512, .f32⟩
  | 15 => ⟨S2x2048x512, .f32⟩
  | 16 => ⟨S_, .f32⟩
  | 17 => ⟨S512, .f32⟩
  | 18 => ⟨S2x2048x512, .f32⟩
  | 19 => ⟨S_, .f32⟩
  | 20 => ⟨S2x2048, .f32⟩
  | 21 => ⟨S2x2048x1, .f32⟩
  | 22 => ⟨S2x2048x512, .f32⟩
  | 23 => ⟨S2x2048x512, .f32⟩
  | 24 => ⟨S2x2048x1, .f32⟩
  | 25 => ⟨S_, .f32⟩
  | 26 => ⟨S2x2048x1, .f32⟩
  | 27 => ⟨S2x2048x1, .f32⟩
  | 28 => ⟨S_, .f32⟩
  | 29 => ⟨S2x2048, .f32⟩
  | 30 => ⟨S2x2048x512, .f32⟩
  | 31 => ⟨S2x2048x512, .f32⟩
  | 32 => ⟨S2x2048x512, .f32⟩
  | 33 => ⟨S2x2048x512, .f32⟩
  | 34 => ⟨S2x2048x512, .f32⟩
  | 35 => ⟨S2x2048x512, .f32⟩
  | 36 => ⟨S2x2048x512, .f32⟩
  | 37 => ⟨S_, .f32⟩
  | 38 => ⟨S2x2048x512, .f32⟩
  | 39 => ⟨S2x2048x512, .f32⟩
  | 40 => ⟨S2x2048x512, .f32⟩
  | 41 => ⟨S_, .f32⟩
  | 42 => ⟨S2x2048x512, .f32⟩
  | 43 => ⟨S2x2048x512, .f32⟩
  | 44 => ⟨S2x2048x512, .f32⟩
  | 45 => ⟨S_, .f32⟩
  | 46 => ⟨S2x2048x512, .f32⟩
  | 47 => ⟨S2x2048x512, .f32⟩
  | 48 => ⟨S_, .f32⟩
  | 49 => ⟨S2x2048x512, .f32⟩
  | 50 => ⟨S2x2048x512, .f32⟩
  | 51 => ⟨S2x2048x512, .f32⟩
  | 52 => ⟨S2x2048x512, .f32⟩
  | 53 => ⟨S2x2048x512, .f32⟩
  | 54 => ⟨S2x2048x512, .f32⟩
  | 55 => ⟨S_, .f32⟩
  | 56 => ⟨S2x2048x512, .f32⟩
  | 57 => ⟨S2x2048x512, .f32⟩
  | 58 => ⟨S2x2048x512, .f32⟩
  | 59 => ⟨S_, .f32⟩
  | 60 => ⟨S2x2048x512, .f32⟩
  | 61 => ⟨S2x2048x512, .f32⟩
  | 62 => ⟨S2x2048x512, .f32⟩
  | 63 => ⟨S_, .f32⟩
  | 64 => ⟨S2x2048x512, .f32⟩
  | 65 => ⟨S2x2048x512, .f32⟩
  | 66 => ⟨S_, .f32⟩
  | 67 => ⟨S2x2048x512, .f32⟩
  | 68 => ⟨S2x2048x512, .f32⟩
  | 69 => ⟨S2x2048x512, .f32⟩
  | 70 => ⟨S2x2048x512, .f32⟩
  | 71 => ⟨S4096x512, .f32⟩
  | 72 => ⟨S4096x512, .bf16⟩
  | 73 => ⟨S4096x512, .f32⟩
  | 74 => ⟨S4096x512, .bf16⟩
  | 75 => ⟨S8x128x1, .f32⟩
  | 76 => ⟨S1x512, .f32⟩
  | _ => ⟨S4096x512, .bf16⟩

abbrev hbmTy (i : Nat) : BufTy := match i / 128 with
  | 0 => hbmTy0_0 i
  | 1 => hbmTy0_1 i
  | _ => ⟨S4096x512, .bf16⟩

abbrev bufTy : (tb : Table) → Fin (tcTables nBuf tb) → BufTy
  | .hbm, ⟨i, _⟩ => hbmTy i
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_0 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_cst_1 : Ref sig .tc := ⟨.hbm, 33, rfl⟩
abbrev main_v13 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_4 : Ref sig .tc := ⟨.hbm, 44, rfl⟩
abbrev main_v21 : Ref sig .tc := ⟨.hbm, 45, rfl⟩
abbrev main_v22 : Ref sig .tc := ⟨.hbm, 46, rfl⟩
abbrev main_cst_5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_6 : Ref sig .tc := ⟨.hbm, 51, rfl⟩
abbrev main_v26 : Ref sig .tc := ⟨.hbm, 52, rfl⟩
abbrev main_v27 : Ref sig .tc := ⟨.hbm, 53, rfl⟩
abbrev main_cst_7 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_8 : Ref sig .tc := ⟨.hbm, 61, rfl⟩
abbrev main_v34 : Ref sig .tc := ⟨.hbm, 62, rfl⟩
abbrev main_v35 : Ref sig .tc := ⟨.hbm, 63, rfl⟩
abbrev main_cst_9 : Ref sig .tc := ⟨.hbm, 64, rfl⟩
abbrev main_v36 : Ref sig .tc := ⟨.hbm, 65, rfl⟩
abbrev main_v37 : Ref sig .tc := ⟨.hbm, 66, rfl⟩
abbrev main_cst_10 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_11 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_12 : Ref sig .tc := ⟨.hbm, 75, rfl⟩
abbrev main_v44 : Ref sig .tc := ⟨.hbm, 76, rfl⟩
abbrev main_v45 : Ref sig .tc := ⟨.hbm, 77, rfl⟩
abbrev main_cst_13 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_14 : Ref sig .tc := ⟨.hbm, 82, rfl⟩
abbrev main_v49 : Ref sig .tc := ⟨.hbm, 83, rfl⟩
abbrev main_v50 : Ref sig .tc := ⟨.hbm, 84, rfl⟩
abbrev main_cst_15 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_16 : Ref sig .tc := ⟨.hbm, 90, rfl⟩
abbrev main_v55 : Ref sig .tc := ⟨.hbm, 91, rfl⟩
abbrev main_v56 : Ref sig .tc := ⟨.hbm, 92, rfl⟩
abbrev main_cst_17 : Ref sig .tc := ⟨.hbm, 93, rfl⟩
abbrev main_v57 : Ref sig .tc := ⟨.hbm, 94, rfl⟩
abbrev main_v58 : Ref sig .tc := ⟨.hbm, 95, rfl⟩
abbrev main_cst_18 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_19 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_20 : Ref sig .tc := ⟨.hbm, 124, rfl⟩
abbrev main_v85 : Ref sig .tc := ⟨.hbm, 125, rfl⟩
abbrev main_v86 : Ref sig .tc := ⟨.hbm, 126, rfl⟩
abbrev main_cst_21 : Ref sig .tc := ⟨.hbm, 127, rfl⟩
abbrev main_v87 : Ref sig .tc := ⟨.hbm, 128, rfl⟩
abbrev main_v88 : Ref sig .tc := ⟨.hbm, 129, rfl⟩
abbrev main_cst_22 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_23 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_24 : Ref sig .tc := ⟨.hbm, 144, rfl⟩
abbrev main_v101 : Ref sig .tc := ⟨.hbm, 145, rfl⟩
abbrev main_v102 : Ref sig .tc := ⟨.hbm, 146, rfl⟩
abbrev main_cst_25 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_cst_26 : Ref sig .tc := ⟨.hbm, 153, rfl⟩
abbrev main_v108 : Ref sig .tc := ⟨.hbm, 154, rfl⟩
abbrev main_v109 : Ref sig .tc := ⟨.hbm, 155, rfl⟩
abbrev main_cst_27 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_cst_28 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_cst_29 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_30 : Ref sig .tc := ⟨.hbm, 173, rfl⟩
abbrev main_v124 : Ref sig .tc := ⟨.hbm, 174, rfl⟩
abbrev main_v125 : Ref sig .tc := ⟨.hbm, 175, rfl⟩
abbrev main_cst_31 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_cst_32 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_cst_33 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_cst_34 : Ref sig .tc := ⟨.hbm, 191, rfl⟩
abbrev main_v138 : Ref sig .tc := ⟨.hbm, 192, rfl⟩
abbrev main_v139 : Ref sig .tc := ⟨.hbm, 193, rfl⟩
abbrev main_cst_35 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩

abbrev nD : Nat := 1
abbrev τ : Topo := Topo.v7x

variable {F : FTy → Type} [FloatOps F]
-- ==== Kernel2.lean ====
abbrev S4096x5632 : Shape := ⟨2, ![4096, 5632]⟩
abbrev S5632x1024 : Shape := ⟨2, ![5632, 1024]⟩
abbrev S4096x1024 : Shape := ⟨2, ![4096, 1024]⟩
abbrev S1024 : Shape := ⟨1, ![1024]⟩
abbrev S1x1024 : Shape := ⟨2, ![1, 1024]⟩
abbrev S512x5632 : Shape := ⟨2, ![512, 5632]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S4096x5632 : Shape := ⟨2, ![4096, 5632]⟩
abbrev S5632x1024 : Shape := ⟨2, ![5632, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x5632 : Shape := ⟨2, ![1024, 5632]⟩

abbrev nBuf : Space → Nat
  | .hbm => 58
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S5632x1024, .f32⟩
  | .hbm, ⟨26, _⟩ => ⟨S1024x5632, .f32⟩
  | .hbm, ⟨27, _⟩ => ⟨S4096x5632, .f32⟩
  | .hbm, ⟨28, _⟩ => ⟨S4096x5632, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .bf16⟩
  | .hbm, ⟨57, _⟩ => ⟨S1x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel3.lean ====
abbrev S4096x5632 : Shape := ⟨2, ![4096, 5632]⟩
abbrev S4096x1024 : Shape := ⟨2, ![4096, 1024]⟩
abbrev S1x5632x1024 : Shape := ⟨3, ![1, 5632, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S1x5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4096x5632 : Shape := ⟨2, ![4096, 5632]⟩
abbrev S4096x1024 : Shape := ⟨2, ![4096, 1024]⟩
abbrev S_ : Shape := ⟨0, ![]⟩
abbrev S1024x5632 : Shape := ⟨2, ![1024, 5632]⟩
abbrev S5632x1024 : Shape := ⟨2, ![5632, 1024]⟩
abbrev S1x5632x1024 : Shape := ⟨3, ![1, 5632, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S4096x1024, .f32⟩
  | .hbm, ⟨3, _⟩ => ⟨S4096x5632, .f32⟩
  | .hbm, ⟨4, _⟩ => ⟨S_, .f32⟩
  | .hbm, ⟨5, _⟩ => ⟨S1024x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | .hbm, ⟨10, _⟩ => ⟨S5632x1024, .bf16⟩
  | .hbm, ⟨11, _⟩ => ⟨S1x5632x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4096x768 : Shape := ⟨2, ![4096, 768]⟩
abbrev S4096x512 : Shape := ⟨2, ![4096, 512]⟩
abbrev S4096x1024 : Shape := ⟨2, ![4096, 1024]⟩
abbrev S3840x1024 : Shape := ⟨2, ![3840, 1024]⟩
abbrev S1024 : Shape := ⟨1, ![1024]⟩
abbrev S1x1024 : Shape := ⟨2, ![1, 1024]⟩
abbrev S512x768 : Shape := ⟨2, ![512, 768]⟩
abbrev S512x512 : Shape := ⟨2, ![512, 512]⟩
abbrev S512x1024 : Shape := ⟨2, ![512, 1024]⟩
abbrev S768x1024 : Shape := ⟨2, ![768, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 13
  | .vmem => 21
  | .smem => 0
  | _ => 0

abbrev bufTy : (tb : Table) → Fin (tcTables nBuf tb) → BufTy
  | .hbm, ⟨0, _⟩ => ⟨S4096x768, .bf16⟩
  | .hbm, ⟨1, _⟩ => ⟨S4096x512, .bf16⟩
  | .hbm, ⟨2, _⟩ => ⟨S4096x512, .bf16⟩
  | .hbm, ⟨3, _⟩ => ⟨S4096x1024, .bf16⟩
  | .hbm, ⟨4, _⟩ => ⟨S4096x1024, .bf16⟩
  | .hbm, ⟨5, _⟩ => ⟨S3840x1024, .bf16⟩
  | .hbm, ⟨6, _⟩ => ⟨S4096x1024, .f32⟩
  | .hbm, ⟨7, _⟩ => ⟨S1024, .f32⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S1x1024, .f32⟩
  | .local _ .vmem, ⟨0, _⟩ => ⟨S512x768, .bf16⟩
  | .local _ .vmem, ⟨1, _⟩ => ⟨S512x768, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S3840x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3840x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference4Ideal.lean ====
abbrev S4096x768 : Shape := ⟨2, ![4096, 768]⟩
abbrev S4096x512 : Shape := ⟨2, ![4096, 512]⟩
abbrev S4096x1024 : Shape := ⟨2, ![4096, 1024]⟩
abbrev S3840x1024 : Shape := ⟨2, ![3840, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x3840 : Shape := ⟨2, ![1024, 3840]⟩
abbrev S4096x3840 : Shape := ⟨2, ![4096, 3840]⟩

abbrev nBuf : Space → Nat
  | .hbm => 72
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x512, .bf16⟩
  | .hbm, ⟨2, _⟩ => ⟨S4096x512, .bf16⟩
  | .hbm, ⟨3, _⟩ => ⟨S4096x1024, .bf16⟩
  | .hbm, ⟨4, _⟩ => ⟨S4096x1024, .bf16⟩
  | .hbm, ⟨5, _⟩ => ⟨S3840x1024, .bf16⟩
  | .hbm, ⟨6, _⟩ => ⟨S4096x1024, .f32⟩
  | .hbm, ⟨7, _⟩ => ⟨S1024, .f32⟩
  | .hbm, ⟨8, _⟩ => ⟨S4096x1024, .f32⟩
  | .hbm, ⟨9, _⟩ => ⟨S4096x768, .f32⟩
  | .hbm, ⟨10, _⟩ => ⟨S4096x512, .f32⟩
  | .hbm, ⟨11, _⟩ => ⟨S4096x512, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S3840x1024, .f32⟩
  | .hbm, ⟨35, _⟩ => ⟨S1024x3840, .f32⟩
  | .hbm, ⟨36, _⟩ => ⟨S4096x3840, .f32⟩
  | .hbm, ⟨37, _⟩ => ⟨S4096x768, .f32⟩
  | .hbm, ⟨38, _⟩ => ⟨S4096x512, .f32⟩
  | .hbm, ⟨39, _⟩ => ⟨S4096x512, .f32⟩
  | .hbm, ⟨40, _⟩ => ⟨S4096x1024, .f32⟩
  | .hbm, ⟨41, _⟩ => ⟨S4096x1024, .f32⟩
  | .hbm, ⟨42, _⟩ => ⟨S4096x3840, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .bf16⟩
  | .hbm, ⟨71, _⟩ => ⟨S1x1024, .f32⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== Kernel5.lean ====
abbrev S4096x768 : Shape := ⟨2, ![4096, 768]⟩
abbrev S4096x512 : Shape := ⟨2, ![4096, 512]⟩
abbrev S4096x1024 : Shape := ⟨2, ![4096, 1024]⟩
abbrev S1x3840x1024 : Shape := ⟨3, ![1, 3840, 1024]⟩
abbrev S1024x768 : Shape := ⟨2, ![1024, 768]⟩
abbrev S1024x512 : Shape := ⟨2, ![1024, 512]⟩
abbrev S1024x1024 : Shape := ⟨2, ![1024, 1024]⟩
abbrev S3840x1024 : Shape := ⟨2, ![3840, 1024]⟩
abbrev S768x1024 : Shape := ⟨2, ![768, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x768, .bf16⟩
  | .hbm, ⟨1, _⟩ => ⟨S4096x512, .bf16⟩
  | .hbm, ⟨2, _⟩ => ⟨S4096x512, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S1x3840x1024, .bf16⟩
  | .local _ .vmem, ⟨0, _⟩ => ⟨S1024x768, .bf16⟩
  | .local _ .vmem, ⟨1, _⟩ => ⟨S1024x768, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x3840x1024, .bf16⟩
  | .local _ .vmem, ⟨13, _⟩ => ⟨S3840x1024, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v43 : BitVec 1 := Scalar.cmpi .eq arg0 c3_i32
  let v44 : BitVec 32 := Scalar.extui v43
  let c0_i32_40 : BitVec 32 := 0#32
  let v45 : BitVec 1 := Scalar.cmpi .ne v44 c0_i32_40
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x3840x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S4096x768 : Shape := ⟨2, ![4096, 768]⟩
abbrev S4096x512 : Shape := ⟨2, ![4096, 512]⟩
abbrev S4096x1024 : Shape := ⟨2, ![4096, 1024]⟩
abbrev S_ : Shape := ⟨0, ![]⟩
abbrev S1024x3840 : Shape := ⟨2, ![1024, 3840]⟩
abbrev S4096x3840 : Shape := ⟨2, ![4096, 3840]⟩
abbrev S3840x1024 : Shape := ⟨2, ![3840, 1024]⟩
abbrev S1x3840x1024 : Shape := ⟨3, ![1, 3840, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x512, .bf16⟩
  | .hbm, ⟨2, _⟩ => ⟨S4096x512, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .f32⟩
  | .hbm, ⟨7, _⟩ => ⟨S4096x768, .f32⟩
  | .hbm, ⟨8, _⟩ => ⟨S4096x512, .f32⟩
  | .hbm, ⟨9, _⟩ => ⟨S4096x512, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S1024x3840, .f32⟩
  | .hbm, ⟨14, _⟩ => ⟨S4096x3840, .f32⟩
  | .hbm, ⟨15, _⟩ => ⟨S4096x768, .f32⟩
  | .hbm, ⟨16, _⟩ => ⟨S4096x512, .f32⟩
  | .hbm, ⟨17, _⟩ => ⟨S4096x512, .f32⟩
  | .hbm, ⟨18, _⟩ => ⟨S4096x1024, .f32⟩
  | .hbm, ⟨19, _⟩ => ⟨S4096x1024, .f32⟩
  | .hbm, ⟨20, _⟩ => ⟨S4096x3840, .f32⟩
  | .hbm, ⟨21, _⟩ => ⟨S3840x1024, .f32⟩
  | .hbm, ⟨22, _⟩ => ⟨S1024x3840, .f32⟩
  | .hbm, ⟨23, _⟩ => ⟨S1024x3840, .bf16⟩
  | .hbm, ⟨24, _⟩ => ⟨S3840x1024, .bf16⟩
  | .hbm, ⟨25, _⟩ => ⟨S1x3840x1024, .bf16⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel6.lean ====
abbrev S4096x2816 : Shape := ⟨2, ![4096, 2816]⟩
abbrev S4096x1024 : Shape := ⟨2, ![4096, 1024]⟩
abbrev S1x2816x1024 : Shape := ⟨3, ![1, 2816, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S1x2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S1x2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S4096x1024 : Shape := ⟨2, ![4096, 1024]⟩
abbrev S1024x512 : Shape := ⟨2, ![1024, 512]⟩
abbrev S1024x1024 : Shape := ⟨2, ![1024, 1024]⟩
abbrev S4096x512 : Shape := ⟨2, ![4096, 512]⟩
abbrev S512x1024 : Shape := ⟨2, ![512, 1024]⟩
abbrev S512x512 : Shape := ⟨2, ![512, 512]⟩

abbrev nBuf : Space → Nat
  | .hbm => 14
  | .vmem => 25
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S1024x512, .bf16⟩
  | .hbm, ⟨6, _⟩ => ⟨S1024x512, .bf16⟩
  | .hbm, ⟨7, _⟩ => ⟨S1024x1024, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x512, .bf16⟩
  | .hbm, ⟨13, _⟩ => ⟨S4096x512, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x512, .bf16⟩
  | .local _ .vmem, ⟨11, _⟩ => ⟨S1024x512, .bf16⟩
  | .local _ .vmem, ⟨12, _⟩ => ⟨S1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference7Ideal.lean ====
abbrev S4096x1024 : Shape := ⟨2, ![4096, 1024]⟩
abbrev S1024x512 : Shape := ⟨2, ![1024, 512]⟩
abbrev S1024x1024 : Shape := ⟨2, ![1024, 1024]⟩
abbrev S_ : Shape := ⟨0, ![]⟩
abbrev S4096x512 : Shape := ⟨2, ![4096, 512]⟩
abbrev S512x1024 : Shape := ⟨2, ![512, 1024]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S1024x512, .bf16⟩
  | .hbm, ⟨6, _⟩ => ⟨S1024x512, .bf16⟩
  | .hbm, ⟨7, _⟩ => ⟨S1024x1024, .bf16⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S1024x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .bf16⟩
  | .hbm, ⟨50, _⟩ => ⟨S4096x1024, .bf16⟩
  | .hbm, ⟨51, _⟩ => ⟨S4096x1024, .bf16⟩
  | .hbm, ⟨52, _⟩ => ⟨S4096x1024, .bf16⟩
  | .hbm, ⟨53, _⟩ => ⟨S4096x1024, .f32⟩
  | .hbm, ⟨54, _⟩ => ⟨S_, .f32⟩
  | .hbm, ⟨55, _⟩ => ⟨S4096x512, .f32⟩
  | .hbm, ⟨56, _⟩ => ⟨S1024x512, .f32⟩
  | .hbm, ⟨57, _⟩ => ⟨S512x1024, .f32⟩
  | .hbm, ⟨58, _⟩ => ⟨S4096x1024, .f32⟩
  | .hbm, ⟨59, _⟩ => ⟨S4096x512, .f32⟩
  | .hbm, ⟨60, _⟩ => ⟨S4096x512, .bf16⟩
  | .hbm, ⟨61, _⟩ => ⟨S4096x1024, .f32⟩
  | .hbm, ⟨62, _⟩ => ⟨S_, .f32⟩
  | .hbm, ⟨63, _⟩ => ⟨S4096x512, .f32⟩
  | .hbm, ⟨64, _⟩ => ⟨S1024x512, .f32⟩
  | .hbm, ⟨65, _⟩ => ⟨S512x1024, .f32⟩
  | .hbm, ⟨66, _⟩ => ⟨S4096x1024, .f32⟩
  | .hbm, ⟨67, _⟩ => ⟨S4096x512, .f32⟩
  | .hbm, ⟨68, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== Kernel8.lean ====
abbrev S4096x1024 : Shape := ⟨2, ![4096, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference8Ideal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S4096x1024 : Shape := ⟨2, ![4096, 1024]⟩
abbrev S4096x512 : Shape := ⟨2, ![4096, 512]⟩
abbrev S1x1024x512 : Shape := ⟨3, ![1, 1024, 512]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .bf16⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference9Ideal.lean ====
abbrev S4096x1024 : Shape := ⟨2, ![4096, 1024]⟩
abbrev S4096x512 : Shape := ⟨2, ![4096, 512]⟩
abbrev S_ : Shape := ⟨0, ![]⟩
abbrev S512x1024 : Shape := ⟨2, ![512, 1024]⟩
abbrev S1024x512 : Shape := ⟨2, ![1024, 512]⟩
abbrev S1x1024x512 : Shape := ⟨3, ![1, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .f32⟩
  | .hbm, ⟨3, _⟩ => ⟨S4096x1024, .f32⟩
  | .hbm, ⟨4, _⟩ => ⟨S_, .f32⟩
  | .hbm, ⟨5, _⟩ => ⟨S512x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x1024, .bf16⟩
  | .hbm, ⟨10, _⟩ => ⟨S1024x512, .bf16⟩
  | .hbm, ⟨11, _⟩ => ⟨S1x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel10.lean ====
abbrev S4096x1024 : Shape := ⟨2, ![4096, 1024]⟩
abbrev S1024 : Shape := ⟨1, ![1024]⟩
abbrev S3840x1024 : Shape := ⟨2, ![3840, 1024]⟩
abbrev S1x1024 : Shape := ⟨2, ![1, 1024]⟩
abbrev S4096x768 : Shape := ⟨2, ![4096, 768]⟩
abbrev S4096x512 : Shape := ⟨2, ![4096, 512]⟩
abbrev S512x1024 : Shape := ⟨2, ![512, 1024]⟩
abbrev S512x768 : Shape := ⟨2, ![512, 768]⟩
abbrev S512x512 : Shape := ⟨2, ![512, 512]⟩
abbrev S512 : Shape := ⟨1, ![512]⟩
abbrev S512x1 : Shape := ⟨2, ![512, 1]⟩
abbrev S768x1024 : Shape := ⟨2, ![768, 1024]⟩
abbrev S1024x1024 : Shape := ⟨2, ![1024, 1024]⟩

abbrev nBuf : Space → Nat
  | .hbm => 10
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S3840x1024, .bf16⟩
  | .hbm, ⟨3, _⟩ => ⟨S1x1024, .f32⟩
  | .hbm, ⟨4, _⟩ => ⟨S4096x768, .f32⟩
  | .hbm, ⟨5, _⟩ => ⟨S4096x512, .bf16⟩
  | .hbm, ⟨6, _⟩ => ⟨S4096x512, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3840x1024, .bf16⟩
  | .local _ .vmem, ⟨4, _⟩ => ⟨S512x768, .f32⟩
  | .local _ .vmem, ⟨5, _⟩ => ⟨S512x768, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v1_5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3840x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S4096x1024 : Shape := ⟨2, ![4096, 1024]⟩
abbrev S1024 : Shape := ⟨1, ![1024]⟩
abbrev S3840x1024 : Shape := ⟨2, ![3840, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x3840 : Shape := ⟨2, ![1024, 3840]⟩
abbrev S4096x3840 : Shape := ⟨2, ![4096, 3840]⟩
abbrev S4096x768 : Shape := ⟨2, ![4096, 768]⟩
abbrev S4096x512 : Shape := ⟨2, ![4096, 512]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S3840x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S3840x1024, .f32⟩
  | .hbm, ⟨20, _⟩ => ⟨S1024x3840, .f32⟩
  | .hbm, ⟨21, _⟩ => ⟨S4096x3840, .f32⟩
  | .hbm, ⟨22, _⟩ => ⟨S4096x768, .f32⟩
  | .hbm, ⟨23, _⟩ => ⟨S4096x512, .f32⟩
  | .hbm, ⟨24, _⟩ => ⟨S4096x512, .f32⟩
  | .hbm, ⟨25, _⟩ => ⟨S4096x1024, .f32⟩
  | .hbm, ⟨26, _⟩ => ⟨S4096x1024, .f32⟩
  | .hbm, ⟨27, _⟩ => ⟨S4096x512, .bf16⟩
  | .hbm, ⟨28, _⟩ => ⟨S4096x512, .bf16⟩
  | .hbm, ⟨29, _⟩ => ⟨S4096x1024, .bf16⟩
  | .hbm, ⟨30, _⟩ => ⟨S4096x1024, .bf16⟩
  | .hbm, ⟨31, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Kernel11.lean ====
abbrev S4096x1024 : Shape := ⟨2, ![4096, 1024]⟩
abbrev S4096x512 : Shape := ⟨2, ![4096, 512]⟩
abbrev S1024x512 : Shape := ⟨2, ![1024, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 12
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S4096x1024, .bf16⟩
  | .hbm, ⟨4, _⟩ => ⟨S4096x1024, .bf16⟩
  | .hbm, ⟨5, _⟩ => ⟨S1024x512, .bf16⟩
  | .hbm, ⟨6, _⟩ => ⟨S1024x512, .bf16⟩
  | .hbm, ⟨7, _⟩ => ⟨S1024x1024, .bf16⟩
  | .hbm, ⟨8, _⟩ => ⟨S4096x1024, .f32⟩
  | .hbm, ⟨9, _⟩ => ⟨S4096x1024, .bf16⟩
  | .hbm, ⟨10, _⟩ => ⟨S4096x1024, .bf16⟩
  | .hbm, ⟨11, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x512, .bf16⟩
  | .local _ .vmem, ⟨11, _⟩ => ⟨S1024x512, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference11Ideal.lean ====
abbrev S4096x1024 : Shape := ⟨2, ![4096, 1024]⟩
abbrev S4096x512 : Shape := ⟨2, ![4096, 512]⟩
abbrev S1024x512 : Shape := ⟨2, ![1024, 512]⟩
abbrev S1024x1024 : Shape := ⟨2, ![1024, 1024]⟩
abbrev S512x1024 : Shape := ⟨2, ![512, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S4096x1024, .bf16⟩
  | .hbm, ⟨4, _⟩ => ⟨S4096x1024, .bf16⟩
  | .hbm, ⟨5, _⟩ => ⟨S1024x512, .bf16⟩
  | .hbm, ⟨6, _⟩ => ⟨S1024x512, .bf16⟩
  | .hbm, ⟨7, _⟩ => ⟨S1024x1024, .bf16⟩
  | .hbm, ⟨8, _⟩ => ⟨S4096x512, .f32⟩
  | .hbm, ⟨9, _⟩ => ⟨S4096x512, .f32⟩
  | .hbm, ⟨10, _⟩ => ⟨S4096x1024, .f32⟩
  | .hbm, ⟨11, _⟩ => ⟨S4096x1024, .f32⟩
  | .hbm, ⟨12, _⟩ => ⟨S1024x512, .f32⟩
  | .hbm, ⟨13, _⟩ => ⟨S1024x512, .f32⟩
  | .hbm, ⟨14, _⟩ => ⟨S1024x1024, .f32⟩
  | .hbm, ⟨15, _⟩ => ⟨S512x1024, .f32⟩
  | .hbm, ⟨16, _⟩ => ⟨S4096x1024, .f32⟩
  | .hbm, ⟨17, _⟩ => ⟨S512x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | .hbm, ⟨41, _⟩ => ⟨S4096x1024, .bf16⟩
  | .hbm, ⟨42, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel12.lean ====
abbrev S4096x1024 : Shape := ⟨2, ![4096, 1024]⟩
abbrev S4096x2816 : Shape := ⟨2, ![4096, 2816]⟩
abbrev S2816x1024 : Shape := ⟨2, ![2816, 1024]⟩
abbrev S1x1 : Shape := ⟨2, ![1, 1]⟩
abbrev S512x1024 : Shape := ⟨2, ![512, 1024]⟩
abbrev S512x2816 : Shape := ⟨2, ![512, 2816]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .bf16⟩
  | .hbm, ⟨3, _⟩ => ⟨S1x1, .f32⟩
  | .hbm, ⟨4, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference12Ideal.lean ====
abbrev S4096x1024 : Shape := ⟨2, ![4096, 1024]⟩
abbrev S4096x2816 : Shape := ⟨2, ![4096, 2816]⟩
abbrev S2816x1024 : Shape := ⟨2, ![2816, 1024]⟩
abbrev S1x1 : Shape := ⟨2, ![1, 1]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .bf16⟩
  | .hbm, ⟨3, _⟩ => ⟨S1x1, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel13.lean ====
abbrev S4096x1024 : Shape := ⟨2, ![4096, 1024]⟩
abbrev S4096x2816 : Shape := ⟨2, ![4096, 2816]⟩
abbrev S2816x1024 : Shape := ⟨2, ![2816, 1024]⟩
abbrev S8x128 : Shape := ⟨2, ![8, 128]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .bf16⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference13Ideal.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩
abbrev S4096 : Shape := ⟨1, ![4096]⟩
abbrev S8x128 : Shape := ⟨2, ![8, 128]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .bf16⟩
  | .hbm, ⟨3, _⟩ => ⟨S4096x1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x1024, .f32⟩
  | .hbm, ⟨30, _⟩ => ⟨S4096x1024, .f32⟩
  | .hbm, ⟨31, _⟩ => ⟨S4096x1024, .bf16⟩
  | .hbm, ⟨32, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== Proof.Consts.lean ====
module

public import proofs.«01_k».proof.KernelIdeal
public import Idealize.ShloMosaic.Lib.Pointwise
public import Idealize.ShloMosaic.PureOps.IdealRules

@[expose] public section

noncomputable section

/-! The constants of the two programs as real numbers, and the operations' values at real arguments. -/

namespace Cert.Consts

open Idealize.ShloMosaic

/-- The factor of gelu's tanh form, the rational of its float word. -/
def cg : ℝ := 13386282 / 16777216
/-- The norm's small constant, the rational of its float word. -/
def eps : ℝ := 8796093 / 8796093022208

theorem eps_pos : 0 < eps := by unfold eps; norm_num

theorem w_zero : Ideal.ofBits .f32 0x00000000#32 = ((0 : ℝ) : EReal) := by
  simp [Ideal.ofBits, Ideal.ieee, -EReal.coe_mul]
theorem w_one : Ideal.ofBits .f32 0x3F800000#32 = ((1 : ℝ) : EReal) := by
  simp [Ideal.ofBits, Ideal.ieee, -EReal.coe_mul]; norm_num
theorem w_half : Ideal.ofBits .f32 0x3F000000#32 = ((1 / 2 : ℝ) : EReal) := by
  simp [Ideal.ofBits, Ideal.ieee, -EReal.coe_mul]; norm_num
theorem w_neg_half : Ideal.ofBits .f32 0xBF000000#32 = ((-(1 / 2) : ℝ) : EReal) := by
  simp [Ideal.ofBits, Ideal.ieee, -EReal.coe_mul, -EReal.coe_neg]; norm_num
theorem w_three : Ideal.ofBits .f32 0x40400000#32 = ((3 : ℝ) : EReal) := by
  simp [Ideal.ofBits, Ideal.ieee, -EReal.coe_mul]; norm_num
theorem w_512 : Ideal.ofBits .f32 0x44000000#32 = ((512 : ℝ) : EReal) := by
  simp [Ideal.ofBits, Ideal.ieee, -EReal.coe_mul]; norm_num
theorem w_1024 : Ideal.ofBits .f32 0x44800000#32 = ((1024 : ℝ) : EReal) := by
  simp [Ideal.ofBits, Ideal.ieee, -EReal.coe_mul]; norm_num
theorem w_44715 : Ideal.ofBits .f32 0x472EAB00#32 = ((44715 : ℝ) : EReal) := by
  simp [Ideal.ofBits, Ideal.ieee, -EReal.coe_mul]; norm_num
theorem w_million : Ideal.ofBits .f32 0x49742400#32 = ((1000000 : ℝ) : EReal) := by
  simp [Ideal.ofBits, Ideal.ieee, -EReal.coe_mul]; norm_num
theorem w_cg : Ideal.ofBits .f32 0x3F4C422A#32 = ((cg : ℝ) : EReal) := by
  unfold cg; simp [Ideal.ofBits, Ideal.ieee, -EReal.coe_mul]; norm_num
theorem w_eps : Ideal.ofBits .f32 0x358637BD#32 = ((eps : ℝ) : EReal) := by
  unfold eps; simp [Ideal.ofBits, Ideal.ieee, -EReal.coe_mul]; norm_num

theorem k_cubic : Named.named (F := Ideal) (φ := .f32) Cert.KernelIdeal.κ "gelu_cubic" 0x3D372713#32 = ((8943 / 200000 : ℝ) : EReal) :=
  IdealRules.named_const.ideal_named_scalar _ _ _ _ rfl
theorem k_cubic3 : Named.named (F := Ideal) (φ := .f32) Cert.KernelIdeal.κ "gelu_cubic3" 0x3E095D4F#32 = ((26829 / 200000 : ℝ) : EReal) :=
  IdealRules.named_const.ideal_named_scalar _ _ _ _ rfl

/-- One over a positive real's root. -/
theorem rsqrt_pos {x : ℝ} (h : 0 < x) : Ideal.rsqrt (x : EReal) = (((Real.sqrt x)⁻¹ : ℝ) : EReal) := by
  rw [Ideal.rsqrt_coe, if_neg (not_lt.mpr h.le), if_neg h.ne']

theorem div_real (x y : ℝ) (h : y ≠ 0) : Ideal.div (x : EReal) (y : EReal) = ((x / y : ℝ) : EReal) := by
  rw [Ideal.div_coe h, ← EReal.coe_mul]; congr 1; ring

theorem coe_sum' {ι : Type} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

end Cert.Consts

end
-- ==== Proof.SguSpec.lean ====
module

public import proofs.«01_k».proof.Proof.Consts

@[expose] public section

noncomputable section

/-! The gradient of the spatial gating unit over the real numbers, one chunk of 128 rows at a time. A chunk's rows are
functions of a row number below 128 and a column number below 512; column `j` is in group `j / 64`. -/

namespace Cert.SguSpec

open Cert.Consts

/-- The argument of gelu's tanh. -/
def inner (x : ℝ) : ℝ := cg * (x + 8943 / 200000 * x * x * x)
/-- gelu, its tanh form. -/
def gel (x : ℝ) : ℝ := 1 / 2 * x * (1 + Real.tanh (inner x))
/-- gelu's derivative. -/
def dgel (x : ℝ) : ℝ :=
  1 / 2 * (1 + Real.tanh (inner x))
    + 1 / 2 * x * (1 - Real.tanh (inner x) * Real.tanh (inner x)) * (cg * (1 + 26829 / 200000 * x * x))

/-- A row's mean square. -/
def ms (v : Fin 512 → ℝ) : ℝ := (∑ j, gel (v j) * gel (v j)) / 512
/-- One over a row's root mean square. -/
def rv (v : Fin 512 → ℝ) : ℝ := (Real.sqrt (ms v + eps))⁻¹
/-- A row of gated values, normalised. -/
def vh (v : Fin 512 → ℝ) (j : Fin 512) : ℝ := gel (v j) * rv v
/-- The same times the gain. -/
def vn (gain : Fin 512 → ℝ) (v : Fin 512 → ℝ) (j : Fin 512) : ℝ := vh v j * gain j
/-- A group's mixing matrix, masked. -/
def wt (w : Fin 8 → Fin 128 → Fin 128 → ℝ) (g : Fin 8) (i k : Fin 128) : ℝ := if k ≤ i then w g i k else 0
/-- The group of a column. -/
def grp (j : Fin 512) : Fin 8 := ⟨j.val / 64, by omega⟩
/-- Column `d` of group `g`. -/
def col (g : Fin 8) (d : Fin 64) : Fin 512 := ⟨64 * g.val + d.val, by omega⟩

variable (dy su sv : Fin 128 → Fin 512 → ℝ) (gain : Fin 512 → ℝ) (w : Fin 8 → Fin 128 → Fin 128 → ℝ) (b : Fin 8 → Fin 128 → ℝ)

/-- The mixed rows. -/
def mixed (i : Fin 128) (j : Fin 512) : ℝ := (∑ k, wt w (grp j) i k * vn gain (sv k) j) + b (grp j) i
/-- The gradient of `su`. -/
def dsu (i : Fin 128) (j : Fin 512) : ℝ := dy i j * mixed sv gain w b i j * dgel (su i j)
/-- The gradient of the mixed rows. -/
def dmix (i : Fin 128) (j : Fin 512) : ℝ := dy i j * gel (su i j)
/-- The gradient of the normalised rows. -/
def dvn (k : Fin 128) (j : Fin 512) : ℝ := ∑ i, wt w (grp j) i k * dmix dy su i j
/-- The same before the gain. -/
def dxh (k : Fin 128) (j : Fin 512) : ℝ := dvn dy su w k j * gain j
/-- The gradient of `sv`. -/
def dsv (k : Fin 128) (j : Fin 512) : ℝ :=
  rv (sv k) * (dxh dy su gain w k j - vh (sv k) j * ((∑ l, dxh dy su gain w k l * vh (sv k) l) / 512)) * dgel (sv k j)
/-- A chunk's part of the mixing matrices' gradient. -/
def dw (g : Fin 8) (i k : Fin 128) : ℝ := ∑ d, dmix dy su i (col g d) * vn gain (sv k) (col g d)
/-- A chunk's part of the biases' gradient. -/
def db (g : Fin 8) (i : Fin 128) : ℝ := ∑ d, dmix dy su i (col g d)
/-- A chunk's part of the gain's gradient. -/
def dg (j : Fin 512) : ℝ := ∑ k, dvn dy su w k j * vh (sv k) j

theorem ms_nonneg (v : Fin 512 → ℝ) : 0 ≤ ms v :=
  div_nonneg (Finset.sum_nonneg fun j _ => mul_self_nonneg _) (by norm_num)
theorem ms_pos (v : Fin 512 → ℝ) : 0 < ms v + eps := add_pos_of_nonneg_of_pos (ms_nonneg v) eps_pos
theorem rv_sq (v : Fin 512 → ℝ) : rv v * rv v = (ms v + eps)⁻¹ := by
  unfold rv; rw [← mul_inv, Real.mul_self_sqrt (ms_pos v).le]

theorem grp_col (g : Fin 8) (d : Fin 64) : grp (col g d) = g := by
  apply Fin.ext; show (64 * g.val + d.val) / 64 = g.val; omega

end Cert.SguSpec

end
-- ==== Proof.SguRef.lean ====
module

public import proofs.«01_k».proof.Proof.SguSpec
public import proofs.«01_k».proof.Proof.Gen.ReferenceIdeal.Read
public import Idealize.ShloMosaic.Lib.Pointwise

@[expose] public section

set_option maxRecDepth 16384

noncomputable section

/-! The reference's stages at real arguments, up to the normalised rows. A row of the reference is number `t` of half `B`. -/

namespace Cert.ReferenceIdeal.SguRef

open Cert.ReferenceIdeal Cert.ReferenceIdeal.Gen Cert.ReferenceIdeal.Read Cert.Consts Idealize.ShloMosaic Idealize.ShloMosaic.TcCoe
  Idealize.SL.Sem

/-- Row `t` of half `B` of all rows. -/
def rw2 (B : Fin 2) (t : Fin 2048) : Fin 4096 := ⟨2048 * B.val + t.val, by omega⟩

section rows
variable (x1 : (⟨S4096x512, .bf16⟩ : BufTy).Contents (Elt Ideal)) (f : Fin 4096 → Fin 512 → ℝ)
  (hx : ∀ r j, x1 (ix2 r j) = ((f r j : ℝ) : EReal)) (B : Fin 2) (t : Fin 2048) (j : Fin 512)
include hx

theorem r1 : val_main_v1 (F := Ideal) x1 (ix3 B t j) = ((f (rw2 B t) j : ℝ) : EReal) := by
  rw [← hx]
  pointwise [val_main_v1, val_main_v0]
  congr 1
  refine (ix2_inj ..).2 ⟨Fin.ext ?_, rfl⟩
  simp only [rw2]; omega
theorem r3 : val_main_v3 (F := Ideal) x1 (ix3 B t j) = ((f (rw2 B t) j : ℝ) : EReal) := r1 x1 f hx B t j
theorem r81 : val_main_v81 (F := Ideal) x1 (ix3 B t j) = ((f (rw2 B t) j : ℝ) : EReal) := r1 x1 f hx B t j
/-- gelu's tanh. -/
theorem r20 : val_main_v20 (F := Ideal) x1 (ix3 B t j) = ((Real.tanh (SguSpec.inner (f (rw2 B t) j)) : ℝ) : EReal) := by
  pointwise [val_main_v20, val_main_v19, val_main_v18, val_main_v17, val_main_v16, val_main_v15, val_main_v14, val_main_v13,
    val_main_v9, val_main_v8, val_main_cst_1, val_main_cst_2, val_main_cst_3]
  rw [r1 x1 f hx, w_cg, w_44715, w_million]
  simp only [← EReal.coe_mul, ← EReal.coe_add, div_real _ _ (show (1000000 : ℝ) ≠ 0 by norm_num)]
  rw [Ideal.tanh_coe]; congr 2; unfold SguSpec.inner; ring
theorem r43 : val_main_v43 (F := Ideal) x1 (ix3 B t j) = ((Real.tanh (SguSpec.inner (f (rw2 B t) j)) : ℝ) : EReal) := r20 x1 f hx B t j
/-- The tanh form's two factors. -/
theorem r25 : val_main_v25 (F := Ideal) x1 (ix3 B t j) = (((1 + Real.tanh (SguSpec.inner (f (rw2 B t) j))) *
    (1 - Real.tanh (SguSpec.inner (f (rw2 B t) j))) : ℝ) : EReal) := by
  pointwise [val_main_v25, val_main_v24, val_main_v23, val_main_v22, val_main_v21, val_main_cst_4, val_main_cst_5]
  rw [r20 x1 f hx, ← EReal.coe_one]
  simp only [← EReal.coe_mul, ← EReal.coe_add, ← EReal.coe_sub]
theorem r48 : val_main_v48 (F := Ideal) x1 (ix3 B t j) = (((1 + Real.tanh (SguSpec.inner (f (rw2 B t) j))) *
    (1 - Real.tanh (SguSpec.inner (f (rw2 B t) j))) : ℝ) : EReal) := r25 x1 f hx B t j
theorem r29 : val_main_v29 (F := Ideal) x1 (ix3 B t j) = ((1 / 2 * (1 + Real.tanh (SguSpec.inner (f (rw2 B t) j))) : ℝ) : EReal) := by
  pointwise [val_main_v29, val_main_v28, val_main_v27, val_main_v26, val_main_cst_6, val_main_cst_7]
  rw [r20 x1 f hx, w_half, ← EReal.coe_one]
  simp only [← EReal.coe_mul, ← EReal.coe_add]
theorem r52 : val_main_v52 (F := Ideal) x1 (ix3 B t j) = ((1 / 2 * (1 + Real.tanh (SguSpec.inner (f (rw2 B t) j))) : ℝ) : EReal) := r29 x1 f hx B t j
/-- gelu. -/
theorem r30 : val_main_v30 (F := Ideal) x1 (ix3 B t j) = ((SguSpec.gel (f (rw2 B t) j) : ℝ) : EReal) := by
  pointwise [val_main_v30]
  rw [r1 x1 f hx, r29 x1 f hx, ← EReal.coe_mul]; congr 1; unfold SguSpec.gel; ring
theorem r53 : val_main_v53 (F := Ideal) x1 (ix3 B t j) = ((SguSpec.gel (f (rw2 B t) j) : ℝ) : EReal) := r30 x1 f hx B t j
/-- A row's mean square and small constant. -/
theorem r60 : val_main_v60 (F := Ideal) x1 (ix3 B t 0) = ((SguSpec.ms (f (rw2 B t)) + eps : ℝ) : EReal) := by
  pointwise [val_main_v60, val_main_v59, val_main_v58, val_main_v57, val_main_v56, val_main_v55, val_main_v54, val_main_cst_16,
    val_main_cst_17, val_main_cst_18]
  simp only [r53 x1 f hx]
  rw [w_512, w_eps]
  simp only [← EReal.coe_mul]
  rw [coe_sum', div_real _ _ (by norm_num), ← EReal.coe_add]; rfl
/-- One over a row's root mean square. -/
theorem r61 : val_main_v61 (F := Ideal) x1 (ix3 B t 0) = ((SguSpec.rv (f (rw2 B t)) : ℝ) : EReal) := by
  pointwise [val_main_v61]
  rw [r60 x1 f hx]
  exact rsqrt_pos (SguSpec.ms_pos _)
theorem r64 : val_main_v64 (F := Ideal) x1 (ix3 B t 0) =
    ((-(1 / 2) * (SguSpec.rv (f (rw2 B t)) / (SguSpec.ms (f (rw2 B t)) + eps)) : ℝ) : EReal) := by
  pointwise [val_main_v64, val_main_v63, val_main_v62, val_main_cst_19]
  rw [r60 x1 f hx, r61 x1 f hx, w_neg_half, div_real _ _ (SguSpec.ms_pos _).ne', ← EReal.coe_mul]
/-- The normalised rows. -/
theorem r66 : val_main_v66 (F := Ideal) x1 (ix3 B t j) = ((SguSpec.vh (f (rw2 B t)) j : ℝ) : EReal) := by
  pointwise [val_main_v66, val_main_v65]
  rw [r53 x1 f hx, r61 x1 f hx, ← EReal.coe_mul]; rfl
/-- The same times the gain. -/
theorem r69 (x3 : (⟨S512, .f32⟩ : BufTy).Contents (Elt Ideal)) (fg : Fin 512 → ℝ) (hg : ∀ j, x3 (ix1 j) = ((fg j : ℝ) : EReal)) :
    val_main_v69 (F := Ideal) x1 x3 (ix3 B t j) = ((SguSpec.vn fg (f (rw2 B t)) j : ℝ) : EReal) := by
  pointwise [val_main_v69, val_main_v68, val_main_v67]
  rw [r66 x1 f hx, hg, ← EReal.coe_mul]; rfl
end rows

/-- Position `i` of chunk `c` of a half. -/
def tc (c : Fin 16) (i : Fin 128) : Fin 2048 := ⟨128 * c.val + i.val, by omega⟩
/-- A row's chunk of its half, and its position there. -/
def cOf (t : Fin 2048) : Fin 16 := ⟨t.val / 128, by omega⟩
def iOf (t : Fin 2048) : Fin 128 := ⟨t.val % 128, by omega⟩
/-- A column's position in its group. -/
def dOf (j : Fin 512) : Fin 64 := ⟨j.val % 64, by omega⟩
theorem tc_of (t : Fin 2048) : tc (cOf t) (iOf t) = t := Fin.ext (by simp only [tc, cOf, iOf]; omega)
theorem col_of (j : Fin 512) : SguSpec.col (SguSpec.grp j) (dOf j) = j := Fin.ext (by simp only [SguSpec.col, SguSpec.grp, dOf]; omega)
/-- Chunk `c` of half `B`'s rows of an array. -/
def part (f : Fin 4096 → Fin 512 → ℝ) (B : Fin 2) (c : Fin 16) : Fin 128 → Fin 512 → ℝ := fun i j => f (rw2 B (tc c i)) j

/-- Rows read chunk by chunk and group by group. -/
theorem split5 (x : FVec Ideal S2x2048x512 .f32) (B : Fin 2) (c : Fin 16) (i : Fin 128) (g : Fin 8) (d : Fin 64) :
    shapeCast S2x16x128x8x64 x shapeCasts_S2x2048x512_S2x16x128x8x64 (ix5 B c i g d) = x (ix3 B (tc c i) (SguSpec.col g d)) := by
  pointwise
  congr 1
  refine (ix3_inj ..).2 ⟨rfl, Fin.ext ?_, Fin.ext ?_⟩ <;> simp only [tc, SguSpec.col] <;> omega
/-- Chunks and groups read as rows. -/
theorem join5 (x : FVec Ideal S2x16x128x8x64 .f32) (B : Fin 2) (t : Fin 2048) (j : Fin 512) :
    shapeCast S2x2048x512 x shapeCasts_S2x16x128x8x64_S2x2048x512 (ix3 B t j) = x (ix5 B (cOf t) (iOf t) (SguSpec.grp j) (dOf j)) := by
  pointwise
  congr 1

/-- The causal mask's bit. -/
theorem mask_bit (i k : Fin 128) :
    Scalar.select (IntOp.cmpi CmpIPredicate.sge (IntOp.addi (BitVec.ofNat 32 i.val) 0#32) (BitVec.ofNat 32 k.val)) 1#1 0#1
      = if k ≤ i then 1#1 else 0#1 := by
  have e : ∀ n : ℕ, n < 128 → (BitVec.ofNat 32 n).toInt = n := fun n hn => by
    rw [BitVec.toInt_ofNat', Int.bmod_eq_of_le] <;> omega
  have z : IntOp.addi (BitVec.ofNat 32 i.val) 0#32 = BitVec.ofNat 32 i.val := by simp [IntOp.addi]
  rw [z]
  simp only [IntOp.cmpi, BitVec.sle_eq_decide]
  rw [e _ i.isLt, e _ k.isLt]
  by_cases h : k ≤ i
  · rw [if_pos h, decide_eq_true (by exact_mod_cast h)]; rfl
  · rw [if_neg h, decide_eq_false (by exact_mod_cast h)]; rfl
/-- The masked mixing matrices. -/
theorem r7 (x4 : (⟨S8x128x128, .f32⟩ : BufTy).Contents (Elt Ideal)) (fw : Fin 8 → Fin 128 → Fin 128 → ℝ)
    (hw : ∀ g i k, x4 (ix3 g i k) = ((fw g i k : ℝ) : EReal)) (g : Fin 8) (i k : Fin 128) :
    val_main_v7 (F := Ideal) x4 (ix3 g i k) = ((SguSpec.wt fw g i k : ℝ) : EReal) := by
  pointwise [val_main_v7, val_main_call1_v0, val_main_call1_v1, val_main_call1_v2, val_main_v6, val_main_v5, val_main_v4, val_main_c, val_main_c_0,
    val_main_call0_v0, val_main_call0_v1, val_main_call0_v2, val_main_call0_v3, val_main_call0_v4, val_main_call0_v5, val_main_call0_c, val_main_call0_c_0]
  rw [hw, mask_bit]
  have hz : (FloatOps.sitofp FTy.f32 (0#32 : BitVec 32) : Ideal .f32) = ((0 : ℝ) : EReal) := by
    show (((0#32 : BitVec 32).toInt : ℝ) : EReal) = _
    simp
  rw [hz]
  unfold SguSpec.wt
  by_cases h : k ≤ i <;> simp [h, Scalar.select]

section units
variable (x0 x1 x2 : (⟨S4096x512, .bf16⟩ : BufTy).Contents (Elt Ideal)) (x3 : (⟨S512, .f32⟩ : BufTy).Contents (Elt Ideal))
  (x4 : (⟨S8x128x128, .f32⟩ : BufTy).Contents (Elt Ideal)) (x5 : (⟨S8x128, .f32⟩ : BufTy).Contents (Elt Ideal))
  (fy fu fv : Fin 4096 → Fin 512 → ℝ) (fg : Fin 512 → ℝ) (fw : Fin 8 → Fin 128 → Fin 128 → ℝ) (fb : Fin 8 → Fin 128 → ℝ)

/-- The arguments hold these real numbers. -/
structure Args : Prop where
  hy : ∀ r j, x0 (ix2 r j) = ((fy r j : ℝ) : EReal)
  hu : ∀ r j, x1 (ix2 r j) = ((fu r j : ℝ) : EReal)
  hv : ∀ r j, x2 (ix2 r j) = ((fv r j : ℝ) : EReal)
  hg : ∀ j, x3 (ix1 j) = ((fg j : ℝ) : EReal)
  hw : ∀ g i k, x4 (ix3 g i k) = ((fw g i k : ℝ) : EReal)
  hb : ∀ g i, x5 (ix2 g i) = ((fb g i : ℝ) : EReal)

variable (H : Args x0 x1 x2 x3 x4 x5 fy fu fv fg fw fb) (B : Fin 2) (c : Fin 16) (i : Fin 128) (g : Fin 8) (d : Fin 64) (t : Fin 2048)
  (j : Fin 512)
include H

/-- The normalised rows with their gain, by chunk and group. -/
theorem r70 : val_main_v70 (F := Ideal) x2 x3 (ix5 B c i g d) = ((SguSpec.vn fg (part fv B c i) (SguSpec.col g d) : ℝ) : EReal) :=
  (split5 _ B c i g d).trans (r69 x2 fv H.hv B _ _ x3 fg H.hg)
/-- The mixed rows, by chunk and group. -/
theorem r77 : val_main_v77 (F := Ideal) x2 x3 x4 x5 (ix5 B c i g d)
    = ((SguSpec.mixed (part fv B c) fg fw fb i (SguSpec.col g d) : ℝ) : EReal) := by
  pointwise [val_main_v77, val_main_v76, val_main_v75, val_main_v74, val_main_v73, val_main_v72, val_main_v71]
  simp only [r70 x0 x1 x2 x3 x4 x5 fy fu fv fg fw fb H, r7 x4 fw H.hw, H.hb, ← EReal.coe_mul]
  rw [coe_sum', ← EReal.coe_add]
  unfold SguSpec.mixed
  rw [SguSpec.grp_col]
  congr 2
  exact Finset.sum_congr rfl fun k _ => mul_comm _ _
/-- The mixed rows. -/
theorem r78 : val_main_v78 (F := Ideal) x2 x3 x4 x5 (ix3 B t j)
    = ((SguSpec.mixed (part fv B (cOf t)) fg fw fb (iOf t) j : ℝ) : EReal) := by
  refine (join5 _ B t j).trans ((r77 x0 x1 x2 x3 x4 x5 fy fu fv fg fw fb H B _ _ _ _).trans ?_)
  rw [col_of]
/-- The gradient of the mixed rows. -/
theorem r82 : val_main_v82 (F := Ideal) x0 x1 (ix3 B (tc c i) j) = ((SguSpec.dmix (part fy B c) (part fu B c) i j : ℝ) : EReal) := by
  pointwise [val_main_v82]
  rw [r30 x1 fu H.hu, r81 x0 fy H.hy, ← EReal.coe_mul, mul_comm]; rfl
theorem r84 : val_main_v84 (F := Ideal) x0 x1 (ix5 B c i g d)
    = ((SguSpec.dmix (part fy B c) (part fu B c) i (SguSpec.col g d) : ℝ) : EReal) :=
  (split5 _ B c i g d).trans (r82 x0 x1 x2 x3 x4 x5 fy fu fv fg fw fb H B c i _)
theorem r91 : val_main_v91 (F := Ideal) x0 x1 (ix5 g B c d i)
    = ((SguSpec.dmix (part fy B c) (part fu B c) i (SguSpec.col g d) : ℝ) : EReal) := by
  rw [← r84 x0 x1 x2 x3 x4 x5 fy fu fv fg fw fb H]
  pointwise [val_main_v91]
/-- The gradient of the normalised rows, by chunk and group. -/
theorem r94 : val_main_v94 (F := Ideal) x0 x1 x4 (ix5 B c i g d)
    = ((SguSpec.dvn (part fy B c) (part fu B c) fw i (SguSpec.col g d) : ℝ) : EReal) := by
  pointwise [val_main_v94, val_main_v93]
  simp only [r91 x0 x1 x2 x3 x4 x5 fy fu fv fg fw fb H, r7 x4 fw H.hw, ← EReal.coe_mul]
  rw [coe_sum']
  unfold SguSpec.dvn
  rw [SguSpec.grp_col]
  congr 1
  exact Finset.sum_congr rfl fun k _ => mul_comm _ _
theorem r95 : val_main_v95 (F := Ideal) x0 x1 x4 (ix3 B t j)
    = ((SguSpec.dvn (part fy B (cOf t)) (part fu B (cOf t)) fw (iOf t) j : ℝ) : EReal) := by
  refine (join5 _ B t j).trans ((r94 x0 x1 x2 x3 x4 x5 fy fu fv fg fw fb H B _ _ _ _).trans ?_)
  rw [col_of]
theorem part_of (f : Fin 4096 → Fin 512 → ℝ) : part f B (cOf t) (iOf t) = f (rw2 B t) := by
  unfold part; rw [tc_of]
/-- The same before the gain. -/
theorem r100 : val_main_v100 (F := Ideal) x0 x1 x3 x4 (ix3 B t j)
    = ((SguSpec.dxh (part fy B (cOf t)) (part fu B (cOf t)) fg fw (iOf t) j : ℝ) : EReal) := by
  pointwise [val_main_v100, val_main_v99, val_main_v67]
  rw [r95 x0 x1 x2 x3 x4 x5 fy fu fv fg fw fb H, H.hg, ← EReal.coe_mul]; rfl
theorem r110 : val_main_v110 (F := Ideal) x0 x1 x2 x3 x4 (ix2 B t)
    = (((∑ l, SguSpec.gel (fv (rw2 B t) l) * SguSpec.dxh (part fy B (cOf t)) (part fu B (cOf t)) fg fw (iOf t) l)
        * (-(1 / 2) * (SguSpec.rv (fv (rw2 B t)) / (SguSpec.ms (fv (rw2 B t)) + eps))) / 512 : ℝ) : EReal) := by
  pointwise [val_main_v110, val_main_v109, val_main_v108, val_main_v107, val_main_v104, val_main_v103, val_main_v102, val_main_cst_24,
    val_main_cst_25, val_main_cst_26, val_main_cst_27]
  simp only [r53 x2 fv H.hv, r64 x2 fv H.hv, r100 x0 x1 x2 x3 x4 x5 fy fu fv fg fw fb H, ← EReal.coe_mul]
  rw [Fin.sum_univ_one, w_512, coe_sum', r64 x2 fv H.hv, ← EReal.coe_mul, div_real _ _ (by norm_num)]
/-- The gradient of the gated values after gelu. -/
theorem r115 : val_main_v115 (F := Ideal) x0 x1 x2 x3 x4 (ix3 B t j)
    = ((SguSpec.rv (fv (rw2 B t)) * (SguSpec.dxh (part fy B (cOf t)) (part fu B (cOf t)) fg fw (iOf t) j - SguSpec.vh (fv (rw2 B t)) j *
        ((∑ l, SguSpec.dxh (part fy B (cOf t)) (part fu B (cOf t)) fg fw (iOf t) l * SguSpec.vh (fv (rw2 B t)) l) / 512)) : ℝ) : EReal) := by
  pointwise [val_main_v115, val_main_v114, val_main_v113, val_main_v112, val_main_v111, val_main_v106, val_main_v105]
  rw [r110 x0 x1 x2 x3 x4 x5 fy fu fv fg fw fb H, r100 x0 x1 x2 x3 x4 x5 fy fu fv fg fw fb H, r53 x2 fv H.hv, r61 x2 fv H.hv]
  simp only [← EReal.coe_mul, ← EReal.coe_add]
  congr 1
  have e : (∑ l, SguSpec.dxh (part fy B (cOf t)) (part fu B (cOf t)) fg fw (iOf t) l * SguSpec.vh (fv (rw2 B t)) l)
      = (∑ l, SguSpec.gel (fv (rw2 B t) l) * SguSpec.dxh (part fy B (cOf t)) (part fu B (cOf t)) fg fw (iOf t) l) * SguSpec.rv (fv (rw2 B t)) := by
    rw [Finset.sum_mul]
    exact Finset.sum_congr rfl fun l _ => by unfold SguSpec.vh; ring
  rw [e, div_eq_mul_inv (SguSpec.rv _), ← SguSpec.rv_sq]
  unfold SguSpec.vh
  ring
/-- The first result's rows. -/
theorem r143 : val_main_v143 (F := Ideal) x0 x1 x2 x3 x4 x5 (ix3 B t j)
    = ((SguSpec.dsu (part fy B (cOf t)) (part fu B (cOf t)) (part fv B (cOf t)) fg fw fb (iOf t) j : ℝ) : EReal) := by
  pointwise [val_main_v143, val_main_v142, val_main_v141, val_main_v140, val_main_v139, val_main_v138, val_main_v137, val_main_v136,
    val_main_v135, val_main_v134, val_main_v133, val_main_v132, val_main_v131, val_main_v130, val_main_v83, val_main_v12, val_main_v11,
    val_main_v10, val_main_cst, val_main_cst_32, val_main_cst_33, val_main_cst_34, val_main_cst_35]
  rw [r78 x0 x1 x2 x3 x4 x5 fy fu fv fg fw fb H, r81 x0 fy H.hy, r1 x1 fu H.hu, r29 x1 fu H.hu, r25 x1 fu H.hu,
    w_half, w_cg, w_three, w_44715, w_million]
  simp only [← EReal.coe_mul, ← EReal.coe_add, div_real _ _ (show (1000000 : ℝ) ≠ 0 by norm_num)]
  congr 1
  unfold SguSpec.dsu SguSpec.dgel
  rw [show part fy B (cOf t) (iOf t) = fy (rw2 B t) from part_of x0 x1 x2 x3 x4 x5 fy fu fv fg fw fb H B t fy,
    show part fu B (cOf t) (iOf t) = fu (rw2 B t) from part_of x0 x1 x2 x3 x4 x5 fy fu fv fg fw fb H B t fu]
  ring
/-- The second result's rows. -/
theorem r129 : val_main_v129 (F := Ideal) x0 x1 x2 x3 x4 (ix3 B t j)
    = ((SguSpec.dsv (part fy B (cOf t)) (part fu B (cOf t)) (part fv B (cOf t)) fg fw (iOf t) j : ℝ) : EReal) := by
  pointwise [val_main_v129, val_main_v128, val_main_v127, val_main_v126, val_main_v125, val_main_v124, val_main_v123, val_main_v122,
    val_main_v121, val_main_v120, val_main_v119, val_main_v118, val_main_v117, val_main_v116, val_main_v35, val_main_v34,
    val_main_v33, val_main_cst_8, val_main_cst_28, val_main_cst_29, val_main_cst_30, val_main_cst_31]
  rw [r115 x0 x1 x2 x3 x4 x5 fy fu fv fg fw fb H, r3 x2 fv H.hv, r52 x2 fv H.hv, r48 x2 fv H.hv,
    w_half, w_cg, w_three, w_44715, w_million]
  simp only [← EReal.coe_mul, ← EReal.coe_add, div_real _ _ (show (1000000 : ℝ) ≠ 0 by norm_num)]
  congr 1
  unfold SguSpec.dsv SguSpec.dgel
  rw [show part fv B (cOf t) (iOf t) = fv (rw2 B t) from part_of x0 x1 x2 x3 x4 x5 fy fu fv fg fw fb H B t fv]
  ring
end units

end Cert.ReferenceIdeal.SguRef

end
-- ==== Proof.SguChunk.lean ====
module

public import proofs.«01_k».proof.Proof.Gen.KernelIdeal.Skeleton

@[expose] public section

noncomputable section

/-! The arithmetic of one chunk of 128 rows of the gating unit's gradient, as functions of the chunk's rows and of the
parameters: the kernel runs it four times at every grid point. -/

namespace Cert.KernelIdeal.SguChunk

open Cert.KernelIdeal Cert.KernelIdeal.Gen Idealize.ShloMosaic Idealize.SL.Sem

variable {F : FTy → Type} [FloatOps F] [Named F]

/-- A constant vector of a chunk. -/
abbrev kc (w : BitVec 32) : FVec F S128x512 .f32 := broadcast S128x512 (Scalar.ofBits .f32 w)

/-- gelu, its tanh form, at every element. -/
def gelu (x : FVec F S128x512 .f32) : FVec F S128x512 .f32 :=
  mulf (mulf (kc 0x3F000000#32) x)
    (addf (kc 0x3F800000#32) (tanh (mulf (kc 0x3F4C422A#32)
      (addf x (mulf (mulf (mulf (broadcast S128x512 (Named.named κ "gelu_cubic" 0x3D372713#32)) x) x) x)))))

/-- The tanh that gelu's derivative reads. -/
def geluTanh (x : FVec F S128x512 .f32) : FVec F S128x512 .f32 :=
  tanh (mulf (kc 0x3F4C422A#32)
      (addf x (mulf (mulf (mulf (broadcast S128x512 (Named.named κ "gelu_cubic" 0x3D372713#32)) x) x) x)))

/-- gelu's derivative at every element. -/
def geluGrad (x : FVec F S128x512 .f32) : FVec F S128x512 .f32 :=
  addf (mulf (kc 0x3F000000#32) (addf (kc 0x3F800000#32) (geluTanh x)))
    (mulf (mulf (mulf (kc 0x3F000000#32) x) (subf (kc 0x3F800000#32) (mulf (geluTanh x) (geluTanh x))))
      (mulf (kc 0x3F4C422A#32) (addf (kc 0x3F800000#32)
        (mulf (mulf (broadcast S128x512 (Named.named κ "gelu_cubic3" 0x3E095D4F#32)) x) x))))

/-- The mean of a row, as a column. -/
def rowMean (x : FVec F S128x512 .f32) : FVec F S128x1 .f32 :=
  divf (shapeCast S128x1 (multiReduction .add [1] S128 x 0x00000000#32 reduces_S128x512_S128 (.inl rfl) rfl) shapeCasts_S128_S128x1)
    (broadcast S128x1 (Scalar.ofBits .f32 0x44000000#32))

/-- One over the root mean square of a row. -/
def rms (vg : FVec F S128x512 .f32) : FVec F S128x1 .f32 :=
  rsqrt (addf (rowMean (mulf vg vg)) (broadcast S128x1 (Scalar.ofBits .f32 0x358637BD#32)))

/-- The gated rows, normalised. -/
def vhat (vg : FVec F S128x512 .f32) : FVec F S128x512 .f32 :=
  mulf vg (broadcastTo S128x512 (rms vg) broadcasts_S128x1_S128x512)

/-- The normalised rows times the gain. -/
def vn (gain : FVec F S1x512 .f32) (vh : FVec F S128x512 .f32) : FVec F S128x512 .bf16 :=
  truncf .bf16 (mulf vh (broadcastTo S128x512 gain broadcasts_S1x512_S128x512)) bitsLt_bf16_f32

/-- Where a row of the mixing matrix may look: at itself and the rows before it. -/
def causal : IVec S128x128 1 :=
  cmpi .sge (iota .tc S128x128 32 [0] iota_S128x128_d0_w32) (iota .tc S128x128 32 [1] iota_S128x128_d1_w32)

/-- A group's mixing matrix, masked. -/
def wTril (w : Vec F S1x128x128 .f32) : FVec F S128x128 .bf16 :=
  truncf .bf16 (select causal (shapeCast S128x128 w shapeCasts_S1x128x128_S128x128)
    (broadcast S128x128 (Scalar.ofBits .f32 0x00000000#32))) bitsLt_bf16_f32

/-- The 64 columns from column `o` on. -/
abbrev cols {φ : FTy} (o : ℕ) (h : S128x512.Slices ![0, o] S128x64) (x : FVec F S128x512 φ) : FVec F S128x64 φ :=
  extractStridedSlice S128x64 ![0, o] x h

/-- A group's mixed columns: its masked matrix times its columns, plus its bias. -/
def mixG (o : ℕ) (h : S128x512.Slices ![0, o] S128x64) (v : FVec F S128x512 .bf16) (w : Vec F S1x128x128 .f32)
    (b : Vec F S1x128x1 .f32) : FVec F S128x64 .f32 :=
  addf (matmul dot_S128x128_S128x64_S128x64_1_0_0_1_n_n none (wTril w) (cols o h v) (constant S128x64 .f32 0x00000000#32))
    (broadcastTo S128x64 (shapeCast S128x1 b shapeCasts_S1x128x1_S128x1) broadcasts_S128x1_S128x64)

/-- A group's columns of the gradient of the normalised rows: its masked matrix, transposed, times its columns. -/
def dvnG (o : ℕ) (h : S128x512.Slices ![0, o] S128x64) (d : FVec F S128x512 .bf16) (w : Vec F S1x128x128 .f32) :
    FVec F S128x64 .f32 :=
  matmul dot_S128x128_S128x64_S128x64_0_0_1_1_n_n none (wTril w) (cols o h d) (constant S128x64 .f32 0x00000000#32)

/-- Eight groups of columns side by side. -/
abbrev cat8 (p0 p1 p2 p3 p4 p5 p6 p7 : FVec F S128x64 .f32) : FVec F S128x512 .f32 :=
  concatenate S128x512 1 [⟨S128x64, p0⟩, ⟨S128x64, p1⟩, ⟨S128x64, p2⟩, ⟨S128x64, p3⟩, ⟨S128x64, p4⟩, ⟨S128x64, p5⟩,
    ⟨S128x64, p6⟩, ⟨S128x64, p7⟩] concatenates_S128x64_S128x64_S128x64_S128x64_S128x64_S128x64_S128x64_S128x64_S128x512_d1

/-- All groups' mixed columns. -/
def mixed (v : FVec F S128x512 .bf16) (w0 w1 w2 w3 w4 w5 w6 w7 : Vec F S1x128x128 .f32)
    (b0 b1 b2 b3 b4 b5 b6 b7 : Vec F S1x128x1 .f32) : FVec F S128x512 .f32 :=
  cat8
    (mixG 0 slices_S128x512_o0_0_S128x64 v w0 b0)
    (mixG 64 slices_S128x512_o0_64_S128x64 v w1 b1)
    (mixG 128 slices_S128x512_o0_128_S128x64 v w2 b2)
    (mixG 192 slices_S128x512_o0_192_S128x64 v w3 b3)
    (mixG 256 slices_S128x512_o0_256_S128x64 v w4 b4)
    (mixG 320 slices_S128x512_o0_320_S128x64 v w5 b5)
    (mixG 384 slices_S128x512_o0_384_S128x64 v w6 b6)
    (mixG 448 slices_S128x512_o0_448_S128x64 v w7 b7)

/-- The gradient of the normalised rows. -/
def dvn (d : FVec F S128x512 .bf16) (w0 w1 w2 w3 w4 w5 w6 w7 : Vec F S1x128x128 .f32) : FVec F S128x512 .f32 :=
  cat8
    (dvnG 0 slices_S128x512_o0_0_S128x64 d w0)
    (dvnG 64 slices_S128x512_o0_64_S128x64 d w1)
    (dvnG 128 slices_S128x512_o0_128_S128x64 d w2)
    (dvnG 192 slices_S128x512_o0_192_S128x64 d w3)
    (dvnG 256 slices_S128x512_o0_256_S128x64 d w4)
    (dvnG 320 slices_S128x512_o0_320_S128x64 d w5)
    (dvnG 384 slices_S128x512_o0_384_S128x64 d w6)
    (dvnG 448 slices_S128x512_o0_448_S128x64 d w7)

/-- The gradient of the mixed rows: the rows of `dy` times gelu of the rows of `su`. -/
def dmix (dy su : Vec F S128x512 .bf16) : FVec F S128x512 .f32 :=
  mulf (extf .f32 dy bitsLt_bf16_f32) (gelu (extf .f32 su bitsLt_bf16_f32))

/-- The same, in bf16. -/
abbrev dmixB (dy su : Vec F S128x512 .bf16) : FVec F S128x512 .bf16 := truncf .bf16 (dmix dy su) bitsLt_bf16_f32

/-- gelu of the rows of `sv`. -/
abbrev vg (sv : Vec F S128x512 .bf16) : FVec F S128x512 .f32 := gelu (extf .f32 sv bitsLt_bf16_f32)

/-- The gradient of the rows of `su`. -/
def dsu (dy su : Vec F S128x512 .bf16) (mx : FVec F S128x512 .f32) : FVec F S128x512 .bf16 :=
  truncf .bf16 (mulf (mulf (extf .f32 dy bitsLt_bf16_f32) mx) (geluGrad (extf .f32 su bitsLt_bf16_f32))) bitsLt_bf16_f32

/-- The gradient of the normalised rows before the gain. -/
abbrev dxh (gain : FVec F S1x512 .f32) (dv : FVec F S128x512 .f32) : FVec F S128x512 .f32 :=
  mulf dv (broadcastTo S128x512 gain broadcasts_S1x512_S128x512)

/-- The gradient of the rows of `sv`. -/
def dsv (sv : Vec F S128x512 .bf16) (gain : FVec F S1x512 .f32) (dv : FVec F S128x512 .f32) : FVec F S128x512 .bf16 :=
  truncf .bf16 (mulf
    (mulf (broadcastTo S128x512 (rms (vg sv)) broadcasts_S128x1_S128x512)
      (subf (dxh gain dv)
        (mulf (vhat (vg sv)) (broadcastTo S128x512 (rowMean (mulf (dxh gain dv) (vhat (vg sv)))) broadcasts_S128x1_S128x512))))
    (geluGrad (extf .f32 sv bitsLt_bf16_f32))) bitsLt_bf16_f32

/-- A group's bias gradient, one chunk further: the row sums of its columns of `dm` added to what was there. -/
def dbUpd (o : ℕ) (h : S128x512.Slices ![0, o] S128x64) (dm : FVec F S128x512 .f32) (acc : Vec F S1x128x1 .f32) :
    FVec F S1x128x1 .f32 :=
  shapeCast S1x128x1 (addf (shapeCast S128x1 acc shapeCasts_S1x128x1_S128x1)
    (shapeCast S128x1 (multiReduction .add [1] S128 (cols o h dm) 0x00000000#32 reduces_S128x64_S128 (.inl rfl) rfl)
      shapeCasts_S128_S128x1)) shapeCasts_S128x1_S1x128x1

/-- A group's mixing matrix gradient, one chunk further. -/
def dwUpd (o : ℕ) (h : S128x512.Slices ![0, o] S128x64) (dm v : FVec F S128x512 .bf16) (acc : Vec F S1x128x128 .f32) :
    FVec F S1x128x128 .f32 :=
  shapeCast S1x128x128 (addf (shapeCast S128x128 acc shapeCasts_S1x128x128_S128x128)
    (matmul dot_S128x64_S128x64_S128x128_1_1_0_0_n_n none (cols o h dm) (cols o h v) (constant S128x128 .f32 0x00000000#32)))
    shapeCasts_S128x128_S1x128x128

/-- The gain's gradient, one chunk further. -/
def dgUpd (sv : Vec F S128x512 .bf16) (dv : FVec F S128x512 .f32) (acc : Vec F S1x512 .f32) : FVec F S1x512 .f32 :=
  addf (shapeCast S1x512 acc shapeCasts_S1x512_S1x512)
    (shapeCast S1x512 (multiReduction .add [0] S512 (mulf dv (vhat (vg sv))) 0x00000000#32 reduces_S128x512_S512 (.inl rfl) rfl)
      shapeCasts_S512_S1x512)

end Cert.KernelIdeal.SguChunk

end
-- ==== Proof.SguPieces.lean ====
module

public import proofs.«01_k».proof.Proof.SguChunk
public import proofs.«01_k».proof.Proof.Gen.KernelIdeal.Value

@[expose] public section

set_option maxRecDepth 16384

noncomputable section

/-! What the body stores at a grid point, as lists of pieces over the chunk's arithmetic. -/

namespace Cert.KernelIdeal.SguPieces

open Cert.KernelIdeal Cert.KernelIdeal.Gen Cert.KernelIdeal.SguChunk Idealize.ShloMosaic Idealize.ShloMosaic.TcCoe Idealize.SL.Sem

variable {F : FTy → Type} [FloatOps F] [Named F]

/-- Chunk `b` of a block of 512 rows. -/
abbrev rowsR (b : Fin 4) : Rect S512x512 :=
  Rect.unit ![128 * b.val, 0] S128x512.size (by intro a; fin_cases b <;> fin_cases a <;> decide)
/-- Group `g` of the mixing matrices. -/
abbrev wR (g : Fin 8) : Rect S8x128x128 :=
  Rect.unit ![g.val, 0, 0] S1x128x128.size (by intro a; fin_cases g <;> fin_cases a <;> decide)
/-- Group `g` of the biases. -/
abbrev bR (g : Fin 8) : Rect S8x128x1 :=
  Rect.unit ![g.val, 0, 0] S1x128x1.size (by intro a; fin_cases g <;> fin_cases a <;> decide)
/-- The gain's whole block. -/
abbrev gR : Rect S1x512 := Rect.unit ![0, 0] S1x512.size inb_S1x512_S1x512_0_0

/-- Group `g`'s 64 columns. -/
theorem slG (g : Fin 8) : S128x512.Slices ![0, 64 * g.val] S128x64 := by
  fin_cases g
  exacts [slices_S128x512_o0_0_S128x64, slices_S128x512_o0_64_S128x64, slices_S128x512_o0_128_S128x64,
    slices_S128x512_o0_192_S128x64, slices_S128x512_o0_256_S128x64, slices_S128x512_o0_320_S128x64,
    slices_S128x512_o0_384_S128x64, slices_S128x512_o0_448_S128x64]

/-- One more piece: rectangle `R` rewritten from what a load of it finds. -/
abbrev stepC {s : Shape} {e : EltTy} {sp : Space} (v : View sig .tc sp s e) (R : Rect s)
    (f : (R.shape.Idx → Elt F e) → (R.shape.Idx → Elt F e)) (L : List (View.Piece (Elt F) s e)) : List (View.Piece (Elt F) s e) :=
  ⟨R, f (v.readCov L R.toLoadRect)⟩ :: L

/-- Eight more pieces, one per group. -/
abbrev roundC {s : Shape} {e : EltTy} {sp : Space} (v : View sig .tc sp s e) (R : Fin 8 → Rect s)
    (f : (g : Fin 8) → ((R g).shape.Idx → Elt F e) → ((R g).shape.Idx → Elt F e)) (L : List (View.Piece (Elt F) s e)) :
    List (View.Piece (Elt F) s e) :=
  stepC v (R 7) (f 7) (stepC v (R 6) (f 6) (stepC v (R 5) (f 5) (stepC v (R 4) (f 4) (stepC v (R 3) (f 3) (stepC v (R 2) (f 2)
    (stepC v (R 1) (f 1) (stepC v (R 0) (f 0) L)))))))

/-- The first eight pieces where the block holds `d g` before. -/
abbrev round0 {s : Shape} {e : EltTy} (R : Fin 8 → Rect s)
    (f : (g : Fin 8) → ((R g).shape.Idx → Elt F e) → ((R g).shape.Idx → Elt F e)) (d : (g : Fin 8) → (R g).shape.Idx → Elt F e) :
    List (View.Piece (Elt F) s e) :=
  [⟨R 7, f 7 (d 7)⟩, ⟨R 6, f 6 (d 6)⟩, ⟨R 5, f 5 (d 5)⟩, ⟨R 4, f 4 (d 4)⟩, ⟨R 3, f 3 (d 3)⟩, ⟨R 2, f 2 (d 2)⟩, ⟨R 1, f 1 (d 1)⟩,
    ⟨R 0, f 0 (d 0)⟩]

variable (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S8x128x128 .f32) (harg5 : arg5.IsWhole) (arg6 : Memref sig .tc .vmem S8x128x1 .f32) (harg6 : arg6.IsWhole) (arg7 : Memref sig .tc .vmem S512x512 .bf16) (harg7 : arg7.IsWhole) (arg8 : Memref sig .tc .vmem S512x512 .bf16) (harg8 : arg8.IsWhole) (arg9 : Memref sig .tc .vmem S8x128x128 .f32) (harg9 : arg9.IsWhole) (arg10 : Memref sig .tc .vmem S8x128x1 .f32) (harg10 : arg10.IsWhole) (arg11 : Memref sig .tc .vmem S1x512 .f32) (harg11 : arg11.IsWhole)
variable (x0 : Vec F S512x512 .bf16) (x1 : Vec F S512x512 .bf16) (x2 : Vec F S512x512 .bf16) (x3 : Vec F S1x512 .f32) (x4 : Vec F S8x128x128 .f32) (x5 : Vec F S8x128x1 .f32) (xo8 : Vec F S8x128x128 .f32) (xo9 : Vec F S8x128x1 .f32) (xo10 : Vec F S1x512 .f32)

/-- What a load of rectangle `R` of a buffer holding `x` reads. -/
abbrev rd {s : Shape} {e : EltTy} (a : Memref sig .tc .vmem s e) (h : a.IsWhole) (x : Vec F s e) (R : Rect s) : R.shape.Idx → Elt F e :=
  View.readAt (Elt F) a.view R.toLoadRect (h.unread x)

/-- The mixing's rows of chunk `b`. -/
abbrev cVn (gn : FVec F S1x512 .f32) (sv : Vec F S128x512 .bf16) : FVec F S128x512 .bf16 := vn gn (vhat (vg sv))
abbrev gn4 (x : Vec F S1x512 .f32) : FVec F S1x512 .f32 := shapeCast S1x512 x shapeCasts_S1x512_S1x512
abbrev cMixed (gn : FVec F S1x512 .f32) (sv : Vec F S128x512 .bf16) (w : Fin 8 → Vec F S1x128x128 .f32) (b : Fin 8 → Vec F S1x128x1 .f32) :
    FVec F S128x512 .f32 :=
  mixed (cVn gn sv) (w 0) (w 1) (w 2) (w 3) (w 4) (w 5) (w 6) (w 7) (b 0) (b 1) (b 2) (b 3) (b 4) (b 5) (b 6) (b 7)
abbrev cDvn (dy su : Vec F S128x512 .bf16) (w : Fin 8 → Vec F S1x128x128 .f32) : FVec F S128x512 .f32 :=
  dvn (dmixB dy su) (w 0) (w 1) (w 2) (w 3) (w 4) (w 5) (w 6) (w 7)

/-- The pieces of the gradient of `su` at the first point. -/
theorem runA_6 (hc : cond0_0 i) :
    (kernelRun0_A c i arg1 harg1 arg2 harg2 arg3 harg3 arg4 harg4 arg5 harg5 arg6 harg6 arg7 harg7 arg8 harg8 arg9 harg9 arg10 harg10 arg11 harg11 hc x0 x1 x2 x3 x4 x5).1 =
      (let r := fun b => dsu (rd arg1 harg1 x0 (rowsR b)) (rd arg2 harg2 x1 (rowsR b)) (cMixed (gn4 (rd arg4 harg4 x3 gR)) (rd arg3 harg3 x2 (rowsR b)) (fun g => rd arg5 harg5 x4 (wR g)) (fun g => rd arg6 harg6 x5 (bR g)))
       [⟨rowsR 3, r 3⟩, ⟨rowsR 2, r 2⟩, ⟨rowsR 1, r 1⟩, ⟨rowsR 0, r 0⟩]) := rfl

/-- The pieces of the gradient of `sv` at the first point. -/
theorem runA_7 (hc : cond0_0 i) :
    (kernelRun0_A c i arg1 harg1 arg2 harg2 arg3 harg3 arg4 harg4 arg5 harg5 arg6 harg6 arg7 harg7 arg8 harg8 arg9 harg9 arg10 harg10 arg11 harg11 hc x0 x1 x2 x3 x4 x5).2.1 =
      (let r := fun b => dsv (rd arg3 harg3 x2 (rowsR b)) (gn4 (rd arg4 harg4 x3 gR)) (cDvn (rd arg1 harg1 x0 (rowsR b)) (rd arg2 harg2 x1 (rowsR b)) (fun g => rd arg5 harg5 x4 (wR g)))
       [⟨rowsR 3, r 3⟩, ⟨rowsR 2, r 2⟩, ⟨rowsR 1, r 1⟩, ⟨rowsR 0, r 0⟩]) := rfl

/-- The pieces of the mixing matrices' gradient at the first point. -/
theorem runA_8 (hc : cond0_0 i) :
    (kernelRun0_A c i arg1 harg1 arg2 harg2 arg3 harg3 arg4 harg4 arg5 harg5 arg6 harg6 arg7 harg7 arg8 harg8 arg9 harg9 arg10 harg10 arg11 harg11 hc x0 x1 x2 x3 x4 x5).2.2.1 =
      (let r := fun b => fun g => dwUpd (64 * g.val) (slG g) (dmixB (rd arg1 harg1 x0 (rowsR b)) (rd arg2 harg2 x1 (rowsR b))) (cVn (gn4 (rd arg4 harg4 x3 gR)) (rd arg3 harg3 x2 (rowsR b)))
       roundC arg9.view wR (r 3) (roundC arg9.view wR (r 2) (roundC arg9.view wR (r 1) (roundC arg9.view wR (r 0) [⟨Rect.unit ![0, 0, 0] S8x128x128.size inb_S8x128x128_S8x128x128_0_0_0, k0_pay2⟩])))) := rfl

/-- The pieces of the biases' gradient at the first point. -/
theorem runA_9 (hc : cond0_0 i) :
    (kernelRun0_A c i arg1 harg1 arg2 harg2 arg3 harg3 arg4 harg4 arg5 harg5 arg6 harg6 arg7 harg7 arg8 harg8 arg9 harg9 arg10 harg10 arg11 harg11 hc x0 x1 x2 x3 x4 x5).2.2.2.1 =
      (let r := fun b => fun g => dbUpd (64 * g.val) (slG g) (dmix (rd arg1 harg1 x0 (rowsR b)) (rd arg2 harg2 x1 (rowsR b)))
       roundC arg10.view bR (r 3) (roundC arg10.view bR (r 2) (roundC arg10.view bR (r 1) (roundC arg10.view bR (r 0) [⟨Rect.unit ![0, 0, 0] S8x128x1.size inb_S8x128x1_S8x128x1_0_0_0, k0_pay3⟩])))) := rfl

/-- The pieces of the gain's gradient at the first point. -/
theorem runA_10 (hc : cond0_0 i) :
    (kernelRun0_A c i arg1 harg1 arg2 harg2 arg3 harg3 arg4 harg4 arg5 harg5 arg6 harg6 arg7 harg7 arg8 harg8 arg9 harg9 arg10 harg10 arg11 harg11 hc x0 x1 x2 x3 x4 x5).2.2.2.2.1 =
      (let r := fun b => dgUpd (rd arg3 harg3 x2 (rowsR b)) (cDvn (rd arg1 harg1 x0 (rowsR b)) (rd arg2 harg2 x1 (rowsR b)) (fun g => rd arg5 harg5 x4 (wR g)))
       stepC arg11.view gR (r 3) (stepC arg11.view gR (r 2) (stepC arg11.view gR (r 1) (stepC arg11.view gR (r 0) [⟨gR, k0_pay4⟩])))) := rfl

/-- The pieces of the gradient of `su` at the later point. -/
theorem runB_6 (hc : ¬cond0_0 i) :
    (kernelRun0_B c i arg1 harg1 arg2 harg2 arg3 harg3 arg4 harg4 arg5 harg5 arg6 harg6 arg7 harg7 arg8 harg8 arg9 harg9 arg10 harg10 arg11 harg11 hc x0 x1 x2 x3 x4 x5 xo8 xo9 xo10).1 =
      (let r := fun b => dsu (rd arg1 harg1 x0 (rowsR b)) (rd arg2 harg2 x1 (rowsR b)) (cMixed (gn4 (rd arg4 harg4 x3 gR)) (rd arg3 harg3 x2 (rowsR b)) (fun g => rd arg5 harg5 x4 (wR g)) (fun g => rd arg6 harg6 x5 (bR g)))
       [⟨rowsR 3, r 3⟩, ⟨rowsR 2, r 2⟩, ⟨rowsR 1, r 1⟩, ⟨rowsR 0, r 0⟩]) := rfl

/-- The pieces of the gradient of `sv` at the later point. -/
theorem runB_7 (hc : ¬cond0_0 i) :
    (kernelRun0_B c i arg1 harg1 arg2 harg2 arg3 harg3 arg4 harg4 arg5 harg5 arg6 harg6 arg7 harg7 arg8 harg8 arg9 harg9 arg10 harg10 arg11 harg11 hc x0 x1 x2 x3 x4 x5 xo8 xo9 xo10).2.1 =
      (let r := fun b => dsv (rd arg3 harg3 x2 (rowsR b)) (gn4 (rd arg4 harg4 x3 gR)) (cDvn (rd arg1 harg1 x0 (rowsR b)) (rd arg2 harg2 x1 (rowsR b)) (fun g => rd arg5 harg5 x4 (wR g)))
       [⟨rowsR 3, r 3⟩, ⟨rowsR 2, r 2⟩, ⟨rowsR 1, r 1⟩, ⟨rowsR 0, r 0⟩]) := rfl

/-- The pieces of the mixing matrices' gradient at the later point. -/
theorem runB_8 (hc : ¬cond0_0 i) :
    (kernelRun0_B c i arg1 harg1 arg2 harg2 arg3 harg3 arg4 harg4 arg5 harg5 arg6 harg6 arg7 harg7 arg8 harg8 arg9 harg9 arg10 harg10 arg11 harg11 hc x0 x1 x2 x3 x4 x5 xo8 xo9 xo10).2.2.1 =
      (let r := fun b => fun g => dwUpd (64 * g.val) (slG g) (dmixB (rd arg1 harg1 x0 (rowsR b)) (rd arg2 harg2 x1 (rowsR b))) (cVn (gn4 (rd arg4 harg4 x3 gR)) (rd arg3 harg3 x2 (rowsR b)))
       roundC arg9.view wR (r 3) (roundC arg9.view wR (r 2) (roundC arg9.view wR (r 1) (round0 wR (r 0) fun g => rd arg9 harg9 xo8 (wR g))))) := rfl

/-- The pieces of the biases' gradient at the later point. -/
theorem runB_9 (hc : ¬cond0_0 i) :
    (kernelRun0_B c i arg1 harg1 arg2 harg2 arg3 harg3 arg4 harg4 arg5 harg5 arg6 harg6 arg7 harg7 arg8 harg8 arg9 harg9 arg10 harg10 arg11 harg11 hc x0 x1 x2 x3 x4 x5 xo8 xo9 xo10).2.2.2.1 =
      (let r := fun b => fun g => dbUpd (64 * g.val) (slG g) (dmix (rd arg1 harg1 x0 (rowsR b)) (rd arg2 harg2 x1 (rowsR b)))
       roundC arg10.view bR (r 3) (roundC arg10.view bR (r 2) (roundC arg10.view bR (r 1) (round0 bR (r 0) fun g => rd arg10 harg10 xo9 (bR g))))) := rfl

/-- The pieces of the gain's gradient at the later point. -/
theorem runB_10 (hc : ¬cond0_0 i) :
    (kernelRun0_B c i arg1 harg1 arg2 harg2 arg3 harg3 arg4 harg4 arg5 harg5 arg6 harg6 arg7 harg7 arg8 harg8 arg9 harg9 arg10 harg10 arg11 harg11 hc x0 x1 x2 x3 x4 x5 xo8 xo9 xo10).2.2.2.2.1 =
      (let r := fun b => dgUpd (rd arg3 harg3 x2 (rowsR b)) (cDvn (rd arg1 harg1 x0 (rowsR b)) (rd arg2 harg2 x1 (rowsR b)) (fun g => rd arg5 harg5 x4 (wR g)))
       stepC arg11.view gR (r 3) (stepC arg11.view gR (r 2) (stepC arg11.view gR (r 1) [⟨gR, r 0 (rd arg11 harg11 xo10 gR)⟩]))) := rfl

end Cert.KernelIdeal.SguPieces

end
-- ==== Proof.SguIdeal.lean ====
module

public import proofs.«01_k».proof.Proof.SguSpec
public import proofs.«01_k».proof.Proof.SguPieces

@[expose] public section

set_option maxRecDepth 16384

noncomputable section

/-! The chunk's arithmetic over the extended reals, where every argument is a real number. -/

namespace Cert.KernelIdeal.SguIdeal

open Cert.KernelIdeal Cert.KernelIdeal.Gen Cert.KernelIdeal.SguChunk Cert.Consts Idealize.ShloMosaic Idealize.ShloMosaic.TcCoe
  Idealize.SL.Sem

variable (x : FVec Ideal S128x512 .f32) (f : Fin 128 → Fin 512 → ℝ) (hx : ∀ a b, x (ix2 a b) = ((f a b : ℝ) : EReal))
include hx

theorem geluTanh_real (a : Fin 128) (b : Fin 512) : geluTanh x (ix2 a b) = ((Real.tanh (SguSpec.inner (f a b)) : ℝ) : EReal) := by
  pointwise [geluTanh]
  rw [hx, w_cg, k_cubic]
  simp only [← EReal.coe_mul, ← EReal.coe_add]
  rw [Ideal.tanh_coe]; rfl

/-- gelu. -/
theorem gelu_real (a : Fin 128) (b : Fin 512) : gelu x (ix2 a b) = ((SguSpec.gel (f a b) : ℝ) : EReal) := by
  pointwise [gelu]
  rw [hx, w_cg, k_cubic, w_half, ← EReal.coe_one]
  simp only [← EReal.coe_mul, ← EReal.coe_add]
  rw [Ideal.tanh_coe]
  simp only [← EReal.coe_mul, ← EReal.coe_add]; rfl

/-- gelu's derivative. -/
theorem geluGrad_real (a : Fin 128) (b : Fin 512) : geluGrad x (ix2 a b) = ((SguSpec.dgel (f a b) : ℝ) : EReal) := by
  pointwise [geluGrad]
  rw [geluTanh_real x f hx, hx, w_cg, k_cubic3, w_half, ← EReal.coe_one]
  simp only [← EReal.coe_mul, ← EReal.coe_add, ← EReal.coe_sub]; rfl

/-- A row's mean. -/
theorem rowMean_real (a : Fin 128) (b : Fin 1) : rowMean x (ix2 a b) = (((∑ j, f a j) / 512 : ℝ) : EReal) := by
  pointwise [rowMean]
  simp only [hx]
  rw [coe_sum', w_512, div_real _ _ (by norm_num)]

omit hx in
/-- One over a row's root mean square. -/
theorem rms_real (v : Fin 128 → Fin 512 → ℝ) (hx : ∀ a b, x (ix2 a b) = ((SguSpec.gel (v a b) : ℝ) : EReal)) (a : Fin 128) (b : Fin 1) :
    rms x (ix2 a b) = ((SguSpec.rv (v a) : ℝ) : EReal) := by
  pointwise [rms]
  rw [rowMean_real (mulf x x) (fun a b => SguSpec.gel (v a b) * SguSpec.gel (v a b))
    (fun a b => by pointwise; rw [hx, ← EReal.coe_mul]) a b, w_eps, ← EReal.coe_add]
  exact rsqrt_pos (SguSpec.ms_pos (v a))

omit hx in
/-- The normalised rows. -/
theorem vhat_real (v : Fin 128 → Fin 512 → ℝ) (hx : ∀ a b, x (ix2 a b) = ((SguSpec.gel (v a b) : ℝ) : EReal)) (a : Fin 128) (b : Fin 512) :
    vhat x (ix2 a b) = ((SguSpec.vh (v a) b : ℝ) : EReal) := by
  pointwise [vhat]
  rw [hx, rms_real x v hx, ← EReal.coe_mul]; rfl

omit hx

/-- A masked mixing matrix. -/
theorem wTril_real (w : Vec Ideal S1x128x128 .f32) (f : Fin 128 → Fin 128 → ℝ) (hw : ∀ a b, w (ix3 0 a b) = ((f a b : ℝ) : EReal))
    (a : Fin 128) (b : Fin 128) : wTril w (ix2 a b) = (((if b ≤ a then f a b else 0) : ℝ) : EReal) := by
  pointwise [wTril, causal]
  rw [hw]
  have hab : (IntOp.cmpi CmpIPredicate.sge (BitVec.ofNat 32 a.val) (BitVec.ofNat 32 b.val)) = if b ≤ a then 1#1 else 0#1 := by
    have := a.isLt; have := b.isLt
    simp only [IntOp.cmpi, BitVec.sle_eq_decide]
    have e : ∀ n : ℕ, n < 128 → (BitVec.ofNat 32 n).toInt = n := fun n hn => by
      rw [BitVec.toInt_ofNat', Int.bmod_eq_of_le] <;> omega
    rw [e _ a.isLt, e _ b.isLt]
    by_cases h : b ≤ a
    · rw [if_pos h, decide_eq_true (by exact_mod_cast h)]; rfl
    · rw [if_neg h, decide_eq_false (by exact_mod_cast h)]; rfl
  rw [hab]
  by_cases h : b ≤ a <;> simp [h, Scalar.select]

section chunk
variable (dy su sv : Vec Ideal S128x512 .bf16) (gain : FVec Ideal S1x512 .f32) (w : Fin 8 → Vec Ideal S1x128x128 .f32)
  (b : Fin 8 → Vec Ideal S1x128x1 .f32)
variable (fy fu fv : Fin 128 → Fin 512 → ℝ) (fg : Fin 512 → ℝ) (fw : Fin 8 → Fin 128 → Fin 128 → ℝ) (fb : Fin 8 → Fin 128 → ℝ)
variable (hy : ∀ i j, dy (ix2 i j) = ((fy i j : ℝ) : EReal)) (hu : ∀ i j, su (ix2 i j) = ((fu i j : ℝ) : EReal))
  (hv : ∀ i j, sv (ix2 i j) = ((fv i j : ℝ) : EReal)) (hg : ∀ j, gain (ix2 0 j) = ((fg j : ℝ) : EReal))
  (hw : ∀ g i k, w g (ix3 0 i k) = ((fw g i k : ℝ) : EReal)) (hb : ∀ g i, b g (ix3 0 i 0) = ((fb g i : ℝ) : EReal))

/-- The gradient of the mixed rows. -/
theorem dmix_real (hy : ∀ i j, dy (ix2 i j) = ((fy i j : ℝ) : EReal)) (hu : ∀ i j, su (ix2 i j) = ((fu i j : ℝ) : EReal))
    (i : Fin 128) (j : Fin 512) : dmix dy su (ix2 i j) = ((SguSpec.dmix fy fu i j : ℝ) : EReal) := by
  pointwise [dmix]
  rw [hy, gelu_real _ fu (fun a b => by pointwise; exact hu a b), ← EReal.coe_mul]; rfl

theorem dmixB_real (hy : ∀ i j, dy (ix2 i j) = ((fy i j : ℝ) : EReal)) (hu : ∀ i j, su (ix2 i j) = ((fu i j : ℝ) : EReal))
    (i : Fin 128) (j : Fin 512) : dmixB dy su (ix2 i j) = ((SguSpec.dmix fy fu i j : ℝ) : EReal) := by
  rw [← dmix_real dy su fy fu hy hu]; pointwise

theorem vg_real (hv : ∀ i j, sv (ix2 i j) = ((fv i j : ℝ) : EReal)) (i : Fin 128) (j : Fin 512) :
    vg sv (ix2 i j) = ((SguSpec.gel (fv i j) : ℝ) : EReal) :=
  gelu_real _ fv (fun a b => by pointwise; exact hv a b) i j

theorem cVn_real (hv : ∀ i j, sv (ix2 i j) = ((fv i j : ℝ) : EReal)) (hg : ∀ j, gain (ix2 0 j) = ((fg j : ℝ) : EReal))
    (i : Fin 128) (j : Fin 512) : SguPieces.cVn gain sv (ix2 i j) = ((SguSpec.vn fg (fv i) j : ℝ) : EReal) := by
  pointwise [SguPieces.cVn, vn]
  rw [vhat_real _ fv (vg_real sv fv hv), hg, ← EReal.coe_mul]; rfl

theorem mixG_real (o : ℕ) (h : S128x512.Slices ![0, o] S128x64) (g : Fin 8) (ho : o = 64 * g.val) (v : FVec Ideal S128x512 .bf16)
    (f : Fin 128 → Fin 512 → ℝ) (hf : ∀ i j, v (ix2 i j) = ((f i j : ℝ) : EReal))
    (hw : ∀ g i k, w g (ix3 0 i k) = ((fw g i k : ℝ) : EReal)) (hb : ∀ g i, b g (ix3 0 i 0) = ((fb g i : ℝ) : EReal))
    (i : Fin 128) (d : Fin 64) : mixG o h v (w g) (b g) (ix2 i d) =
      (((∑ k, SguSpec.wt fw g i k * f k (SguSpec.col g d)) + fb g i : ℝ) : EReal) := by
  subst ho
  pointwise [mixG]
  rw [hb]
  simp only [hf, wTril_real _ (fw g) (hw g), ← EReal.coe_mul]
  rw [coe_sum', ← EReal.coe_add]; rfl

theorem dvnG_real (o : ℕ) (h : S128x512.Slices ![0, o] S128x64) (g : Fin 8) (ho : o = 64 * g.val) (v : FVec Ideal S128x512 .bf16)
    (f : Fin 128 → Fin 512 → ℝ) (hf : ∀ i j, v (ix2 i j) = ((f i j : ℝ) : EReal))
    (hw : ∀ g i k, w g (ix3 0 i k) = ((fw g i k : ℝ) : EReal))
    (k : Fin 128) (d : Fin 64) : dvnG o h v (w g) (ix2 k d) =
      ((∑ i, SguSpec.wt fw g i k * f i (SguSpec.col g d) : ℝ) : EReal) := by
  subst ho
  pointwise [dvnG]
  simp only [hf, wTril_real _ (fw g) (hw g), ← EReal.coe_mul]
  rw [coe_sum']; rfl

/-- Eight groups side by side, read at a group's column. -/
theorem cat8_col (p : Fin 8 → FVec Ideal S128x64 .f32) (i : Fin 128) (g : Fin 8) (d : Fin 64) :
    cat8 (p 0) (p 1) (p 2) (p 3) (p 4) (p 5) (p 6) (p 7) (ix2 i (SguSpec.col g d)) = p g (ix2 i d) := by
  have hd := d.isLt
  pointwise [cat8, SguSpec.col]
  fin_cases g <;> simp (disch := omega) only [dif_pos, dif_neg] <;>
    exact congrArg (fun e => p _ (ix2 i e)) (Fin.ext (by dsimp only; omega))

theorem col_grp (j : Fin 512) : SguSpec.col (SguSpec.grp j) ⟨j.val % 64, Nat.mod_lt _ (by norm_num)⟩ = j := by
  apply Fin.ext; show 64 * (j.val / 64) + j.val % 64 = j.val; omega

/-- The mixed rows. -/
theorem mixed_real (hv : ∀ i j, sv (ix2 i j) = ((fv i j : ℝ) : EReal)) (hg : ∀ j, gain (ix2 0 j) = ((fg j : ℝ) : EReal))
    (hw : ∀ g i k, w g (ix3 0 i k) = ((fw g i k : ℝ) : EReal)) (hb : ∀ g i, b g (ix3 0 i 0) = ((fb g i : ℝ) : EReal))
    (i : Fin 128) (j : Fin 512) : SguPieces.cMixed gain sv w b (ix2 i j) = ((SguSpec.mixed fv fg fw fb i j : ℝ) : EReal) := by
  have key : ∀ (g : Fin 8) (d : Fin 64), SguPieces.cMixed gain sv w b (ix2 i (SguSpec.col g d)) =
      ((SguSpec.mixed fv fg fw fb i (SguSpec.col g d) : ℝ) : EReal) := fun g d => by
    refine (cat8_col (fun g => mixG (64 * g.val) (SguPieces.slG g) (SguPieces.cVn gain sv) (w g) (b g)) i g d).trans ?_
    rw [mixG_real w b fw fb _ _ g rfl _ _ (cVn_real sv gain fv fg hv hg) hw hb]
    unfold SguSpec.mixed
    rw [SguSpec.grp_col]
  have := key (SguSpec.grp j) ⟨j.val % 64, Nat.mod_lt _ (by norm_num)⟩
  rwa [col_grp] at this

/-- The gradient of the normalised rows. -/
theorem dvn_real (hy : ∀ i j, dy (ix2 i j) = ((fy i j : ℝ) : EReal)) (hu : ∀ i j, su (ix2 i j) = ((fu i j : ℝ) : EReal))
    (hw : ∀ g i k, w g (ix3 0 i k) = ((fw g i k : ℝ) : EReal))
    (i : Fin 128) (j : Fin 512) : SguPieces.cDvn dy su w (ix2 i j) = ((SguSpec.dvn fy fu fw i j : ℝ) : EReal) := by
  have key : ∀ (g : Fin 8) (d : Fin 64), SguPieces.cDvn dy su w (ix2 i (SguSpec.col g d)) =
      ((SguSpec.dvn fy fu fw i (SguSpec.col g d) : ℝ) : EReal) := fun g d => by
    refine (cat8_col (fun g => dvnG (64 * g.val) (SguPieces.slG g) (dmixB dy su) (w g)) i g d).trans ?_
    rw [dvnG_real w fw _ _ g rfl _ _ (dmixB_real dy su fy fu hy hu) hw]
    unfold SguSpec.dvn
    rw [SguSpec.grp_col]
  have := key (SguSpec.grp j) ⟨j.val % 64, Nat.mod_lt _ (by norm_num)⟩
  rwa [col_grp] at this

/-- The gradient of `su`. -/
theorem dsu_real (mx : FVec Ideal S128x512 .f32) (fm : Fin 128 → Fin 512 → ℝ) (hm : ∀ i j, mx (ix2 i j) = ((fm i j : ℝ) : EReal))
    (hy : ∀ i j, dy (ix2 i j) = ((fy i j : ℝ) : EReal)) (hu : ∀ i j, su (ix2 i j) = ((fu i j : ℝ) : EReal))
    (i : Fin 128) (j : Fin 512) : dsu dy su mx (ix2 i j) = ((fy i j * fm i j * SguSpec.dgel (fu i j) : ℝ) : EReal) := by
  pointwise [dsu]
  rw [hy, hm, geluGrad_real _ fu (fun a b => by pointwise; exact hu a b)]
  simp only [← EReal.coe_mul]

/-- The gradient of `sv`. -/
theorem dsv_real (hv : ∀ i j, sv (ix2 i j) = ((fv i j : ℝ) : EReal)) (hg : ∀ j, gain (ix2 0 j) = ((fg j : ℝ) : EReal))
    (hy : ∀ i j, dy (ix2 i j) = ((fy i j : ℝ) : EReal)) (hu : ∀ i j, su (ix2 i j) = ((fu i j : ℝ) : EReal))
    (hw : ∀ g i k, w g (ix3 0 i k) = ((fw g i k : ℝ) : EReal))
    (i : Fin 128) (j : Fin 512) :
    dsv sv gain (SguPieces.cDvn dy su w) (ix2 i j) = ((SguSpec.dsv fy fu fv fg fw i j : ℝ) : EReal) := by
  have hx : ∀ i j, dxh gain (SguPieces.cDvn dy su w) (ix2 i j) = ((SguSpec.dxh fy fu fg fw i j : ℝ) : EReal) := fun i j => by
    pointwise [dxh]
    rw [dvn_real dy su w fy fu fw hy hu hw, hg, ← EReal.coe_mul]; rfl
  have hh := vhat_real _ fv (vg_real sv fv hv)
  unfold dsv
  generalize dxh gain (SguPieces.cDvn dy su w) = X at hx ⊢
  pointwise
  rw [hx, hh, rms_real _ fv (vg_real sv fv hv), geluGrad_real _ fv (fun a b => by pointwise; exact hv a b),
    rowMean_real _ (fun i j => SguSpec.dxh fy fu fg fw i j * SguSpec.vh (fv i) j)
      (fun a b => by pointwise; rw [hx, hh, ← EReal.coe_mul])]
  simp only [← EReal.coe_mul, ← EReal.coe_sub]; rfl

/-- A group's bias gradient, one chunk further. -/
theorem dbUpd_real (g : Fin 8) (acc : Vec Ideal S1x128x1 .f32) (A : Fin 128 → ℝ) (hA : ∀ i, acc (ix3 0 i 0) = ((A i : ℝ) : EReal))
    (hy : ∀ i j, dy (ix2 i j) = ((fy i j : ℝ) : EReal)) (hu : ∀ i j, su (ix2 i j) = ((fu i j : ℝ) : EReal)) (i : Fin 128) :
    dbUpd (64 * g.val) (SguPieces.slG g) (dmix dy su) acc (ix3 0 i 0) = ((A i + SguSpec.db fy fu g i : ℝ) : EReal) := by
  pointwise [dbUpd]
  rw [hA]
  simp only [dmix_real dy su fy fu hy hu]
  rw [coe_sum', ← EReal.coe_add]; rfl

/-- A group's mixing matrix gradient, one chunk further. -/
theorem dwUpd_real (g : Fin 8) (acc : Vec Ideal S1x128x128 .f32) (A : Fin 128 → Fin 128 → ℝ)
    (hA : ∀ i k, acc (ix3 0 i k) = ((A i k : ℝ) : EReal))
    (hv : ∀ i j, sv (ix2 i j) = ((fv i j : ℝ) : EReal)) (hg : ∀ j, gain (ix2 0 j) = ((fg j : ℝ) : EReal))
    (hy : ∀ i j, dy (ix2 i j) = ((fy i j : ℝ) : EReal)) (hu : ∀ i j, su (ix2 i j) = ((fu i j : ℝ) : EReal)) (i k : Fin 128) :
    dwUpd (64 * g.val) (SguPieces.slG g) (dmixB dy su) (SguPieces.cVn gain sv) acc (ix3 0 i k) =
      ((A i k + SguSpec.dw fy fu fv fg g i k : ℝ) : EReal) := by
  have h1 := dmixB_real dy su fy fu hy hu
  have h2 := cVn_real sv gain fv fg hv hg
  generalize dmixB dy su = X at h1 ⊢
  generalize SguPieces.cVn gain sv = Y at h2 ⊢
  pointwise [dwUpd]
  rw [hA]
  simp only [h1, h2, ← EReal.coe_mul]
  rw [coe_sum', ← EReal.coe_add]; rfl

/-- The gain's gradient, one chunk further. -/
theorem dgUpd_real (acc : Vec Ideal S1x512 .f32) (A : Fin 512 → ℝ) (hA : ∀ j, acc (ix2 0 j) = ((A j : ℝ) : EReal))
    (hv : ∀ i j, sv (ix2 i j) = ((fv i j : ℝ) : EReal))
    (hy : ∀ i j, dy (ix2 i j) = ((fy i j : ℝ) : EReal)) (hu : ∀ i j, su (ix2 i j) = ((fu i j : ℝ) : EReal))
    (hw : ∀ g i k, w g (ix3 0 i k) = ((fw g i k : ℝ) : EReal)) (j : Fin 512) :
    dgUpd sv (SguPieces.cDvn dy su w) acc (ix2 0 j) = ((A j + SguSpec.dg fy fu fv fw j : ℝ) : EReal) := by
  have h1 := dvn_real dy su w fy fu fw hy hu hw
  have h2 := vhat_real _ fv (vg_real sv fv hv)
  generalize SguPieces.cDvn dy su w = X at h1 ⊢
  pointwise [dgUpd]
  rw [hA]
  simp only [h1, h2, ← EReal.coe_mul]
  rw [coe_sum', ← EReal.coe_add]; rfl
end chunk

end Cert.KernelIdeal.SguIdeal

end
-- ==== Proof.SguPoint.lean ====
module

public import proofs.«01_k».proof.Proof.SguIdeal

@[expose] public section

set_option maxRecDepth 16384

noncomputable section

/-! What the body leaves in its output blocks at one grid point, where every block it reads holds real numbers. -/

namespace Cert.KernelIdeal.SguPoint

open Cert.KernelIdeal Cert.KernelIdeal.Gen Cert.KernelIdeal.SguChunk Cert.KernelIdeal.SguPieces Cert.Consts Idealize.ShloMosaic
  Idealize.ShloMosaic.TcCoe Idealize.SL.Sem

section pieces
variable {s : Shape} {e : EltTy} {sp : Space} {R : Fin 8 → Rect s}

/-- Loads of the eight rectangles find `acc`. -/
def Holds (v : View sig .tc sp s e) (R : Fin 8 → Rect s) (L : List (View.Piece (Elt Ideal) s e))
    (acc : (g : Fin 8) → (R g).shape.Idx → Elt Ideal e) : Prop :=
  ∀ g, v.readCov L (R g).toLoadRect = acc g

variable (hd : ∀ g h, g ≠ h → Disjoint (R g).set (R h).set)
include hd

omit hd in
/-- What the loads find once the first `n` rectangles are rewritten. -/
def upTo (f : (g : Fin 8) → ((R g).shape.Idx → Elt Ideal e) → ((R g).shape.Idx → Elt Ideal e))
    (acc : (g : Fin 8) → (R g).shape.Idx → Elt Ideal e) (n : ℕ) (g : Fin 8) : (R g).shape.Idx → Elt Ideal e :=
  if g.val < n then f g (acc g) else acc g

/-- The next rectangle rewritten. -/
theorem Holds.next {v : View sig .tc sp s e} {L : List (View.Piece (Elt Ideal) s e)} {acc : (g : Fin 8) → (R g).shape.Idx → Elt Ideal e}
    {f : (g : Fin 8) → ((R g).shape.Idx → Elt Ideal e) → ((R g).shape.Idx → Elt Ideal e)} (k : Fin 8) {n n' : ℕ} (hn : k.val = n)
    (hn' : n' = n + 1) (h : Holds v R L (upTo f acc n)) : Holds v R (stepC v (R k) (f k) L) (upTo f acc n') := fun g => by
  subst hn hn'
  by_cases hg : g = k
  · subst hg
    rw [View.readCov_cons_toLoadRect, h g, upTo, upTo, if_neg (lt_irrefl _), if_pos (Nat.lt_succ_self _)]
  · rw [View.readCov_cons_of_disjoint _ _ _ _ (hd k g (Ne.symm hg)), h g, upTo, upTo]
    have : (g.val < k.val) ↔ (g.val < k.val + 1) := by
      have : g.val ≠ k.val := fun h => hg (Fin.ext h)
      omega
    simp only [this]

/-- Eight more pieces change what every load finds. -/
theorem Holds.round {v : View sig .tc sp s e} {L : List (View.Piece (Elt Ideal) s e)} {acc : (g : Fin 8) → (R g).shape.Idx → Elt Ideal e}
    (h : Holds v R L acc) (f : (g : Fin 8) → ((R g).shape.Idx → Elt Ideal e) → ((R g).shape.Idx → Elt Ideal e)) :
    Holds v R (roundC v R f L) (fun g => f g (acc g)) := by
  have h0 : Holds v R L (upTo f acc 0) := fun g => by rw [upTo, if_neg (Nat.not_lt_zero _)]; exact h g
  have h8 : Holds v R (roundC v R f L) (upTo f acc 8) :=
    .next hd 7 (n := 7) rfl rfl (.next hd 6 (n := 6) rfl rfl (.next hd 5 (n := 5) rfl rfl (.next hd 4 (n := 4) rfl rfl
      (.next hd 3 (n := 3) rfl rfl (.next hd 2 (n := 2) rfl rfl (.next hd 1 (n := 1) rfl rfl (.next hd 0 (n := 0) rfl rfl h0)))))))
  intro g
  rw [h8 g, upTo, if_pos g.isLt]

/-- One more of the first eight pieces. -/
theorem first_next {v : View sig .tc sp s e} {L : List (View.Piece (Elt Ideal) s e)} {d : (g : Fin 8) → (R g).shape.Idx → Elt Ideal e}
    (k : Fin 8) {n n' : ℕ} (hn : k.val = n) (hn' : n' = n + 1) (h : ∀ g : Fin 8, g.val < n → v.readCov L (R g).toLoadRect = d g) :
    ∀ g : Fin 8, g.val < n' → v.readCov (⟨R k, d k⟩ :: L) (R g).toLoadRect = d g := fun g hg' => by
  subst hn hn'
  by_cases hg : g = k
  · subst hg
    rw [View.readCov_cons_toLoadRect]
  · rw [View.readCov_cons_of_disjoint _ _ _ _ (hd k g (Ne.symm hg))]
    exact h g (by have : g.val ≠ k.val := fun h => hg (Fin.ext h)
                  omega)

/-- The first eight pieces. -/
theorem holds_round0 (v : View sig .tc sp s e) (f : (g : Fin 8) → ((R g).shape.Idx → Elt Ideal e) → ((R g).shape.Idx → Elt Ideal e))
    (d : (g : Fin 8) → (R g).shape.Idx → Elt Ideal e) : Holds v R (round0 R f d) (fun g => f g (d g)) := by
  have h0 : ∀ g : Fin 8, g.val < 0 → v.readCov [] (R g).toLoadRect = f g (d g) := fun g hg => absurd hg (Nat.not_lt_zero _)
  have h8 := first_next (v := v) (d := fun g => f g (d g)) hd 7 (n := 7) rfl rfl (first_next hd 6 (n := 6) rfl rfl (first_next hd 5 (n := 5) rfl rfl
    (first_next hd 4 (n := 4) rfl rfl (first_next hd 3 (n := 3) rfl rfl (first_next hd 2 (n := 2) rfl rfl (first_next hd 1 (n := 1) rfl rfl
      (first_next hd 0 (n := 0) rfl rfl h0)))))))
  exact fun g => h8 g g.isLt

omit hd in
theorem Holds.canon {v : View sig .tc sp s e} {L : List (View.Piece (Elt Ideal) s e)} {acc : (g : Fin 8) → (R g).shape.Idx → Elt Ideal e}
    (h : Holds v R L acc) (g : Fin 8) (x : (R g).shape.Idx) : View.canon L ((R g).emb x) = acc g x := by
  have := congrFun (h g) x
  rwa [View.readCov_eq_canon'] at this

end pieces

theorem w_disj : ∀ g h : Fin 8, g ≠ h → Disjoint (wR g).set (wR h).set := by
  intro g h hgh
  refine Rect.disjoint_of_axis _ _ 0 fun j₁ h₁ j₂ h₂ he => hgh (Fin.ext ?_)
  obtain rfl : j₁ = 0 := Nat.lt_one_iff.mp h₁
  obtain rfl : j₂ = 0 := Nat.lt_one_iff.mp h₂
  simpa using he
theorem b_disj : ∀ g h : Fin 8, g ≠ h → Disjoint (bR g).set (bR h).set := by
  intro g h hgh
  refine Rect.disjoint_of_axis _ _ 0 fun j₁ h₁ j₂ h₂ he => hgh (Fin.ext ?_)
  obtain rfl : j₁ = 0 := Nat.lt_one_iff.mp h₁
  obtain rfl : j₂ = 0 := Nat.lt_one_iff.mp h₂
  simpa using he

theorem w_emb (g : Fin 8) (i k : Fin 128) : (wR g).emb (ix3 0 i k) = ix3 g i k := by
  funext a; apply Fin.ext; fin_cases a <;> simp [Rect.emb, Rect.unit, ix3]
theorem b_emb (g : Fin 8) (i : Fin 128) : (bR g).emb (ix3 0 i 0) = ix3 g i 0 := by
  funext a; apply Fin.ext; fin_cases a <;> simp [Rect.emb, Rect.unit, ix3]
theorem g_emb (j : Fin 512) : gR.emb (ix2 0 j) = ix2 0 j := by
  funext a; apply Fin.ext; fin_cases a <;> simp [Rect.emb, Rect.unit, ix2]
/-- Row `i` of chunk `b` of a block. -/
def row (b : Fin 4) (i : Fin 128) : Fin 512 := ⟨128 * b.val + i.val, by omega⟩
theorem r_emb (b : Fin 4) (i : Fin 128) (j : Fin 512) : (rowsR b).emb (ix2 i j) = ix2 (row b i) j := by
  funext a; apply Fin.ext; fin_cases a <;> simp [Rect.emb, Rect.unit, ix2, row]
end Cert.KernelIdeal.SguPoint

end
-- ==== Proof.SguBlock.lean ====
module

public import proofs.«01_k».proof.Proof.SguPoint
public import Idealize.ShloMosaic.Lib.WholeRead

@[expose] public section

set_option maxRecDepth 16384

noncomputable section

/-! The five output blocks after the body at one grid point, as real numbers: the first two block by block of 128 rows,
the others the contents before plus the four chunks' parts. -/

namespace Cert.KernelIdeal.SguPoint

open Cert.KernelIdeal Cert.KernelIdeal.Gen Cert.KernelIdeal.SguChunk Cert.KernelIdeal.SguPieces Cert.KernelIdeal.SguIdeal Cert.Consts
  Idealize.ShloMosaic Idealize.ShloMosaic.TcCoe Idealize.SL.Sem

variable (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S8x128x128 .f32) (harg5 : arg5.IsWhole) (arg6 : Memref sig .tc .vmem S8x128x1 .f32) (harg6 : arg6.IsWhole) (arg7 : Memref sig .tc .vmem S512x512 .bf16) (harg7 : arg7.IsWhole) (arg8 : Memref sig .tc .vmem S512x512 .bf16) (harg8 : arg8.IsWhole) (arg9 : Memref sig .tc .vmem S8x128x128 .f32) (harg9 : arg9.IsWhole) (arg10 : Memref sig .tc .vmem S8x128x1 .f32) (harg10 : arg10.IsWhole) (arg11 : Memref sig .tc .vmem S1x512 .f32) (harg11 : arg11.IsWhole)
variable (x0 x1 x2 : Vec Ideal S512x512 .bf16) (x3 : Vec Ideal S1x512 .f32) (x4 : Vec Ideal S8x128x128 .f32) (x5 : Vec Ideal S8x128x1 .f32) (xo8 : Vec Ideal S8x128x128 .f32) (xo9 : Vec Ideal S8x128x1 .f32) (xo10 : Vec Ideal S1x512 .f32)
variable (cy cu cv : Fin 4 → Fin 128 → Fin 512 → ℝ) (fg : Fin 512 → ℝ) (fw : Fin 8 → Fin 128 → Fin 128 → ℝ) (fb : Fin 8 → Fin 128 → ℝ)

/-- The blocks a point reads hold these real numbers. -/
structure Reals : Prop where
  hy : ∀ b i j, x0 (ix2 (row b i) j) = ((cy b i j : ℝ) : EReal)
  hu : ∀ b i j, x1 (ix2 (row b i) j) = ((cu b i j : ℝ) : EReal)
  hv : ∀ b i j, x2 (ix2 (row b i) j) = ((cv b i j : ℝ) : EReal)
  hg : ∀ j, x3 (ix2 0 j) = ((fg j : ℝ) : EReal)
  hw : ∀ g i k, x4 (ix3 g i k) = ((fw g i k : ℝ) : EReal)
  hb : ∀ g i, x5 (ix3 g i 0) = ((fb g i : ℝ) : EReal)

theorem rd_rows {a : Memref sig .tc .vmem S512x512 .bf16} (h : a.IsWhole) (x : Vec Ideal S512x512 .bf16) (b : Fin 4) (i : Fin 128) (j : Fin 512) :
    rd a h x (rowsR b) (ix2 i j) = x (ix2 (row b i) j) :=
  (h.readAt_unread _ _ _).trans (congrArg x (r_emb b i j))
theorem rd_w {a : Memref sig .tc .vmem S8x128x128 .f32} (h : a.IsWhole) (x : Vec Ideal S8x128x128 .f32) (g : Fin 8) (i k : Fin 128) :
    rd a h x (wR g) (ix3 0 i k) = x (ix3 g i k) :=
  (h.readAt_unread _ _ _).trans (congrArg x (w_emb g i k))
theorem rd_b {a : Memref sig .tc .vmem S8x128x1 .f32} (h : a.IsWhole) (x : Vec Ideal S8x128x1 .f32) (g : Fin 8) (i : Fin 128) :
    rd a h x (bR g) (ix3 0 i 0) = x (ix3 g i 0) :=
  (h.readAt_unread _ _ _).trans (congrArg x (b_emb g i))
theorem rd_g {a : Memref sig .tc .vmem S1x512 .f32} (h : a.IsWhole) (x : Vec Ideal S1x512 .f32) (j : Fin 512) :
    rd a h x gR (ix2 0 j) = x (ix2 0 j) :=
  (h.readAt_unread _ _ _).trans (congrArg x (g_emb j))
theorem gn4_at (x : Vec Ideal S1x512 .f32) (j : Fin 512) : gn4 x (ix2 0 j) = x (ix2 0 j) := by
  pointwise [gn4]

/-- Another chunk does not hold the row. -/
theorem hne (b : Fin 4) (i : Fin 128) (j : Fin 512) : ∀ b' : Fin 4, b' ≠ b → ix2 (row b i) j ∉ (rowsR b').set := fun b' hb' hm => by
    obtain ⟨z, hz, he⟩ := (LoadRect.mem_set _).mp hm 0
    have he' : 128 * b.val + i.val = 128 * b'.val + 1 * z := he
    have hz' : z < 128 := hz
    have := i.isLt
    exact hb' (Fin.ext (by omega))
/-- The newest piece, read at one of its rows. -/
theorem hhit (r : (b : Fin 4) → (rowsR b).shape.Idx → Elt Ideal .bf16) (b : Fin 4) (i : Fin 128) (j : Fin 512) : ∀ L : List (View.Piece (Elt Ideal) S512x512 .bf16), View.canon (⟨rowsR b, r b⟩ :: L) (ix2 (row b i) j) = r b (ix2 i j) := fun L => by
    rw [← r_emb, View.canon_cons_emb]
/-- A piece of other rows is passed over. -/
theorem pass (r : (b : Fin 4) → (rowsR b).shape.Idx → Elt Ideal .bf16) (b b' : Fin 4) (h : b' ≠ b) (i : Fin 128) (j : Fin 512)
    (L : List (View.Piece (Elt Ideal) S512x512 .bf16)) :
    View.canon (⟨rowsR b', r b'⟩ :: L) (ix2 (row b i) j) = View.canon L (ix2 (row b i) j) :=
  View.canon_cons_of_not_mem _ _ (hne b i j b' h)

/-- Four pieces of 128 rows, read at a row. -/
theorem canon_rows (r : (b : Fin 4) → (rowsR b).shape.Idx → Elt Ideal .bf16) (b : Fin 4) (i : Fin 128) (j : Fin 512) :
    View.canon (Val := Elt Ideal) [⟨rowsR 3, r 3⟩, ⟨rowsR 2, r 2⟩, ⟨rowsR 1, r 1⟩, ⟨rowsR 0, r 0⟩] (ix2 (row b i) j) = r b (ix2 i j) := by
  by_cases h3 : 3 = b
  · subst h3; exact hhit r 3 i j _
  refine (pass r b 3 h3 i j _).trans ?_
  by_cases h2 : 2 = b
  · subst h2; exact hhit r 2 i j _
  refine (pass r b 2 h2 i j _).trans ?_
  by_cases h1 : 1 = b
  · subst h1; exact hhit r 1 i j _
  refine (pass r b 1 h1 i j _).trans ?_
  have h0 : 0 = b := by
    have := b.isLt
    have h3' : 3 ≠ b.val := fun h => h3 (Fin.ext h)
    have h2' : 2 ≠ b.val := fun h => h2 (Fin.ext h)
    have h1' : 1 ≠ b.val := fun h => h1 (Fin.ext h)
    exact Fin.ext (by show 0 = b.val; omega)
  subst h0; exact hhit r 0 i j _

/-- A block filled with zeros, read anywhere: the mixing matrices'. -/
theorem zeros_w (v : View sig .tc .vmem S8x128x128 .f32) :
    Holds v wR [⟨Rect.unit ![0, 0, 0] S8x128x128.size inb_S8x128x128_S8x128x128_0_0_0, k0_pay2 (F := Ideal)⟩] (fun _ _ => ((0 : ℝ) : EReal)) := fun g => by
  rw [View.readCov_eq_canon']
  funext y
  have e : ∀ z : S8x128x128.Idx, z = (Rect.unit ![0, 0, 0] S8x128x128.size inb_S8x128x128_S8x128x128_0_0_0).emb z := fun z => by
    funext a; apply Fin.ext; fin_cases a <;> simp [Rect.emb, Rect.unit]
  rw [e (LoadRect.idx _ y), View.canon_cons_emb]
  exact w_zero
/-- The biases'. -/
theorem zeros_b (v : View sig .tc .vmem S8x128x1 .f32) :
    Holds v bR [⟨Rect.unit ![0, 0, 0] S8x128x1.size inb_S8x128x1_S8x128x1_0_0_0, k0_pay3 (F := Ideal)⟩] (fun _ _ => ((0 : ℝ) : EReal)) := fun g => by
  rw [View.readCov_eq_canon']
  funext y
  have e : ∀ z : S8x128x1.Idx, z = (Rect.unit ![0, 0, 0] S8x128x1.size inb_S8x128x1_S8x128x1_0_0_0).emb z := fun z => by
    funext a; apply Fin.ext; fin_cases a <;> simp [Rect.emb, Rect.unit]
  rw [e (LoadRect.idx _ y), View.canon_cons_emb]
  exact w_zero
theorem zeros_g (j : Fin 512) : k0_pay4 (F := Ideal) (ix2 0 j) = ((0 : ℝ) : EReal) := w_zero

variable {x0 x1 x2 x3 x4 x5 cy cu cv fg fw fb} (H : Reals x0 x1 x2 x3 x4 x5 cy cu cv fg fw fb)
include H

theorem dw_step (b : Fin 4) (g : Fin 8) (acc : Vec Ideal S1x128x128 .f32) (A : Fin 128 → Fin 128 → ℝ) (hA : ∀ i k, acc (ix3 0 i k) = ((A i k : ℝ) : EReal)) (p k : Fin 128) :
    dwUpd (64 * g.val) (slG g) (dmixB (rd arg1 harg1 x0 (rowsR b)) (rd arg2 harg2 x1 (rowsR b))) (cVn (gn4 (rd arg4 harg4 x3 gR)) (rd arg3 harg3 x2 (rowsR b))) acc (ix3 0 p k) =
      ((A p k + SguSpec.dw (cy b) (cu b) (cv b) fg g p k : ℝ) : EReal) :=
  dwUpd_real _ _ _ _ (cy b) (cu b) (cv b) fg g acc A hA (fun i j => (rd_rows harg3 x2 b i j).trans (H.hv b i j)) (fun j => (gn4_at _ j).trans ((rd_g harg4 x3 j).trans (H.hg j))) (fun i j => (rd_rows harg1 x0 b i j).trans (H.hy b i j)) (fun i j => (rd_rows harg2 x1 b i j).trans (H.hu b i j)) p k
theorem db_step (b : Fin 4) (g : Fin 8) (acc : Vec Ideal S1x128x1 .f32) (A : Fin 128 → ℝ) (hA : ∀ i, acc (ix3 0 i 0) = ((A i : ℝ) : EReal)) (p : Fin 128) :
    dbUpd (64 * g.val) (slG g) (dmix (rd arg1 harg1 x0 (rowsR b)) (rd arg2 harg2 x1 (rowsR b))) acc (ix3 0 p 0) =
      ((A p + SguSpec.db (cy b) (cu b) g p : ℝ) : EReal) :=
  dbUpd_real _ _ (cy b) (cu b) g acc A hA (fun i j => (rd_rows harg1 x0 b i j).trans (H.hy b i j)) (fun i j => (rd_rows harg2 x1 b i j).trans (H.hu b i j)) p
theorem dg_step (b : Fin 4) (acc : Vec Ideal S1x512 .f32) (A : Fin 512 → ℝ) (hA : ∀ j, acc (ix2 0 j) = ((A j : ℝ) : EReal)) (j : Fin 512) :
    dgUpd (rd arg3 harg3 x2 (rowsR b)) (cDvn (rd arg1 harg1 x0 (rowsR b)) (rd arg2 harg2 x1 (rowsR b)) (fun g => rd arg5 harg5 x4 (wR g))) acc (ix2 0 j) =
      ((A j + SguSpec.dg (cy b) (cu b) (cv b) fw j : ℝ) : EReal) :=
  dgUpd_real _ _ _ _ (cy b) (cu b) (cv b) fw acc A hA (fun i j => (rd_rows harg3 x2 b i j).trans (H.hv b i j)) (fun i j => (rd_rows harg1 x0 b i j).trans (H.hy b i j)) (fun i j => (rd_rows harg2 x1 b i j).trans (H.hu b i j)) (fun g i k => (rd_w harg5 x4 g i k).trans (H.hw g i k)) j

/-- The block of the gradient of `su` at the first point. -/
theorem outA_6 (hc : cond0_0 i) (b : Fin 4) (p : Fin 128) (j : Fin 512) :
    out0_A_6 c i arg1 harg1 arg2 harg2 arg3 harg3 arg4 harg4 arg5 harg5 arg6 harg6 arg7 harg7 arg8 harg8 arg9 harg9 arg10 harg10 arg11 harg11 hc x0 x1 x2 x3 x4 x5 (ix2 (row b p) j) = ((SguSpec.dsu (cy b) (cu b) (cv b) fg fw fb p j : ℝ) : EReal) := by
  unfold out0_A_6
  rw [View.read_writes_junk_eq_canon, runA_6]
  refine (canon_rows (fun b => dsu (rd arg1 harg1 x0 (rowsR b)) (rd arg2 harg2 x1 (rowsR b)) (cMixed (gn4 (rd arg4 harg4 x3 gR)) (rd arg3 harg3 x2 (rowsR b)) (fun g => rd arg5 harg5 x4 (wR g)) (fun g => rd arg6 harg6 x5 (bR g)))) b p j).trans ?_
  exact dsu_real (rd arg1 harg1 x0 (rowsR b)) (rd arg2 harg2 x1 (rowsR b)) (cy b) (cu b) (cMixed (gn4 (rd arg4 harg4 x3 gR)) (rd arg3 harg3 x2 (rowsR b)) (fun g => rd arg5 harg5 x4 (wR g)) (fun g => rd arg6 harg6 x5 (bR g))) (SguSpec.mixed (cv b) fg fw fb) (mixed_real (rd arg3 harg3 x2 (rowsR b)) (gn4 (rd arg4 harg4 x3 gR)) (fun g => rd arg5 harg5 x4 (wR g)) (fun g => rd arg6 harg6 x5 (bR g)) (cv b) fg fw fb (fun i j => (rd_rows harg3 x2 b i j).trans (H.hv b i j)) (fun j => (gn4_at _ j).trans ((rd_g harg4 x3 j).trans (H.hg j))) (fun g i k => (rd_w harg5 x4 g i k).trans (H.hw g i k)) (fun g i => (rd_b harg6 x5 g i).trans (H.hb g i))) (fun i j => (rd_rows harg1 x0 b i j).trans (H.hy b i j)) (fun i j => (rd_rows harg2 x1 b i j).trans (H.hu b i j)) p j

/-- The block of the gradient of `sv` at the first point. -/
theorem outA_7 (hc : cond0_0 i) (b : Fin 4) (p : Fin 128) (j : Fin 512) :
    out0_A_7 c i arg1 harg1 arg2 harg2 arg3 harg3 arg4 harg4 arg5 harg5 arg6 harg6 arg7 harg7 arg8 harg8 arg9 harg9 arg10 harg10 arg11 harg11 hc x0 x1 x2 x3 x4 x5 (ix2 (row b p) j) = ((SguSpec.dsv (cy b) (cu b) (cv b) fg fw p j : ℝ) : EReal) := by
  unfold out0_A_7
  rw [View.read_writes_junk_eq_canon, runA_7]
  refine (canon_rows (fun b => dsv (rd arg3 harg3 x2 (rowsR b)) (gn4 (rd arg4 harg4 x3 gR)) (cDvn (rd arg1 harg1 x0 (rowsR b)) (rd arg2 harg2 x1 (rowsR b)) (fun g => rd arg5 harg5 x4 (wR g)))) b p j).trans ?_
  exact dsv_real (rd arg1 harg1 x0 (rowsR b)) (rd arg2 harg2 x1 (rowsR b)) (rd arg3 harg3 x2 (rowsR b)) (gn4 (rd arg4 harg4 x3 gR)) (fun g => rd arg5 harg5 x4 (wR g)) (cy b) (cu b) (cv b) fg fw (fun i j => (rd_rows harg3 x2 b i j).trans (H.hv b i j)) (fun j => (gn4_at _ j).trans ((rd_g harg4 x3 j).trans (H.hg j))) (fun i j => (rd_rows harg1 x0 b i j).trans (H.hy b i j)) (fun i j => (rd_rows harg2 x1 b i j).trans (H.hu b i j)) (fun g i k => (rd_w harg5 x4 g i k).trans (H.hw g i k)) p j

/-- The block of the mixing matrices' gradient after the first point. -/
theorem outA_8 (hc : cond0_0 i)  (g : Fin 8) (p k : Fin 128) :
    out0_A_8 c i arg1 harg1 arg2 harg2 arg3 harg3 arg4 harg4 arg5 harg5 arg6 harg6 arg7 harg7 arg8 harg8 arg9 harg9 arg10 harg10 arg11 harg11 hc x0 x1 x2 x3 x4 x5 (ix3 g p k) = ((0 + SguSpec.dw (cy 0) (cu 0) (cv 0) fg g p k + SguSpec.dw (cy 1) (cu 1) (cv 1) fg g p k + SguSpec.dw (cy 2) (cu 2) (cv 2) fg g p k + SguSpec.dw (cy 3) (cu 3) (cv 3) fg g p k : ℝ) : EReal) := by
  unfold out0_A_8
  rw [View.read_writes_junk_eq_canon, runA_8]
  rw [← w_emb g p k]
  refine (Holds.canon (((((zeros_w arg9.view).round w_disj _).round w_disj _).round w_disj _).round w_disj _) g _).trans ?_
  exact dw_step arg1 harg1 arg2 harg2 arg3 harg3 arg4 harg4 H 3 g _ _ (dw_step arg1 harg1 arg2 harg2 arg3 harg3 arg4 harg4 H 2 g _ _ (dw_step arg1 harg1 arg2 harg2 arg3 harg3 arg4 harg4 H 1 g _ _ (dw_step arg1 harg1 arg2 harg2 arg3 harg3 arg4 harg4 H 0 g (fun _ => ((0 : ℝ) : EReal)) (fun _ _ => 0) (fun _ _ => rfl)))) p k

/-- The block of the biases' gradient after the first point. -/
theorem outA_9 (hc : cond0_0 i)  (g : Fin 8) (p : Fin 128) :
    out0_A_9 c i arg1 harg1 arg2 harg2 arg3 harg3 arg4 harg4 arg5 harg5 arg6 harg6 arg7 harg7 arg8 harg8 arg9 harg9 arg10 harg10 arg11 harg11 hc x0 x1 x2 x3 x4 x5 (ix3 g p 0) = ((0 + SguSpec.db (cy 0) (cu 0) g p + SguSpec.db (cy 1) (cu 1) g p + SguSpec.db (cy 2) (cu 2) g p + SguSpec.db (cy 3) (cu 3) g p : ℝ) : EReal) := by
  unfold out0_A_9
  rw [View.read_writes_junk_eq_canon, runA_9]
  rw [← b_emb g p]
  refine (Holds.canon (((((zeros_b arg10.view).round b_disj _).round b_disj _).round b_disj _).round b_disj _) g _).trans ?_
  exact db_step arg1 harg1 arg2 harg2 H 3 g _ _ (db_step arg1 harg1 arg2 harg2 H 2 g _ _ (db_step arg1 harg1 arg2 harg2 H 1 g _ _ (db_step arg1 harg1 arg2 harg2 H 0 g (fun _ => ((0 : ℝ) : EReal)) (fun _ => 0) (fun _ => rfl)))) p

/-- The block of the gain's gradient after the first point. -/
theorem outA_10 (hc : cond0_0 i)  (j : Fin 512) :
    out0_A_10 c i arg1 harg1 arg2 harg2 arg3 harg3 arg4 harg4 arg5 harg5 arg6 harg6 arg7 harg7 arg8 harg8 arg9 harg9 arg10 harg10 arg11 harg11 hc x0 x1 x2 x3 x4 x5 (ix2 0 j) = ((0 + SguSpec.dg (cy 0) (cu 0) (cv 0) fw j + SguSpec.dg (cy 1) (cu 1) (cv 1) fw j + SguSpec.dg (cy 2) (cu 2) (cv 2) fw j + SguSpec.dg (cy 3) (cu 3) (cv 3) fw j : ℝ) : EReal) := by
  unfold out0_A_10
  rw [View.read_writes_junk_eq_canon, runA_10]
  simp only [stepC, View.readCov_cons_toLoadRect]
  rw [← g_emb j, View.canon_cons_emb]
  exact dg_step arg1 harg1 arg2 harg2 arg3 harg3 arg5 harg5 H 3 _ _ (dg_step arg1 harg1 arg2 harg2 arg3 harg3 arg5 harg5 H 2 _ _ (dg_step arg1 harg1 arg2 harg2 arg3 harg3 arg5 harg5 H 1 _ _ (dg_step arg1 harg1 arg2 harg2 arg3 harg3 arg5 harg5 H 0 _ _ (fun j => zeros_g j)))) j

/-- The block of the gradient of `su` at a later point. -/
theorem outB_6 (hc : ¬cond0_0 i) (b : Fin 4) (p : Fin 128) (j : Fin 512) :
    out0_B_6 c i arg1 harg1 arg2 harg2 arg3 harg3 arg4 harg4 arg5 harg5 arg6 harg6 arg7 harg7 arg8 harg8 arg9 harg9 arg10 harg10 arg11 harg11 hc x0 x1 x2 x3 x4 x5 xo8 xo9 xo10 (ix2 (row b p) j) = ((SguSpec.dsu (cy b) (cu b) (cv b) fg fw fb p j : ℝ) : EReal) := by
  unfold out0_B_6
  rw [View.read_writes_junk_eq_canon, runB_6]
  refine (canon_rows (fun b => dsu (rd arg1 harg1 x0 (rowsR b)) (rd arg2 harg2 x1 (rowsR b)) (cMixed (gn4 (rd arg4 harg4 x3 gR)) (rd arg3 harg3 x2 (rowsR b)) (fun g => rd arg5 harg5 x4 (wR g)) (fun g => rd arg6 harg6 x5 (bR g)))) b p j).trans ?_
  exact dsu_real (rd arg1 harg1 x0 (rowsR b)) (rd arg2 harg2 x1 (rowsR b)) (cy b) (cu b) (cMixed (gn4 (rd arg4 harg4 x3 gR)) (rd arg3 harg3 x2 (rowsR b)) (fun g => rd arg5 harg5 x4 (wR g)) (fun g => rd arg6 harg6 x5 (bR g))) (SguSpec.mixed (cv b) fg fw fb) (mixed_real (rd arg3 harg3 x2 (rowsR b)) (gn4 (rd arg4 harg4 x3 gR)) (fun g => rd arg5 harg5 x4 (wR g)) (fun g => rd arg6 harg6 x5 (bR g)) (cv b) fg fw fb (fun i j => (rd_rows harg3 x2 b i j).trans (H.hv b i j)) (fun j => (gn4_at _ j).trans ((rd_g harg4 x3 j).trans (H.hg j))) (fun g i k => (rd_w harg5 x4 g i k).trans (H.hw g i k)) (fun g i => (rd_b harg6 x5 g i).trans (H.hb g i))) (fun i j => (rd_rows harg1 x0 b i j).trans (H.hy b i j)) (fun i j => (rd_rows harg2 x1 b i j).trans (H.hu b i j)) p j

/-- The block of the gradient of `sv` at a later point. -/
theorem outB_7 (hc : ¬cond0_0 i) (b : Fin 4) (p : Fin 128) (j : Fin 512) :
    out0_B_7 c i arg1 harg1 arg2 harg2 arg3 harg3 arg4 harg4 arg5 harg5 arg6 harg6 arg7 harg7 arg8 harg8 arg9 harg9 arg10 harg10 arg11 harg11 hc x0 x1 x2 x3 x4 x5 xo8 xo9 xo10 (ix2 (row b p) j) = ((SguSpec.dsv (cy b) (cu b) (cv b) fg fw p j : ℝ) : EReal) := by
  unfold out0_B_7
  rw [View.read_writes_junk_eq_canon, runB_7]
  refine (canon_rows (fun b => dsv (rd arg3 harg3 x2 (rowsR b)) (gn4 (rd arg4 harg4 x3 gR)) (cDvn (rd arg1 harg1 x0 (rowsR b)) (rd arg2 harg2 x1 (rowsR b)) (fun g => rd arg5 harg5 x4 (wR g)))) b p j).trans ?_
  exact dsv_real (rd arg1 harg1 x0 (rowsR b)) (rd arg2 harg2 x1 (rowsR b)) (rd arg3 harg3 x2 (rowsR b)) (gn4 (rd arg4 harg4 x3 gR)) (fun g => rd arg5 harg5 x4 (wR g)) (cy b) (cu b) (cv b) fg fw (fun i j => (rd_rows harg3 x2 b i j).trans (H.hv b i j)) (fun j => (gn4_at _ j).trans ((rd_g harg4 x3 j).trans (H.hg j))) (fun i j => (rd_rows harg1 x0 b i j).trans (H.hy b i j)) (fun i j => (rd_rows harg2 x1 b i j).trans (H.hu b i j)) (fun g i k => (rd_w harg5 x4 g i k).trans (H.hw g i k)) p j

/-- The block of the mixing matrices' gradient after a later point. -/
theorem outB_8 (hc : ¬cond0_0 i) (A : Fin 8 → Fin 128 → Fin 128 → ℝ) (hA : ∀ g i k, xo8 (ix3 g i k) = ((A g i k : ℝ) : EReal)) (g : Fin 8) (p k : Fin 128) :
    out0_B_8 c i arg1 harg1 arg2 harg2 arg3 harg3 arg4 harg4 arg5 harg5 arg6 harg6 arg7 harg7 arg8 harg8 arg9 harg9 arg10 harg10 arg11 harg11 hc x0 x1 x2 x3 x4 x5 xo8 xo9 xo10 (ix3 g p k) = ((A g p k + SguSpec.dw (cy 0) (cu 0) (cv 0) fg g p k + SguSpec.dw (cy 1) (cu 1) (cv 1) fg g p k + SguSpec.dw (cy 2) (cu 2) (cv 2) fg g p k + SguSpec.dw (cy 3) (cu 3) (cv 3) fg g p k : ℝ) : EReal) := by
  unfold out0_B_8
  rw [View.read_writes_junk_eq_canon, runB_8]
  rw [← w_emb g p k]
  refine (Holds.canon ((((holds_round0 w_disj arg9.view _ _).round w_disj _).round w_disj _).round w_disj _) g _).trans ?_
  exact dw_step arg1 harg1 arg2 harg2 arg3 harg3 arg4 harg4 H 3 g _ _ (dw_step arg1 harg1 arg2 harg2 arg3 harg3 arg4 harg4 H 2 g _ _ (dw_step arg1 harg1 arg2 harg2 arg3 harg3 arg4 harg4 H 1 g _ _ (dw_step arg1 harg1 arg2 harg2 arg3 harg3 arg4 harg4 H 0 g _ _ (fun p k => (rd_w harg9 xo8 g p k).trans (hA g p k))))) p k

/-- The block of the biases' gradient after a later point. -/
theorem outB_9 (hc : ¬cond0_0 i) (A : Fin 8 → Fin 128 → ℝ) (hA : ∀ g i, xo9 (ix3 g i 0) = ((A g i : ℝ) : EReal)) (g : Fin 8) (p : Fin 128) :
    out0_B_9 c i arg1 harg1 arg2 harg2 arg3 harg3 arg4 harg4 arg5 harg5 arg6 harg6 arg7 harg7 arg8 harg8 arg9 harg9 arg10 harg10 arg11 harg11 hc x0 x1 x2 x3 x4 x5 xo8 xo9 xo10 (ix3 g p 0) = ((A g p + SguSpec.db (cy 0) (cu 0) g p + SguSpec.db (cy 1) (cu 1) g p + SguSpec.db (cy 2) (cu 2) g p + SguSpec.db (cy 3) (cu 3) g p : ℝ) : EReal) := by
  unfold out0_B_9
  rw [View.read_writes_junk_eq_canon, runB_9]
  rw [← b_emb g p]
  refine (Holds.canon ((((holds_round0 b_disj arg10.view _ _).round b_disj _).round b_disj _).round b_disj _) g _).trans ?_
  exact db_step arg1 harg1 arg2 harg2 H 3 g _ _ (db_step arg1 harg1 arg2 harg2 H 2 g _ _ (db_step arg1 harg1 arg2 harg2 H 1 g _ _ (db_step arg1 harg1 arg2 harg2 H 0 g _ _ (fun p => (rd_b harg10 xo9 g p).trans (hA g p))))) p

/-- The block of the gain's gradient after a later point. -/
theorem outB_10 (hc : ¬cond0_0 i) (A : Fin 512 → ℝ) (hA : ∀ j, xo10 (ix2 0 j) = ((A j : ℝ) : EReal)) (j : Fin 512) :
    out0_B_10 c i arg1 harg1 arg2 harg2 arg3 harg3 arg4 harg4 arg5 harg5 arg6 harg6 arg7 harg7 arg8 harg8 arg9 harg9 arg10 harg10 arg11 harg11 hc x0 x1 x2 x3 x4 x5 xo8 xo9 xo10 (ix2 0 j) = ((A j + SguSpec.dg (cy 0) (cu 0) (cv 0) fw j + SguSpec.dg (cy 1) (cu 1) (cv 1) fw j + SguSpec.dg (cy 2) (cu 2) (cv 2) fw j + SguSpec.dg (cy 3) (cu 3) (cv 3) fw j : ℝ) : EReal) := by
  unfold out0_B_10
  rw [View.read_writes_junk_eq_canon, runB_10]
  simp only [stepC, View.readCov_cons_toLoadRect]
  rw [← g_emb j, View.canon_cons_emb]
  exact dg_step arg1 harg1 arg2 harg2 arg3 harg3 arg5 harg5 H 3 _ _ (dg_step arg1 harg1 arg2 harg2 arg3 harg3 arg5 harg5 H 2 _ _ (dg_step arg1 harg1 arg2 harg2 arg3 harg3 arg5 harg5 H 1 _ _ (dg_step arg1 harg1 arg2 harg2 arg3 harg3 arg5 harg5 H 0 _ _ (fun j => (rd_g harg11 xo10 j).trans (hA j))))) j

end Cert.KernelIdeal.SguPoint

end
-- ==== Proof.SguArr.lean ====
module

public import proofs.«01_k».proof.Proof.SguBlock
public import Idealize.ShloMosaic.Lib.Pipeline.ValueKit
public import Idealize.ShloMosaic.Lib.Claim

@[expose] public section

set_option maxRecDepth 16384

noncomputable section

/-! The five result arrays after the run, where every argument holds real numbers. -/

namespace Cert.KernelIdeal.SguArr

open Cert.KernelIdeal Cert.KernelIdeal.Gen Cert.KernelIdeal.SguPoint Cert.Consts Idealize.ShloMosaic Idealize.ShloMosaic.TcCoe
  Idealize.SL.Sem

variable (m : (ℓ : Loc nD τ sig) → Buf (Elt Ideal) ℓ) (c : Dev nD)
variable (fy fu fv : Fin 4096 → Fin 512 → ℝ) (fg : Fin 512 → ℝ) (fw : Fin 8 → Fin 128 → Fin 128 → ℝ) (fb : Fin 8 → Fin 128 → ℝ)

/-- The arguments hold these real numbers. -/
structure Args : Prop where
  hy : ∀ r j, m ((c : Thread nD τ).loc main_arg0) (ix2 r j) = ((fy r j : ℝ) : EReal)
  hu : ∀ r j, m ((c : Thread nD τ).loc main_arg1) (ix2 r j) = ((fu r j : ℝ) : EReal)
  hv : ∀ r j, m ((c : Thread nD τ).loc main_arg2) (ix2 r j) = ((fv r j : ℝ) : EReal)
  hg : ∀ j, m ((c : Thread nD τ).loc main_arg3) (ix1 j) = ((fg j : ℝ) : EReal)
  hw : ∀ g i k, m ((c : Thread nD τ).loc main_arg4) (ix3 g i k) = ((fw g i k : ℝ) : EReal)
  hb : ∀ g i, m ((c : Thread nD τ).loc main_arg5) (ix2 g i) = ((fb g i : ℝ) : EReal)

/-- Row `i` of chunk `q` of all rows. -/
def grow (q : Fin 32) (i : Fin 128) : Fin 4096 := ⟨128 * q.val + i.val, by omega⟩
/-- The chunk's number of chunk `b` of block `t`. -/
def chunk (t : Fin 8) (b : Fin 4) : Fin 32 := ⟨4 * t.val + b.val, by omega⟩
/-- A grid point's number. -/
def pt (t : Fin cfg0.N) : Fin 8 := ⟨t.val, lt_of_lt_of_eq t.isLt N_0⟩

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

theorem blk0 (t : Fin cfg0.N) (b : Fin 4) (i : Fin 128) (j : Fin 512) :
    (show Vec Ideal S512x512 .bf16 from iblk m c 0 t) (ix2 (row b i) j) = m ((c : Thread nD τ).loc main_arg0) (ix2 (grow (chunk (pt t) b) i) j) := by
  blk_ext [iblk, V, idx0 t, row, grow, chunk, pt]
theorem blk1 (t : Fin cfg0.N) (b : Fin 4) (i : Fin 128) (j : Fin 512) :
    (show Vec Ideal S512x512 .bf16 from iblk m c 1 t) (ix2 (row b i) j) = m ((c : Thread nD τ).loc main_arg1) (ix2 (grow (chunk (pt t) b) i) j) := by
  blk_ext [iblk, V, idx1 t, row, grow, chunk, pt]
theorem blk2 (t : Fin cfg0.N) (b : Fin 4) (i : Fin 128) (j : Fin 512) :
    (show Vec Ideal S512x512 .bf16 from iblk m c 2 t) (ix2 (row b i) j) = m ((c : Thread nD τ).loc main_arg2) (ix2 (grow (chunk (pt t) b) i) j) := by
  blk_ext [iblk, V, idx2 t, row, grow, chunk, pt]
theorem blk3 (t : Fin cfg0.N) (j : Fin 512) :
    (show Vec Ideal S1x512 .f32 from iblk m c 3 t) (ix2 0 j) = m ((c : Thread nD τ).loc main_arg3) (ix1 j) := by
  blk_simp [iblk]
  entry_read
  pointwise
  blk_ext [idx3 t]
theorem blk4 (t : Fin cfg0.N) (g : Fin 8) (i k : Fin 128) :
    (show Vec Ideal S8x128x128 .f32 from iblk m c 4 t) (ix3 g i k) = m ((c : Thread nD τ).loc main_arg4) (ix3 g i k) := by
  blk_ext [iblk, V, idx4 t]
theorem blk5 (t : Fin cfg0.N) (g : Fin 8) (i : Fin 128) :
    (show Vec Ideal S8x128x1 .f32 from iblk m c 5 t) (ix3 g i 0) = m ((c : Thread nD τ).loc main_arg5) (ix2 g i) := by
  blk_simp [iblk]
  entry_read
  pointwise
  blk_ext [idx5 t]

/-! The five outputs of the body at a point, one by one. -/

theorem oA_6 (t : Fin cfg0.N) (h : t.val % 8 = 0) : (outsAt0 m c t.val t.isLt).1 =
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h) (iblk m c 0 t) (iblk m c 1 t) (iblk m c 2 t) (iblk m c 3 t) (iblk m c 4 t) (iblk m c 5 t) := by
  rw [outsAt0_A m c t h]
theorem oA_7 (t : Fin cfg0.N) (h : t.val % 8 = 0) : (outsAt0 m c t.val t.isLt).2.1 =
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h) (iblk m c 0 t) (iblk m c 1 t) (iblk m c 2 t) (iblk m c 3 t) (iblk m c 4 t) (iblk m c 5 t) := by
  rw [outsAt0_A m c t h]
theorem oA_8 (t : Fin cfg0.N) (h : t.val % 8 = 0) : (outsAt0 m c t.val t.isLt).2.2.1 =
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h) (iblk m c 0 t) (iblk m c 1 t) (iblk m c 2 t) (iblk m c 3 t) (iblk m c 4 t) (iblk m c 5 t) := by
  rw [outsAt0_A m c t h]
theorem oA_9 (t : Fin cfg0.N) (h : t.val % 8 = 0) : (outsAt0 m c t.val t.isLt).2.2.2.1 =
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h) (iblk m c 0 t) (iblk m c 1 t) (iblk m c 2 t) (iblk m c 3 t) (iblk m c 4 t) (iblk m c 5 t) := by
  rw [outsAt0_A m c t h]
theorem oA_10 (t : Fin cfg0.N) (h : t.val % 8 = 0) : (outsAt0 m c t.val t.isLt).2.2.2.2 =
    out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h) (iblk m c 0 t) (iblk m c 1 t) (iblk m c 2 t) (iblk m c 3 t) (iblk m c 4 t) (iblk m c 5 t) := by
  rw [outsAt0_A m c t h]
theorem oB_6 (t : Fin cfg0.N) (h : ¬t.val % 8 = 0) : (outsAt0 m c t.val t.isLt).1 =
    out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h0 => h ((hcond0_0 t).mp h0)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 := by
  rw [outsAt0_B m c t h]
theorem oB_7 (t : Fin cfg0.N) (h : ¬t.val % 8 = 0) : (outsAt0 m c t.val t.isLt).2.1 =
    out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h0 => h ((hcond0_0 t).mp h0)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 := by
  rw [outsAt0_B m c t h]
theorem oB_8 (t : Fin cfg0.N) (h : ¬t.val % 8 = 0) : (outsAt0 m c t.val t.isLt).2.2.1 =
    out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h0 => h ((hcond0_0 t).mp h0)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 := by
  rw [outsAt0_B m c t h]
theorem oB_9 (t : Fin cfg0.N) (h : ¬t.val % 8 = 0) : (outsAt0 m c t.val t.isLt).2.2.2.1 =
    out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h0 => h ((hcond0_0 t).mp h0)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 := by
  rw [outsAt0_B m c t h]
theorem oB_10 (t : Fin cfg0.N) (h : ¬t.val % 8 = 0) : (outsAt0 m c t.val t.isLt).2.2.2.2 =
    out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h0 => h ((hcond0_0 t).mp h0)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 := by
  rw [outsAt0_B m c t h]

/-- A chunk's rows. -/
def rows (f : Fin 4096 → Fin 512 → ℝ) (q : Fin 32) (i : Fin 128) (j : Fin 512) : ℝ := f (grow q i) j
/-- The chunk of a row, and its number in the chunk. -/
def qOf (r : Fin 4096) : Fin 32 := ⟨r.val / 128, by omega⟩
def iOf (r : Fin 4096) : Fin 128 := ⟨r.val % 128, by omega⟩
theorem qOf_grow (q : Fin 32) (i : Fin 128) : qOf (grow q i) = q := by
  apply Fin.ext; show (128 * q.val + i.val) / 128 = q.val; omega
theorem iOf_grow (q : Fin 32) (i : Fin 128) : iOf (grow q i) = i := by
  apply Fin.ext; show (128 * q.val + i.val) % 128 = i.val; omega
theorem grow_of (r : Fin 4096) : grow (qOf r) (iOf r) = r := by
  apply Fin.ext; show 128 * (r.val / 128) + r.val % 128 = r.val; omega

/-- The gradient of `su` at a row and column. -/
def Gsu (r : Fin 4096) (j : Fin 512) : ℝ :=
  SguSpec.dsu (rows fy (qOf r)) (rows fu (qOf r)) (rows fv (qOf r)) fg fw fb (iOf r) j
/-- The gradient of `sv` at a row and column. -/
def Gsv (r : Fin 4096) (j : Fin 512) : ℝ :=
  SguSpec.dsv (rows fy (qOf r)) (rows fu (qOf r)) (rows fv (qOf r)) fg fw (iOf r) j
/-- The mixing matrices' gradient. -/
def Gw (g : Fin 8) (i k : Fin 128) : ℝ := ∑ q, SguSpec.dw (rows fy q) (rows fu q) (rows fv q) fg g i k
/-- The biases' gradient. -/
def Gb (g : Fin 8) (i : Fin 128) : ℝ := ∑ q, SguSpec.db (rows fy q) (rows fu q) g i
/-- The gain's gradient. -/
def Gg (j : Fin 512) : ℝ := ∑ q, SguSpec.dg (rows fy q) (rows fu q) (rows fv q) fw j

/-- The sum of the first `n + 1` points' four chunks each. -/
def part (D : Fin 32 → ℝ) (n : ℕ) : ℝ := ∑ q ∈ Finset.range (4 * (n + 1)), if h : q < 32 then D ⟨q, h⟩ else 0
theorem part_zero (D : Fin 32 → ℝ) : part D 0 = 0 + D (chunk 0 0) + D (chunk 0 1) + D (chunk 0 2) + D (chunk 0 3) := by
  unfold part
  simp only [Finset.sum_range_succ, Finset.sum_range_zero, Nat.mul_zero, Nat.zero_add, Nat.mul_one]
  rfl
theorem part_succ (D : Fin 32 → ℝ) (n : ℕ) (h : n + 1 < 8) :
    part D (n + 1) = part D n + D (chunk ⟨n + 1, h⟩ 0) + D (chunk ⟨n + 1, h⟩ 1) + D (chunk ⟨n + 1, h⟩ 2) + D (chunk ⟨n + 1, h⟩ 3) := by
  unfold part
  rw [show 4 * (n + 1 + 1) = 4 * (n + 1) + 1 + 1 + 1 + 1 by ring, Finset.sum_range_succ, Finset.sum_range_succ, Finset.sum_range_succ,
    Finset.sum_range_succ, dif_pos (show 4 * (n + 1) < 32 by omega), dif_pos (show 4 * (n + 1) + 1 < 32 by omega),
    dif_pos (show 4 * (n + 1) + 1 + 1 < 32 by omega), dif_pos (show 4 * (n + 1) + 1 + 1 + 1 < 32 by omega)]
  rfl
theorem part_last (D : Fin 32 → ℝ) : part D 7 = ∑ q, D q := by
  unfold part
  rw [show 4 * (7 + 1) = 32 from rfl, Finset.sum_range]
  exact Finset.sum_congr rfl fun q _ => dif_pos q.isLt

variable {m c fy fu fv fg fw fb} (H : Args m c fy fu fv fg fw fb)
include H

/-- The blocks of point `t`. -/
theorem reals (t : Fin cfg0.N) : Reals (iblk m c 0 t) (iblk m c 1 t) (iblk m c 2 t) (iblk m c 3 t) (iblk m c 4 t) (iblk m c 5 t)
    (fun b => rows fy (chunk (pt t) b)) (fun b => rows fu (chunk (pt t) b)) (fun b => rows fv (chunk (pt t) b)) fg fw fb where
  hy b i j := (blk0 m c t b i j).trans (H.hy _ _)
  hu b i j := (blk1 m c t b i j).trans (H.hu _ _)
  hv b i j := (blk2 m c t b i j).trans (H.hv _ _)
  hg j := (blk3 m c t j).trans (H.hg _)
  hw g i k := (blk4 m c t g i k).trans (H.hw _ _ _)
  hb g i := (blk5 m c t g i).trans (H.hb _ _)

/-- The first two blocks at any point. -/
theorem at6 (t : Fin cfg0.N) (b : Fin 4) (p : Fin 128) (j : Fin 512) :
    (outsAt0 m c t.val t.isLt).1 (ix2 (row b p) j) = ((Gsu fy fu fv fg fw fb (grow (chunk (pt t) b) p) j : ℝ) : EReal) := by
  rw [Gsu, qOf_grow, iOf_grow]
  by_cases h : t.val % 8 = 0
  · exact (congrFun (oA_6 m c t h) _).trans
      (outA_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (reals H t) ((hcond0_0 t).mpr h) b p j)
  · exact (congrFun (oB_6 m c t h) _).trans
      (outB_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (reals H t) (fun h0 => h ((hcond0_0 t).mp h0)) b p j)
theorem at7 (t : Fin cfg0.N) (b : Fin 4) (p : Fin 128) (j : Fin 512) :
    (outsAt0 m c t.val t.isLt).2.1 (ix2 (row b p) j) = ((Gsv fy fu fv fg fw (grow (chunk (pt t) b) p) j : ℝ) : EReal) := by
  rw [Gsv, qOf_grow, iOf_grow]
  by_cases h : t.val % 8 = 0
  · exact (congrFun (oA_7 m c t h) _).trans
      (outA_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (reals H t) ((hcond0_0 t).mpr h) b p j)
  · exact (congrFun (oB_7 m c t h) _).trans
      (outB_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (reals H t) (fun h0 => h ((hcond0_0 t).mp h0)) b p j)

/-- Output 2 of the body after point `n`. -/
theorem at8 : ∀ (n : ℕ) (h : n < cfg0.N) (g : Fin 8) (p k : Fin 128),
    (outsAt0 m c n h).2.2.1 (ix3 g p k) = ((part (fun q => SguSpec.dw (rows fy q) (rows fu q) (rows fv q) fg g p k) n : ℝ) : EReal)
  | 0, h, g, p, k => by
    rw [part_zero]
    exact (congrFun (oA_8 m c ⟨0, h⟩ rfl) _).trans
      (outA_8 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) (ms0_10 ⟨0, h⟩) (hs0_10 ⟨0, h⟩) (reals H ⟨0, h⟩) ((hcond0_0 ⟨0, h⟩).mpr rfl) g p k)
  | n + 1, h, g, p, k => by
    have hN : n + 1 < 8 := lt_of_lt_of_eq h N_0
    have hn : ¬(n + 1) % 8 = 0 := by omega
    have ih := at8 n
    rw [part_succ _ n hN]
    exact (congrFun (oB_8 m c ⟨n + 1, h⟩ hn) _).trans
      (outB_8 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (outsAt0 m c n (Nat.lt_of_succ_lt h)).2.2.1 (outsAt0 m c n (Nat.lt_of_succ_lt h)).2.2.2.1 (outsAt0 m c n (Nat.lt_of_succ_lt h)).2.2.2.2 (reals H ⟨n + 1, h⟩) (fun h0 => hn ((hcond0_0 ⟨n + 1, h⟩).mp h0)) (fun g p k => part (fun q => SguSpec.dw (rows fy q) (rows fu q) (rows fv q) fg g p k) n) (fun g p k => ih _ g p k) g p k)
/-- Output 3 of the body after point `n`. -/
theorem at9 : ∀ (n : ℕ) (h : n < cfg0.N) (g : Fin 8) (p : Fin 128),
    (outsAt0 m c n h).2.2.2.1 (ix3 g p 0) = ((part (fun q => SguSpec.db (rows fy q) (rows fu q) g p) n : ℝ) : EReal)
  | 0, h, g, p => by
    rw [part_zero]
    exact (congrFun (oA_9 m c ⟨0, h⟩ rfl) _).trans
      (outA_9 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) (ms0_10 ⟨0, h⟩) (hs0_10 ⟨0, h⟩) (reals H ⟨0, h⟩) ((hcond0_0 ⟨0, h⟩).mpr rfl) g p)
  | n + 1, h, g, p => by
    have hN : n + 1 < 8 := lt_of_lt_of_eq h N_0
    have hn : ¬(n + 1) % 8 = 0 := by omega
    have ih := at9 n
    rw [part_succ _ n hN]
    exact (congrFun (oB_9 m c ⟨n + 1, h⟩ hn) _).trans
      (outB_9 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (outsAt0 m c n (Nat.lt_of_succ_lt h)).2.2.1 (outsAt0 m c n (Nat.lt_of_succ_lt h)).2.2.2.1 (outsAt0 m c n (Nat.lt_of_succ_lt h)).2.2.2.2 (reals H ⟨n + 1, h⟩) (fun h0 => hn ((hcond0_0 ⟨n + 1, h⟩).mp h0)) (fun g p => part (fun q => SguSpec.db (rows fy q) (rows fu q) g p) n) (fun g p => ih _ g p) g p)
/-- Output 4 of the body after point `n`. -/
theorem at10 : ∀ (n : ℕ) (h : n < cfg0.N) (j : Fin 512),
    (outsAt0 m c n h).2.2.2.2 (ix2 0 j) = ((part (fun q => SguSpec.dg (rows fy q) (rows fu q) (rows fv q) fw j) n : ℝ) : EReal)
  | 0, h, j => by
    rw [part_zero]
    exact (congrFun (oA_10 m c ⟨0, h⟩ rfl) _).trans
      (outA_10 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) (ms0_10 ⟨0, h⟩) (hs0_10 ⟨0, h⟩) (reals H ⟨0, h⟩) ((hcond0_0 ⟨0, h⟩).mpr rfl) j)
  | n + 1, h, j => by
    have hN : n + 1 < 8 := lt_of_lt_of_eq h N_0
    have hn : ¬(n + 1) % 8 = 0 := by omega
    have ih := at10 n
    rw [part_succ _ n hN]
    exact (congrFun (oB_10 m c ⟨n + 1, h⟩ hn) _).trans
      (outB_10 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (outsAt0 m c n (Nat.lt_of_succ_lt h)).2.2.1 (outsAt0 m c n (Nat.lt_of_succ_lt h)).2.2.2.1 (outsAt0 m c n (Nat.lt_of_succ_lt h)).2.2.2.2 (reals H ⟨n + 1, h⟩) (fun h0 => hn ((hcond0_0 ⟨n + 1, h⟩).mp h0)) (fun j => part (fun q => SguSpec.dg (rows fy q) (rows fu q) (rows fv q) fw j) n) (fun j => ih _ j) j)

/-- Result 2 after the run. -/
theorem arr8 : (dats m 0 c).arrAt 8 cfg0.N = fun x : S8x128x128.Idx => (((Gw fy fu fv fg (x 0) (x 1) (x 2) : ℝ)) : EReal) := by
  have key : ∀ x : S8x128x128.Idx, (outsAt0 m c 7 (by rw [show cfg0.N = 8 from N_0]; decide)).2.2.1 x = (((Gw fy fu fv fg (x 0) (x 1) (x 2) : ℝ)) : EReal) := fun x => by
    rw [eq_ix3 x]
    generalize x 0 = a, x 1 = b, x 2 = e
    rw [at8 H 7 _ a b e, part_last]; rfl
  refine (dats m 0 c).arrAt_eq_of_after_last 8 t0_7 (by decide +kernel) _ fun y => ?_
  blk_simp
  rw [after0_8]
  exact key _

/-- Result 3 after the run. -/
theorem arr9 : (dats m 0 c).arrAt 9 cfg0.N = fun x : S8x128x1.Idx => (((Gb fy fu (x 0) (x 1) : ℝ)) : EReal) := by
  have key : ∀ x : S8x128x1.Idx, (outsAt0 m c 7 (by rw [show cfg0.N = 8 from N_0]; decide)).2.2.2.1 x = (((Gb fy fu (x 0) (x 1) : ℝ)) : EReal) := fun x => by
    rw [eq_ix3 x]
    generalize x 0 = a, x 1 = b, x 2 = e
    obtain rfl : e = (0 : Fin 1) := Subsingleton.elim (α := Fin 1) _ _
    rw [at9 H 7 _ a b, part_last]; rfl
  refine (dats m 0 c).arrAt_eq_of_after_last 9 t0_7 (by decide +kernel) _ fun y => ?_
  blk_simp
  rw [after0_9]
  exact key _

/-- Result 4 after the run. -/
theorem arr10 : (dats m 0 c).arrAt 10 cfg0.N = fun x : S1x512.Idx => (((Gg fy fu fv fw (x 1) : ℝ)) : EReal) := by
  have key : ∀ x : S1x512.Idx, (outsAt0 m c 7 (by rw [show cfg0.N = 8 from N_0]; decide)).2.2.2.2 x = (((Gg fy fu fv fw (x 1) : ℝ)) : EReal) := fun x => by
    rw [eq_ix2 x]
    generalize x 0 = a, x 1 = b
    obtain rfl : a = (0 : Fin 1) := Subsingleton.elim (α := Fin 1) _ _
    rw [at10 H 7 _ b, part_last]; rfl
  refine (dats m 0 c).arrAt_eq_of_after_last 10 t0_7 (by decide +kernel) _ fun y => ?_
  blk_simp
  rw [after0_10]
  exact key _

/-- Result 0 after the run. -/
theorem arr6 : (dats m 0 c).arrAt 6 cfg0.N = fun x : S4096x512.Idx => (((Gsu fy fu fv fg fw fb (x 0) (x 1) : ℝ)) : EReal) := by
  have key : ∀ (t : Fin cfg0.N) (y : S512x512.Idx) (x : S4096x512.Idx), (x 0).val = 512 * t.val + (y 0).val → (x 1).val = (y 1).val →
      (outsAt0 m c t.val t.isLt).1 y = (((Gsu fy fu fv fg fw fb (x 0) (x 1) : ℝ)) : EReal) := fun t y x h0 h1 => by
    rw [eq_ix2 y]
    generalize y 0 = r, y 1 = j at h0 h1 ⊢
    have hr : r.val < 512 := r.isLt
    have h0' : (x 0).val = 512 * t.val + r.val := h0
    have er : r = row ⟨r.val / 128, by omega⟩ ⟨r.val % 128, by omega⟩ := by
      apply Fin.ext; show r.val = 128 * (r.val / 128) + r.val % 128; omega
    have ex : x 0 = grow (chunk (pt t) ⟨r.val / 128, by omega⟩) ⟨r.val % 128, by omega⟩ := by
      apply Fin.ext
      show (x 0).val = 128 * (4 * t.val + r.val / 128) + r.val % 128
      omega
    have ej : x 1 = j := Fin.ext h1
    rw [ex, ej]
    refine Eq.trans (congrArg (fun r => (outsAt0 m c t.val t.isLt).1 (ix2 r j)) er) ?_
    exact at6 H t _ _ j
  refine (dats m 0 c).arrAt_eq_of_covers 6 _ (by decide +kernel) fun t _ y => ?_
  blk_simp [idx6 t]
  rw [after0_6]
  refine key t _ _ ?_ ?_ <;> blk_simp [idx6 t] <;> try omega

/-- Result 1 after the run. -/
theorem arr7 : (dats m 0 c).arrAt 7 cfg0.N = fun x : S4096x512.Idx => (((Gsv fy fu fv fg fw (x 0) (x 1) : ℝ)) : EReal) := by
  have key : ∀ (t : Fin cfg0.N) (y : S512x512.Idx) (x : S4096x512.Idx), (x 0).val = 512 * t.val + (y 0).val → (x 1).val = (y 1).val →
      (outsAt0 m c t.val t.isLt).2.1 y = (((Gsv fy fu fv fg fw (x 0) (x 1) : ℝ)) : EReal) := fun t y x h0 h1 => by
    rw [eq_ix2 y]
    generalize y 0 = r, y 1 = j at h0 h1 ⊢
    have hr : r.val < 512 := r.isLt
    have h0' : (x 0).val = 512 * t.val + r.val := h0
    have er : r = row ⟨r.val / 128, by omega⟩ ⟨r.val % 128, by omega⟩ := by
      apply Fin.ext; show r.val = 128 * (r.val / 128) + r.val % 128; omega
    have ex : x 0 = grow (chunk (pt t) ⟨r.val / 128, by omega⟩) ⟨r.val % 128, by omega⟩ := by
      apply Fin.ext
      show (x 0).val = 128 * (4 * t.val + r.val / 128) + r.val % 128
      omega
    have ej : x 1 = j := Fin.ext h1
    rw [ex, ej]
    refine Eq.trans (congrArg (fun r => (outsAt0 m c t.val t.isLt).2.1 (ix2 r j)) er) ?_
    exact at7 H t _ _ j
  refine (dats m 0 c).arrAt_eq_of_covers 7 _ (by decide +kernel) fun t _ y => ?_
  blk_simp [idx7 t]
  rw [after0_7]
  refine key t _ _ ?_ ?_ <;> blk_simp [idx7 t] <;> try omega

end Cert.KernelIdeal.SguArr

end
-- ==== Proof.SguRefSum.lean ====
module

public import proofs.«01_k».proof.Proof.SguRef
public import proofs.«01_k».proof.Proof.SguArr
public import Idealize.ShloMosaic.Lib.IdealHost

@[expose] public section

set_option maxRecDepth 16384

noncomputable section

/-! The reference's five results at real arguments: the sums over chunks, and every result as the function of the arguments
that the kernel's result arrays are. -/

namespace Cert.ReferenceIdeal.SguRefSum

open Cert.ReferenceIdeal Cert.ReferenceIdeal.Gen Cert.ReferenceIdeal.Read Cert.ReferenceIdeal.SguRef Cert.Consts Idealize.ShloMosaic
  Idealize.ShloMosaic.TcCoe Idealize.SL.Sem

/-- A sum over several axes: the sum over the operand's indices that keep the result's coordinates, listed without repetition. -/
theorem reduce_sum {s t : Shape} {axes : List (Fin s.rank)} (h : s.ReducesTo axes t) (x : s.Idx → EReal) (init : EReal) (j : t.Idx)
    {κ : Type} [Fintype κ] (e : κ → s.Idx) (hinj : Function.Injective e) (h1 : ∀ k, h.drop (e k) = j)
    (h2 : ∀ i, h.drop i = j → ∃ k, e k = i) : Ideal.hostReduceAdd h x init j = init + ∑ k, x (e k) := by
  classical
  unfold Ideal.hostReduceAdd
  congr 1
  rw [← Finset.sum_image (f := x) (g := e) (s := Finset.univ) (fun a _ b _ hab => hinj hab)]
  refine Finset.sum_congr (Finset.ext fun i => ?_) fun _ _ => rfl
  simp only [Finset.mem_filter, Finset.mem_univ, true_and, Finset.mem_image]
  exact ⟨h2 i, fun ⟨k, hk⟩ => hk ▸ h1 k⟩

/-- The number of chunk `c` of half `B`. -/
def qc (B : Fin 2) (c : Fin 16) : Fin 32 := ⟨B.val * 16 + c.val, by omega⟩
theorem rows_qc (f : Fin 4096 → Fin 512 → ℝ) (B : Fin 2) (c : Fin 16) : Cert.KernelIdeal.SguArr.rows f (qc B c) = part f B c := by
  funext i j
  unfold Cert.KernelIdeal.SguArr.rows part
  congr 1
  refine Fin.ext ?_
  simp only [Cert.KernelIdeal.SguArr.grow, rw2, tc, qc]; omega
/-- A sum over all chunks, half by half. -/
theorem sum_chunks (f : Fin 32 → ℝ) : ∑ q, f q = ∑ B : Fin 2, ∑ c : Fin 16, f (qc B c) := Fin.sum_univ_tiles 2 16 rfl f

section units
variable (x0 x1 x2 : (⟨S4096x512, .bf16⟩ : BufTy).Contents (Elt Ideal)) (x3 : (⟨S512, .f32⟩ : BufTy).Contents (Elt Ideal))
  (x4 : (⟨S8x128x128, .f32⟩ : BufTy).Contents (Elt Ideal)) (x5 : (⟨S8x128, .f32⟩ : BufTy).Contents (Elt Ideal))
  (fy fu fv : Fin 4096 → Fin 512 → ℝ) (fg : Fin 512 → ℝ) (fw : Fin 8 → Fin 128 → Fin 128 → ℝ) (fb : Fin 8 → Fin 128 → ℝ)
variable (H : Args x0 x1 x2 x3 x4 x5 fy fu fv fg fw fb)
include H

/-- The biases' gradient before its unit axes go. -/
theorem r85 (i : Fin 128) (g : Fin 8) : val_main_v85 (F := Ideal) x0 x1 (ix2 i g)
    = ((∑ B, ∑ c, SguSpec.db (part fy B c) (part fu B c) g i : ℝ) : EReal) := by
  unfold val_main_v85
  rw [ValueIdx.hostReduceAdd_apply, reduce_sum reducesTo_S2x16x128x8x64_S128x8_d0_1_4 _ _ (ix2 i g)
    (fun p : Fin 2 × Fin 16 × Fin 64 => ix5 p.1 p.2.1 i g p.2.2)]
  · simp only [r84 x0 x1 x2 x3 x4 x5 fy fu fv fg fw fb H]
    rw [coe_sum', show (val_main_cst_20 (F := Ideal)) (Shape.Idx.first h_S_) = ((0 : ℝ) : EReal) from w_zero, ← EReal.coe_add, zero_add]
    congr 1
    rw [Fintype.sum_prod_type]
    refine Finset.sum_congr rfl fun B _ => ?_
    rw [Fintype.sum_prod_type]
    rfl
  · rintro ⟨a, b, c⟩ ⟨a', b', c'⟩ h
    have h0 : a = a' := congrFun h 0
    have h1 : b = b' := congrFun h 1
    have h2 : c = c' := congrFun h 4
    rw [h0, h1, h2]
  · intro k
    funext b
    match b with
    | ⟨0, _⟩ => rfl
    | ⟨1, _⟩ => rfl
  · intro x hx
    have h0 : x 2 = i := congrFun hx 0
    have h1 : x 3 = g := congrFun hx 1
    subst h0 h1
    exact ⟨(x 0, x 1, x 4), (eq_ix5 x).symm⟩

/-- The biases' gradient. -/
theorem r148 (g : Fin 8) (i : Fin 128) : val_main_v148 (F := Ideal) x0 x1 (ix3 g i 0)
    = ((Cert.KernelIdeal.SguArr.Gb fy fu g i : ℝ) : EReal) := by
  have h87 : val_main_v87 (F := Ideal) x0 x1 (ix2 i g) = val_main_v85 (F := Ideal) x0 x1 (ix2 i g) := by
    unfold val_main_v87
    rw [ValueIdx.hostReduceAdd_apply, reduce_sum reducesTo_S1x1x128x8x1_S128x8_d0_1_4 _ _ (ix2 i g) (fun _ : Fin 1 => ix5 0 0 i g 0)]
    · rw [show (val_main_cst_21 (F := Ideal)) (Shape.Idx.first h_S_) = ((0 : ℝ) : EReal) from w_zero, EReal.coe_zero, zero_add,
        Fin.sum_univ_one]
      pointwise [val_main_v86]
    · intro a b _; exact Subsingleton.elim a b
    · intro k
      funext b
      match b with
      | ⟨0, _⟩ => rfl
      | ⟨1, _⟩ => rfl
    · intro x hx
      have h0 : x 2 = i := congrFun hx 0
      have h1 : x 3 = g := congrFun hx 1
      refine ⟨0, ?_⟩
      rw [eq_ix5 x, ← h0, ← h1, Subsingleton.elim (α := Fin 1) (x 0) 0, Subsingleton.elim (α := Fin 1) (x 1) 0,
        Subsingleton.elim (α := Fin 1) (x 4) 0]
  have h148 : val_main_v148 (F := Ideal) x0 x1 (ix3 g i 0) = val_main_v87 (F := Ideal) x0 x1 (ix2 i g) := by
    pointwise [val_main_v148, val_main_v90, val_main_v89, val_main_v88, val_main_cst_22]
    rw [Fin.sum_univ_one]
  rw [h148, h87, r85 x0 x1 x2 x3 x4 x5 fy fu fv fg fw fb H]
  unfold Cert.KernelIdeal.SguArr.Gb
  rw [sum_chunks]
  simp only [rows_qc]

/-- The gain's gradient. -/
theorem r97 (j : Fin 512) : val_main_v97 (F := Ideal) x0 x1 x2 x4 (ix1 j)
    = ((Cert.KernelIdeal.SguArr.Gg fy fu fv fw j : ℝ) : EReal) := by
  unfold val_main_v97
  rw [ValueIdx.hostReduceAdd_apply, reduce_sum reducesTo_S2x2048x512_S512_d0_1 _ _ (ix1 j) (fun p : Fin 2 × Fin 2048 => ix3 p.1 p.2 j)]
  · have e : ∀ p : Fin 2 × Fin 2048, val_main_v96 (F := Ideal) x0 x1 x2 x4 (ix3 p.1 p.2 j)
        = ((SguSpec.dvn (part fy p.1 (cOf p.2)) (part fu p.1 (cOf p.2)) fw (iOf p.2) j * SguSpec.vh (fv (rw2 p.1 p.2)) j : ℝ) : EReal) := by
      intro p
      pointwise [val_main_v96]
      rw [r66 x2 fv H.hv, r95 x0 x1 x2 x3 x4 x5 fy fu fv fg fw fb H, ← EReal.coe_mul, mul_comm]
    simp only [e]
    rw [coe_sum', show (val_main_cst_23 (F := Ideal)) (Shape.Idx.first h_S_) = ((0 : ℝ) : EReal) from w_zero, ← EReal.coe_add, zero_add]
    congr 1
    unfold Cert.KernelIdeal.SguArr.Gg
    rw [sum_chunks, Fintype.sum_prod_type]
    refine Finset.sum_congr rfl fun B _ => ?_
    rw [Fin.sum_univ_tiles 16 128 rfl]
    refine Finset.sum_congr rfl fun c _ => ?_
    unfold SguSpec.dg
    refine Finset.sum_congr rfl fun i _ => ?_
    have hc : cOf (⟨c.val * 128 + i.val, by omega⟩ : Fin 2048) = c := Fin.ext (by simp only [cOf]; omega)
    have hi : iOf (⟨c.val * 128 + i.val, by omega⟩ : Fin 2048) = i := Fin.ext (by simp only [iOf]; omega)
    have ht : (⟨c.val * 128 + i.val, by omega⟩ : Fin 2048) = tc c i := Fin.ext (by simp only [tc]; omega)
    simp only [rows_qc]
    refine congrArg₂ (· * ·) ?_ ?_
    · exact (congrArg₂ (fun c' i' => SguSpec.dvn (part fy B c') (part fu B c') fw i' j) hc hi)
    · exact congrArg (fun t => SguSpec.vh (fv (rw2 B t)) j) ht
  · rintro ⟨a, b⟩ ⟨a', b'⟩ h
    have h0 : a = a' := congrFun h 0
    have h1 : b = b' := congrFun h 1
    rw [h0, h1]
  · intro k
    funext b
    match b with
    | ⟨0, _⟩ => rfl
  · intro x hx
    have h0 : x 2 = j := congrFun hx 0
    subst h0
    exact ⟨(x 0, x 1), (eq_ix3 x).symm⟩
theorem r149 (j : Fin 512) : val_main_v149 (F := Ideal) x0 x1 x2 x4 (ix2 0 j)
    = ((Cert.KernelIdeal.SguArr.Gg fy fu fv fw j : ℝ) : EReal) := by
  rw [← r97 x0 x1 x2 x3 x4 x5 fy fu fv fg fw fb H]
  have h101 : val_main_v101 (F := Ideal) x0 x1 x2 x4 (ix1 j) = val_main_v97 (F := Ideal) x0 x1 x2 x4 (ix1 j) := by
    unfold val_main_v101
    rw [ValueIdx.hostReduceAdd_apply, reduce_sum reducesTo_S1x1x512_S512_d0_1 _ _ (ix1 j) (fun _ : Fin 1 => ix3 0 0 j)]
    · rw [show (val_main_cst_24 (F := Ideal)) (Shape.Idx.first h_S_) = ((0 : ℝ) : EReal) from w_zero, EReal.coe_zero, zero_add,
        Fin.sum_univ_one]
      pointwise [val_main_v98]
    · intro a b _; exact Subsingleton.elim a b
    · intro k
      funext b
      match b with
      | ⟨0, _⟩ => rfl
    · intro x hx
      have h0 : x 2 = j := congrFun hx 0
      refine ⟨0, ?_⟩
      rw [eq_ix3 x, ← h0, Subsingleton.elim (α := Fin 1) (x 0) 0, Subsingleton.elim (α := Fin 1) (x 1) 0]
  rw [← h101]
  pointwise [val_main_v149]

/-- The contraction's index over half, chunk and column of a group. -/
def cidx (p : Fin 2 × Fin 16 × Fin 64) : dot_S8x2x16x64x128_S2x16x128x8x64_S8x128x128_123_014_4_2_0_3.contr.Idx := fun a => match a with
  | ⟨0, _⟩ => p.1
  | ⟨1, _⟩ => p.2.1
  | ⟨2, _⟩ => p.2.2
omit H in
theorem cidx_bij : Function.Bijective cidx := by
  constructor
  · rintro ⟨a, b, c⟩ ⟨a', b', c'⟩ h
    have h0 : a = a' := congrFun h ⟨0, by decide⟩
    have h1 : b = b' := congrFun h ⟨1, by decide⟩
    have h2 : c = c' := congrFun h ⟨2, by decide⟩
    rw [h0, h1, h2]
  · intro k
    refine ⟨(k ⟨0, by decide⟩, k ⟨1, by decide⟩, k ⟨2, by decide⟩), ?_⟩
    funext a
    match a with
    | ⟨0, _⟩ => rfl
    | ⟨1, _⟩ => rfl
    | ⟨2, _⟩ => rfl
/-- The mixing matrices' gradient. -/
theorem r92 (g : Fin 8) (i k : Fin 128) : val_main_v92 (F := Ideal) x0 x1 x2 x3 (ix3 g i k)
    = ((Cert.KernelIdeal.SguArr.Gw fy fu fv fg g i k : ℝ) : EReal) := by
  unfold val_main_v92
  simp only [Host.dotGeneral]
  rw [Ideal.dotGeneral_apply, ← cidx_bij.sum_comp]
  have e : ∀ p : Fin 2 × Fin 16 × Fin 64,
      val_main_v91 (F := Ideal) x0 x1 (dot_S8x2x16x64x128_S2x16x128x8x64_S8x128x128_123_014_4_2_0_3.lhsIdx (ix3 g i k) (cidx p))
        * val_main_v70 (F := Ideal) x2 x3 (dot_S8x2x16x64x128_S2x16x128x8x64_S8x128x128_123_014_4_2_0_3.rhsIdx (ix3 g i k) (cidx p))
      = ((SguSpec.dmix (part fy p.1 p.2.1) (part fu p.1 p.2.1) i (SguSpec.col g p.2.2)
          * SguSpec.vn fg (part fv p.1 p.2.1 k) (SguSpec.col g p.2.2) : ℝ) : EReal) := by
    intro p
    have el : dot_S8x2x16x64x128_S2x16x128x8x64_S8x128x128_123_014_4_2_0_3.lhsIdx (ix3 g i k) (cidx p) = ix5 g p.1 p.2.1 p.2.2 i := by
      funext a
      match a with
      | ⟨0, _⟩ => rfl
      | ⟨1, _⟩ => rfl
      | ⟨2, _⟩ => rfl
      | ⟨3, _⟩ => rfl
      | ⟨4, _⟩ => rfl
    have er : dot_S8x2x16x64x128_S2x16x128x8x64_S8x128x128_123_014_4_2_0_3.rhsIdx (ix3 g i k) (cidx p) = ix5 p.1 p.2.1 k g p.2.2 := by
      funext a
      match a with
      | ⟨0, _⟩ => rfl
      | ⟨1, _⟩ => rfl
      | ⟨2, _⟩ => rfl
      | ⟨3, _⟩ => rfl
      | ⟨4, _⟩ => rfl
    rw [el, er, r91 x0 x1 x2 x3 x4 x5 fy fu fv fg fw fb H, r70 x0 x1 x2 x3 x4 x5 fy fu fv fg fw fb H, ← EReal.coe_mul]
  refine (Finset.sum_congr rfl fun p _ => e p).trans ?_
  rw [coe_sum']
  congr 1
  unfold Cert.KernelIdeal.SguArr.Gw
  rw [sum_chunks, Fintype.sum_prod_type]
  refine Finset.sum_congr rfl fun B _ => ?_
  rw [Fintype.sum_prod_type]
  refine Finset.sum_congr rfl fun c _ => ?_
  simp only [rows_qc]
  rfl

/-- A row of a half is a row of a chunk. -/
theorem row_parts (r : Fin 4096) : ∃ (B : Fin 2) (t : Fin 2048), rw2 B t = r ∧ qc B (cOf t) = Cert.KernelIdeal.SguArr.qOf r
    ∧ iOf t = Cert.KernelIdeal.SguArr.iOf r ∧ B.val = r.val / 2048 ∧ t.val = r.val % 2048 := by
  refine ⟨⟨r.val / 2048, by omega⟩, ⟨r.val % 2048, by omega⟩, Fin.ext ?_, Fin.ext ?_, Fin.ext ?_, rfl, rfl⟩
  · simp only [rw2]; omega
  · simp only [qc, cOf, Cert.KernelIdeal.SguArr.qOf]; omega
  · simp only [iOf, Cert.KernelIdeal.SguArr.iOf]; omega
/-- The first result. -/
theorem r145 (r : Fin 4096) (j : Fin 512) : val_main_v145 (F := Ideal) x0 x1 x2 x3 x4 x5 (ix2 r j)
    = ((Cert.KernelIdeal.SguArr.Gsu fy fu fv fg fw fb r j : ℝ) : EReal) := by
  obtain ⟨B, t, h1, h2, h3, h4, h5⟩ := row_parts x0 x1 x2 x3 x4 x5 fy fu fv fg fw fb H r
  have e : val_main_v145 (F := Ideal) x0 x1 x2 x3 x4 x5 (ix2 r j) = val_main_v143 (F := Ideal) x0 x1 x2 x3 x4 x5 (ix3 B t j) := by
    pointwise [val_main_v145, val_main_v144]
    congr 1
    exact (ix3_inj ..).2 ⟨Fin.ext h4.symm, Fin.ext h5.symm, rfl⟩
  rw [e, r143 x0 x1 x2 x3 x4 x5 fy fu fv fg fw fb H]
  unfold Cert.KernelIdeal.SguArr.Gsu
  rw [← h2, ← h3, rows_qc, rows_qc, rows_qc]
/-- The second result. -/
theorem r147 (r : Fin 4096) (j : Fin 512) : val_main_v147 (F := Ideal) x0 x1 x2 x3 x4 (ix2 r j)
    = ((Cert.KernelIdeal.SguArr.Gsv fy fu fv fg fw r j : ℝ) : EReal) := by
  obtain ⟨B, t, h1, h2, h3, h4, h5⟩ := row_parts x0 x1 x2 x3 x4 x5 fy fu fv fg fw fb H r
  have e : val_main_v147 (F := Ideal) x0 x1 x2 x3 x4 (ix2 r j) = val_main_v129 (F := Ideal) x0 x1 x2 x3 x4 (ix3 B t j) := by
    pointwise [val_main_v147, val_main_v146]
    congr 1
    exact (ix3_inj ..).2 ⟨Fin.ext h4.symm, Fin.ext h5.symm, rfl⟩
  rw [e, r129 x0 x1 x2 x3 x4 x5 fy fu fv fg fw fb H]
  unfold Cert.KernelIdeal.SguArr.Gsv
  rw [← h2, ← h3, rows_qc, rows_qc, rows_qc]

end units

end Cert.ReferenceIdeal.SguRefSum

end
-- ==== Proof.Finite.lean ====
module

public import proofs.«01_k».proof.Defs
public import proofs.«01_k».proof.Proof.Consts
public import Idealize.ShloMosaic.Lib.Pointwise

@[expose] public section

set_option maxRecDepth 16384

noncomputable section

/-! What the precondition says: every entry of every argument is a real number. -/

namespace Cert.Finite

open Idealize.ShloMosaic Idealize.ShloMosaic.TcCoe Idealize.SL.Sem

/-- The shape relations of the precondition's function. -/
instance facts : Cert.Pre_finite.Facts where
  bitsLt_bf16_f32 := by decide
  bcast_S_S4096x512 := by decide
  bcast_S_S512 := by decide
  bcast_S_S8x128x128 := by decide
  bcast_S_S8x128 := by decide

/-- The word of infinity. -/
theorem w_inf : Ideal.ofBits .f32 0x7F800000#32 = (⊤ : EReal) := by
  simp [Ideal.ofBits, Ideal.ieee]
/-- A value whose magnitude is below infinity is a real number. -/
theorem real_of (x : EReal) (h : (FloatOps.cmpf (F := Ideal) (φ := .f32) .olt (max x (-x)) (Ideal.ofBits .f32 0x7F800000#32)) = 1#1) :
    x = ((x.toReal : ℝ) : EReal) := by
  rw [w_inf] at h
  have h' : max x (-x) < ⊤ := by
    by_contra hn
    simp only [Ideal.cmpf_def, Ideal.cmp] at h
    simp [hn] at h
  refine (EReal.coe_toReal ?_ ?_).symm
  · rintro rfl; simp at h'
  · rintro rfl; simp at h'

/-- The kernel's arguments are real at every index. -/
structure Real (m : (ℓ : Loc Cert.KernelIdeal.nD Cert.KernelIdeal.τ Cert.KernelIdeal.sig) → Buf (Elt Ideal) ℓ) (c : Dev Cert.KernelIdeal.nD) :
    Prop where
  h0 : ∀ i : Cert.KernelIdeal.S4096x512.Idx, (show EReal from m ((c : Thread Cert.KernelIdeal.nD Cert.KernelIdeal.τ).loc Cert.KernelIdeal.main_arg0) i)
    = ((EReal.toReal (m ((c : Thread Cert.KernelIdeal.nD Cert.KernelIdeal.τ).loc Cert.KernelIdeal.main_arg0) i) : ℝ) : EReal)
  h1 : ∀ i : Cert.KernelIdeal.S4096x512.Idx, (show EReal from m ((c : Thread Cert.KernelIdeal.nD Cert.KernelIdeal.τ).loc Cert.KernelIdeal.main_arg1) i)
    = ((EReal.toReal (m ((c : Thread Cert.KernelIdeal.nD Cert.KernelIdeal.τ).loc Cert.KernelIdeal.main_arg1) i) : ℝ) : EReal)
  h2 : ∀ i : Cert.KernelIdeal.S4096x512.Idx, (show EReal from m ((c : Thread Cert.KernelIdeal.nD Cert.KernelIdeal.τ).loc Cert.KernelIdeal.main_arg2) i)
    = ((EReal.toReal (m ((c : Thread Cert.KernelIdeal.nD Cert.KernelIdeal.τ).loc Cert.KernelIdeal.main_arg2) i) : ℝ) : EReal)
  h3 : ∀ i : Cert.KernelIdeal.S512.Idx, (show EReal from m ((c : Thread Cert.KernelIdeal.nD Cert.KernelIdeal.τ).loc Cert.KernelIdeal.main_arg3) i)
    = ((EReal.toReal (m ((c : Thread Cert.KernelIdeal.nD Cert.KernelIdeal.τ).loc Cert.KernelIdeal.main_arg3) i) : ℝ) : EReal)
  h4 : ∀ i : Cert.KernelIdeal.S8x128x128.Idx, (show EReal from m ((c : Thread Cert.KernelIdeal.nD Cert.KernelIdeal.τ).loc Cert.KernelIdeal.main_arg4) i)
    = ((EReal.toReal (m ((c : Thread Cert.KernelIdeal.nD Cert.KernelIdeal.τ).loc Cert.KernelIdeal.main_arg4) i) : ℝ) : EReal)
  h5 : ∀ i : Cert.KernelIdeal.S8x128.Idx, (show EReal from m ((c : Thread Cert.KernelIdeal.nD Cert.KernelIdeal.τ).loc Cert.KernelIdeal.main_arg5) i)
    = ((EReal.toReal (m ((c : Thread Cert.KernelIdeal.nD Cert.KernelIdeal.τ).loc Cert.KernelIdeal.main_arg5) i) : ℝ) : EReal)
theorem real (m : (ℓ : Loc Cert.KernelIdeal.nD Cert.KernelIdeal.τ Cert.KernelIdeal.sig) → Buf (Elt Ideal) ℓ)
    (h : Cert.Pre_KernelIdeal_finite m) (c : Dev Cert.KernelIdeal.nD) : Real m c := by
  obtain ⟨h0, h1, h2, h3, h4, h5⟩ := h c
  exact ⟨fun i => real_of _ (congrFun h0 i), fun i => real_of _ (congrFun h1 i), fun i => real_of _ (congrFun h2 i),
    fun i => real_of _ (congrFun h3 i), fun i => real_of _ (congrFun h4 i), fun i => real_of _ (congrFun h5 i)⟩

end Cert.Finite

end
-- ==== Proof.SguFinal.lean ====
module

public import proofs.«01_k».proof.Proof.SguRefSum
public import proofs.«01_k».proof.Proof.Finite

@[expose] public section

set_option maxRecDepth 16384

noncomputable section

/-! The value claim of the spatial gating unit's gradient: from real arguments, kernel and reference end with the same five
results. -/

namespace Cert.SguFinal

open Idealize.ShloMosaic Idealize.ShloMosaic.TcCoe Idealize.SL.Sem

/-- The kernel's arguments as the real numbers they are. -/
theorem kernel_args (m : (ℓ : Loc Cert.KernelIdeal.nD Cert.KernelIdeal.τ Cert.KernelIdeal.sig) → Buf (Elt Ideal) ℓ)
    (c : Dev Cert.KernelIdeal.nD) (R : Cert.Finite.Real m c) :
    Cert.KernelIdeal.SguArr.Args m c
      (fun r j => EReal.toReal (m ((c : Thread Cert.KernelIdeal.nD Cert.KernelIdeal.τ).loc Cert.KernelIdeal.main_arg0) (ix2 r j)))
      (fun r j => EReal.toReal (m ((c : Thread Cert.KernelIdeal.nD Cert.KernelIdeal.τ).loc Cert.KernelIdeal.main_arg1) (ix2 r j)))
      (fun r j => EReal.toReal (m ((c : Thread Cert.KernelIdeal.nD Cert.KernelIdeal.τ).loc Cert.KernelIdeal.main_arg2) (ix2 r j)))
      (fun j => EReal.toReal (m ((c : Thread Cert.KernelIdeal.nD Cert.KernelIdeal.τ).loc Cert.KernelIdeal.main_arg3) (ix1 j)))
      (fun g i k => EReal.toReal (m ((c : Thread Cert.KernelIdeal.nD Cert.KernelIdeal.τ).loc Cert.KernelIdeal.main_arg4) (ix3 g i k)))
      (fun g i => EReal.toReal (m ((c : Thread Cert.KernelIdeal.nD Cert.KernelIdeal.τ).loc Cert.KernelIdeal.main_arg5) (ix2 g i))) :=
  ⟨fun r j => R.h0 (ix2 r j), fun r j => R.h1 (ix2 r j), fun r j => R.h2 (ix2 r j), fun j => R.h3 (ix1 j),
    fun g i k => R.h4 (ix3 g i k), fun g i => R.h5 (ix2 g i)⟩

section
variable (x0 x1 x2 : (⟨Cert.ReferenceIdeal.S4096x512, .bf16⟩ : BufTy).Contents (Elt Ideal))
  (x3 : (⟨Cert.ReferenceIdeal.S512, .f32⟩ : BufTy).Contents (Elt Ideal))
  (x4 : (⟨Cert.ReferenceIdeal.S8x128x128, .f32⟩ : BufTy).Contents (Elt Ideal))
  (x5 : (⟨Cert.ReferenceIdeal.S8x128, .f32⟩ : BufTy).Contents (Elt Ideal))
  (fy fu fv : Fin 4096 → Fin 512 → ℝ) (fg : Fin 512 → ℝ) (fw : Fin 8 → Fin 128 → Fin 128 → ℝ) (fb : Fin 8 → Fin 128 → ℝ)
  (H : Cert.ReferenceIdeal.SguRef.Args x0 x1 x2 x3 x4 x5 fy fu fv fg fw fb)
include H
open Cert.ReferenceIdeal Cert.ReferenceIdeal.Read Cert.ReferenceIdeal.SguRefSum

theorem ref0 : val_main_v145 (F := Ideal) x0 x1 x2 x3 x4 x5
    = fun x : S4096x512.Idx => ((Cert.KernelIdeal.SguArr.Gsu fy fu fv fg fw fb (x 0) (x 1) : ℝ) : EReal) := by
  funext x; rw [eq_ix2 x]; exact r145 x0 x1 x2 x3 x4 x5 fy fu fv fg fw fb H _ _
theorem ref1 : val_main_v147 (F := Ideal) x0 x1 x2 x3 x4
    = fun x : S4096x512.Idx => ((Cert.KernelIdeal.SguArr.Gsv fy fu fv fg fw (x 0) (x 1) : ℝ) : EReal) := by
  funext x; rw [eq_ix2 x]; exact r147 x0 x1 x2 x3 x4 x5 fy fu fv fg fw fb H _ _
theorem ref2 : val_main_v92 (F := Ideal) x0 x1 x2 x3
    = fun x : S8x128x128.Idx => ((Cert.KernelIdeal.SguArr.Gw fy fu fv fg (x 0) (x 1) (x 2) : ℝ) : EReal) := by
  funext x; rw [eq_ix3 x]; exact r92 x0 x1 x2 x3 x4 x5 fy fu fv fg fw fb H _ _ _
theorem ref3 : val_main_v148 (F := Ideal) x0 x1
    = fun x : S8x128x1.Idx => ((Cert.KernelIdeal.SguArr.Gb fy fu (x 0) (x 1) : ℝ) : EReal) := by
  funext x; rw [eq_ix3 x, Subsingleton.elim (α := Fin 1) (x 2) 0]; exact r148 x0 x1 x2 x3 x4 x5 fy fu fv fg fw fb H _ _
theorem ref4 : val_main_v149 (F := Ideal) x0 x1 x2 x4
    = fun x : S1x512.Idx => ((Cert.KernelIdeal.SguArr.Gg fy fu fv fw (x 1) : ℝ) : EReal) := by
  funext x; rw [eq_ix2 x, Subsingleton.elim (α := Fin 1) (x 0) 0]; exact r149 x0 x1 x2 x3 x4 x5 fy fu fv fg fw fb H _
end

/-- The value claim. -/
theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hpre hag
  have R := Cert.Finite.real m hpre
  have K := fun c => kernel_args m c (R c)
  refine ⟨fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N,
    Cert.KernelIdeal.Value.run_blocks m g, ?_⟩
  refine (θ_run _ _ _).mono (fun r h c => ?_) (Cert.ReferenceIdeal.Value.run m' g')
  obtain ⟨a0, a1, a2, a3, a4, a5⟩ := hag c
  have HR : Cert.ReferenceIdeal.SguRef.Args
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) _ _ _ _ _ _ :=
    ⟨fun r j => (congrFun a0 (ix2 r j)).trans ((K c).hy r j), fun r j => (congrFun a1 (ix2 r j)).trans ((K c).hu r j),
      fun r j => (congrFun a2 (ix2 r j)).trans ((K c).hv r j), fun j => (congrFun a3 (ix1 j)).trans ((K c).hg j),
      fun g i k => (congrFun a4 (ix3 g i k)).trans ((K c).hw g i k), fun g i => (congrFun a5 (ix2 g i)).trans ((K c).hb g i)⟩
  obtain ⟨h0, h1, h2, h3, h4, hargs⟩ := h c
  refine ⟨h0.trans ((Cert.ReferenceIdeal.Read.val_main_v145_eq _).trans ?_), h1.trans ((Cert.ReferenceIdeal.Read.val_main_v147_eq _).trans ?_),
    h2.trans ((Cert.ReferenceIdeal.Read.val_main_v92_eq _).trans ?_), h3.trans ((Cert.ReferenceIdeal.Read.val_main_v148_eq _).trans ?_),
    h4.trans ((Cert.ReferenceIdeal.Read.val_main_v149_eq _).trans ?_), hargs⟩
  · exact (ref0 _ _ _ _ _ _ _ _ _ _ _ _ HR).trans (Cert.KernelIdeal.SguArr.arr6 (K c)).symm
  · exact (ref1 _ _ _ _ _ _ _ _ _ _ _ _ HR).trans (Cert.KernelIdeal.SguArr.arr7 (K c)).symm
  · exact (ref2 _ _ _ _ _ _ _ _ _ _ _ _ HR).trans (Cert.KernelIdeal.SguArr.arr8 (K c)).symm
  · exact (ref3 _ _ _ _ _ _ _ _ _ _ _ _ HR).trans (Cert.KernelIdeal.SguArr.arr9 (K c)).symm
  · exact (ref4 _ _ _ _ _ _ _ _ _ _ _ _ HR).trans (Cert.KernelIdeal.SguArr.arr10 (K c)).symm

end Cert.SguFinal

end
-- ==== Proof.NormSpec.lean ====
module

public import proofs.«01_k».proof.Proof.Consts

@[expose] public section

noncomputable section

/-! The gradient of the root mean square norm of one row of 1024 real numbers, in the form the kernel computes it and in the
form the chain rule gives. -/

namespace Cert.NormSpec

open Cert.Consts

/-- The mean of a row's squares. -/
def ms (x : Fin 1024 → ℝ) : ℝ := (∑ k, x k * x k) / 1024
/-- One over the root of that mean plus the small constant. -/
def rr (x : Fin 1024 → ℝ) : ℝ := (Real.sqrt (ms x + eps))⁻¹

theorem ms_pos (x : Fin 1024 → ℝ) : 0 < ms x + eps :=
  add_pos_of_nonneg_of_pos (div_nonneg (Finset.sum_nonneg fun k _ => mul_self_nonneg (x k)) (by norm_num)) eps_pos

/-- The factor of the chain rule through the inverse root. -/
theorem rr_div (x : Fin 1024 → ℝ) : rr x / (ms x + eps) = rr x * (rr x * rr x) := by
  have h : rr x * rr x = (ms x + eps)⁻¹ := by
    unfold rr
    rw [← mul_inv, Real.mul_self_sqrt (ms_pos x).le]
  rw [h, div_eq_mul_inv]

/-- The kernel's gradient of the row `x`, given the gradient `h` of the norm's result, the gain `g` and the gradient `p` that
reaches the row directly. -/
def dx (h x g p : Fin 1024 → ℝ) (j : Fin 1024) : ℝ :=
  p j + rr x * (h j * g j - x j * rr x * ((∑ k, h k * g k * (x k * rr x)) / 1024))

/-- The chain rule's term through the mean of the squares. -/
def tail (h x g : Fin 1024 → ℝ) : ℝ := (∑ k, x k * (h k * g k)) * (-(1 / 2) * (rr x / (ms x + eps))) / 1024

/-- The chain rule's form has the same value. -/
theorem dx_eq (h x g p : Fin 1024 → ℝ) (j : Fin 1024) :
    p j + h j * g j * rr x + x j * tail h x g + tail h x g * x j = dx h x g p j := by
  have s : (∑ k, h k * g k * (x k * rr x)) = (∑ k, x k * (h k * g k)) * rr x := by
    rw [Finset.sum_mul]; exact Finset.sum_congr rfl fun k _ => by ring
  unfold dx tail
  rw [s, rr_div]
  ring

/-- Row `a` of a product of two matrices. -/
def prod {R K : ℕ} (D : Fin R → Fin K → ℝ) (W : Fin K → Fin 1024 → ℝ) (a : Fin R) (j : Fin 1024) : ℝ := ∑ k, D a k * W k j

/-- Row `a` of block `t` of all rows. -/
def grow (t : Fin 8) (a : Fin 512) : Fin 4096 := ⟨512 * t.val + a.val, by omega⟩
/-- The sum of the first `n + 1` blocks' rows. -/
def part {M : Type} [AddCommMonoid M] (f : Fin 4096 → M) (n : ℕ) : M := ∑ r ∈ Finset.range (512 * (n + 1)), if h : r < 4096 then f ⟨r, h⟩ else 0
theorem part_zero {M : Type} [AddCommMonoid M] (f : Fin 4096 → M) : 0 + ∑ a, f (grow 0 a) = part f 0 := by
  unfold part
  rw [zero_add, show 512 * (0 + 1) = 512 from rfl, Finset.sum_range]
  refine Finset.sum_congr rfl fun a _ => ?_
  rw [dif_pos (by omega)]
  exact congrArg f (Fin.ext (by show 512 * 0 + a.val = a.val; omega))
theorem part_succ {M : Type} [AddCommMonoid M] (f : Fin 4096 → M) (n : ℕ) (h : n + 1 < 8) : part f n + ∑ a, f (grow ⟨n + 1, h⟩ a) = part f (n + 1) := by
  unfold part
  rw [show 512 * (n + 1 + 1) = 512 * (n + 1) + 512 by ring, Finset.sum_range_add, Finset.sum_range (n := 512)]
  refine congrArg _ (Finset.sum_congr rfl fun a _ => ?_)
  rw [dif_pos (by omega)]
  exact congrArg f (Fin.ext rfl)
theorem part_last {M : Type} [AddCommMonoid M] (f : Fin 4096 → M) : part f 7 = ∑ r, f r := by
  unfold part
  rw [show 512 * (7 + 1) = 4096 from rfl, Finset.sum_range]
  exact Finset.sum_congr rfl fun q _ => dif_pos q.isLt

/-- The gain's gradient: the product's columns against the normed rows. -/
def dg (h x : Fin 4096 → Fin 1024 → ℝ) (j : Fin 1024) : ℝ := ∑ r, h r j * (x r j * rr (x r))

end Cert.NormSpec

end
-- ==== Proof.NormBody.lean ====
module

public import proofs.«01_k».proof.Proof.NormSpec
public import proofs.«01_k».proof.Proof.Gen.Kernel2Ideal.Value
public import Idealize.ShloMosaic.Lib.Pointwise
public import Idealize.ShloMosaic.Lib.Pipeline.ValueKit
public import Idealize.ShloMosaic.Lib.Claim

@[expose] public section

set_option maxRecDepth 16384

noncomputable section

/-! What the body of the feed-forward norm's gradient leaves in its outputs, where its inputs hold real numbers. -/

namespace Cert.Kernel2Ideal.Norm

open Cert.Kernel2Ideal Cert.Kernel2Ideal.Gen Cert.Consts Cert.NormSpec Idealize.ShloMosaic Idealize.ShloMosaic.TcCoe Idealize.SL.Sem

theorem hz2 : (![0, 0] : Fin 2 → Nat) = fun _ => 0 := funext fun a => by fin_cases a <;> rfl

section payloads
variable (v3 : Vec Ideal S512x5632 .bf16) (v4 : Vec Ideal S5632x1024 .bf16) (v6 v28 : Vec Ideal S512x1024 .f32)
  (v17 v24 : Vec Ideal S1x1024 .f32)
variable (D : Fin 512 → Fin 5632 → ℝ) (W : Fin 5632 → Fin 1024 → ℝ) (X P : Fin 512 → Fin 1024 → ℝ) (G A : Fin 1024 → ℝ)

variable (h3 : ∀ a k, v3 (ix2 a k) = ((D a k : ℝ) : EReal)) (h4 : ∀ k j, v4 (ix2 k j) = ((W k j : ℝ) : EReal))
  (h6 : ∀ a j, v6 (ix2 a j) = ((X a j : ℝ) : EReal)) (h28 : ∀ a j, v28 (ix2 a j) = ((P a j : ℝ) : EReal))
  (h24 : ∀ j, v24 (ix2 0 j) = ((G j : ℝ) : EReal)) (h17 : ∀ j, v17 (ix2 0 j) = ((A j : ℝ) : EReal))

include h3 h4 in
/-- The product's rows. -/
theorem p4 (a : Fin 512) (j : Fin 1024) : k0_pay4 v3 v4 (ix2 a j) = ((prod D W a j : ℝ) : EReal) := by
  pointwise [k0_pay4]
  simp only [h3, h4, ← EReal.coe_mul]
  rw [coe_sum']; rfl
include h6 in
/-- The inverse root. -/
theorem p5 (a : Fin 512) : k0_pay5 v6 (ix2 a 0) = ((rr (X a) : ℝ) : EReal) := by
  pointwise [k0_pay5]
  simp only [h6, ← EReal.coe_mul]
  rw [coe_sum', w_1024, w_eps, div_real _ _ (by norm_num), ← EReal.coe_add]; exact rsqrt_pos (ms_pos (X a))
include h6 in
/-- The normed row. -/
theorem p6 (a : Fin 512) (j : Fin 1024) : k0_pay6 v6 (ix2 a j) = ((X a j * rr (X a) : ℝ) : EReal) := by
  pointwise [k0_pay6]
  rw [h6, p5 v6 X h6, ← EReal.coe_mul]
include h3 h4 h6 h17 in
/-- The gain's gradient after a point. -/
theorem p7 (j : Fin 1024) : k0_pay7 v3 v4 v6 v17 (ix2 0 j)
    = ((A j + ∑ a, prod D W a j * (X a j * rr (X a)) : ℝ) : EReal) := by
  pointwise [k0_pay7]
  simp only [h17, p4 v3 v4 D W h3 h4, p6 v6 X h6, ← EReal.coe_mul]
  rw [coe_sum', ← EReal.coe_add]
include h3 h4 h24 in
/-- The product times the gain. -/
theorem p8 (a : Fin 512) (j : Fin 1024) : k0_pay8 v3 v4 v24 (ix2 a j) = ((prod D W a j * G j : ℝ) : EReal) := by
  pointwise [k0_pay8]
  rw [h24, p4 v3 v4 D W h3 h4, ← EReal.coe_mul]
include h3 h4 h6 h24 in
/-- The mean that the norm takes off. -/
theorem p9 (a : Fin 512) : k0_pay9 v3 v4 v6 v24 (ix2 a 0)
    = (((∑ k, prod D W a k * G k * (X a k * rr (X a))) / 1024 : ℝ) : EReal) := by
  pointwise [k0_pay9]
  simp only [p8 v3 v4 v24 D W G h3 h4 h24, p6 v6 X h6, ← EReal.coe_mul]
  rw [coe_sum', w_1024, div_real _ _ (by norm_num)]
include h3 h4 h6 h24 h28 in
/-- The row's gradient. -/
theorem p1 (a : Fin 512) (j : Fin 1024) : k0_pay1 (k0_pay5 v6) (k0_pay6 v6) (k0_pay8 v3 v4 v24) v28 (k0_pay9 v3 v4 v6 v24) (ix2 a j)
    = ((dx (prod D W a) (X a) G (P a) j : ℝ) : EReal) := by
  pointwise [k0_pay1]
  rw [h28, p5 v6 X h6, p6 v6 X h6, p8 v3 v4 v24 D W G h3 h4 h24, p9 v3 v4 v6 v24 D W X G h3 h4 h6 h24]
  simp only [← EReal.coe_mul, ← EReal.coe_add, ← EReal.coe_sub]
  rfl
include h3 h4 h6 h24 h28 in
/-- The same, rounded. -/
theorem p2 (a : Fin 512) (j : Fin 1024) : k0_pay2 (k0_pay5 v6) (k0_pay6 v6) (k0_pay8 v3 v4 v24) v28 (k0_pay9 v3 v4 v6 v24) (ix2 a j)
    = ((dx (prod D W a) (X a) G (P a) j : ℝ) : EReal) := by
  pointwise [k0_pay2]
  exact p1 v3 v4 v6 v28 v24 D W X P G h3 h4 h6 h28 h24 a j
/-- The gain's gradient before the first point. -/
theorem p3 (j : Fin 1024) : k0_pay3 (F := Ideal) (ix2 0 j) = ((0 : ℝ) : EReal) := by
  pointwise [k0_pay3]
  exact EReal.coe_zero.symm
end payloads

section pieces
variable (c : Dev nD) (i : grid0.Coords) (a1 : Memref sig .tc .vmem S512x5632 .bf16) (h1 : a1.IsWhole)
  (a2 : Memref sig .tc .vmem S5632x1024 .bf16) (h2 : a2.IsWhole) (a3 : Memref sig .tc .vmem S512x1024 .f32) (h3 : a3.IsWhole)
  (a4 : Memref sig .tc .vmem S1x1024 .f32) (h4 : a4.IsWhole) (a5 : Memref sig .tc .vmem S512x1024 .f32) (h5 : a5.IsWhole)
  (a6 : Memref sig .tc .vmem S512x1024 .f32) (h6 : a6.IsWhole) (a7 : Memref sig .tc .vmem S512x1024 .bf16) (h7 : a7.IsWhole)
  (a8 : Memref sig .tc .vmem S1x1024 .f32) (h8 : a8.IsWhole)
  (x0 : Vec Ideal S512x5632 .bf16) (x1 : Vec Ideal S5632x1024 .bf16) (x2 : Vec Ideal S512x1024 .f32) (x3 : Vec Ideal S1x1024 .f32)
  (x4 : Vec Ideal S512x1024 .f32) (xo : Vec Ideal S1x1024 .f32)

/-! At the first point the gain's gradient starts from zero, at a later one from what the point before left. -/

theorem A5 (hc : cond0_0 i) : out0_A_5 c i a1 h1 a2 h2 a3 h3 a4 h4 a5 h5 a6 h6 a7 h7 a8 h8 hc x0 x1 x2 x3 x4
    = k0_pay1 (k0_pay5 x2) (k0_pay6 x2) (k0_pay8 x0 x1 x3) x4 (k0_pay9 x0 x1 x2 x3) := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero (S := S512x1024) hz2]
  simp only [View.readAt_eq_ld, h1.read_unread, h2.read_unread, h3.read_unread, h4.read_unread, h5.read_unread,
    View.ld_unit_zero (S := S512x5632) hz2, View.ld_unit_zero (S := S5632x1024) hz2, View.ld_unit_zero (S := S512x1024) hz2,
    View.ld_unit_zero (S := S1x1024) hz2]
theorem A6 (hc : cond0_0 i) : out0_A_6 c i a1 h1 a2 h2 a3 h3 a4 h4 a5 h5 a6 h6 a7 h7 a8 h8 hc x0 x1 x2 x3 x4
    = k0_pay2 (k0_pay5 x2) (k0_pay6 x2) (k0_pay8 x0 x1 x3) x4 (k0_pay9 x0 x1 x2 x3) := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_unit_zero (S := S512x1024) hz2]
  simp only [View.readAt_eq_ld, h1.read_unread, h2.read_unread, h3.read_unread, h4.read_unread, h5.read_unread,
    View.ld_unit_zero (S := S512x5632) hz2, View.ld_unit_zero (S := S5632x1024) hz2, View.ld_unit_zero (S := S512x1024) hz2,
    View.ld_unit_zero (S := S1x1024) hz2]
theorem A7 (hc : cond0_0 i) : out0_A_7 c i a1 h1 a2 h2 a3 h3 a4 h4 a5 h5 a6 h6 a7 h7 a8 h8 hc x0 x1 x2 x3 x4
    = k0_pay7 x0 x1 x2 (k0_pay3 (F := Ideal)) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x1024) hz2, View.readCov_unit_zero (S := S1x1024) _ hz2]
  simp only [View.readAt_eq_ld, h1.read_unread, h2.read_unread, h3.read_unread,
    View.ld_unit_zero (S := S512x5632) hz2, View.ld_unit_zero (S := S5632x1024) hz2, View.ld_unit_zero (S := S512x1024) hz2]
theorem B5 (hc : ¬cond0_0 i) : out0_B_5 c i a1 h1 a2 h2 a3 h3 a4 h4 a5 h5 a6 h6 a7 h7 a8 h8 hc x0 x1 x2 x3 x4 xo
    = k0_pay1 (k0_pay5 x2) (k0_pay6 x2) (k0_pay8 x0 x1 x3) x4 (k0_pay9 x0 x1 x2 x3) := by
  unfold out0_B_5
  rw [View.read_writes_eq_canon _ _ _ (cover0_B_5 c i a1 h1 a2 h2 a3 h3 a4 h4 a5 h5 a6 h6 a7 h7 a8 h8 hc x0 x1 x2 x3 x4 xo)]
  unfold kernelRun0_B
  dsimp only
  sl_unfold_words
  rw [View.canon_unit_zero (S := S512x1024) hz2]
  simp only [View.readAt_eq_ld, h1.read_unread, h2.read_unread, h3.read_unread, h4.read_unread, h5.read_unread,
    View.ld_unit_zero (S := S512x5632) hz2, View.ld_unit_zero (S := S5632x1024) hz2, View.ld_unit_zero (S := S512x1024) hz2,
    View.ld_unit_zero (S := S1x1024) hz2]
theorem B6 (hc : ¬cond0_0 i) : out0_B_6 c i a1 h1 a2 h2 a3 h3 a4 h4 a5 h5 a6 h6 a7 h7 a8 h8 hc x0 x1 x2 x3 x4 xo
    = k0_pay2 (k0_pay5 x2) (k0_pay6 x2) (k0_pay8 x0 x1 x3) x4 (k0_pay9 x0 x1 x2 x3) := by
  unfold out0_B_6
  rw [View.read_writes_eq_canon _ _ _ (cover0_B_6 c i a1 h1 a2 h2 a3 h3 a4 h4 a5 h5 a6 h6 a7 h7 a8 h8 hc x0 x1 x2 x3 x4 xo)]
  unfold kernelRun0_B
  dsimp only
  sl_unfold_words
  rw [View.canon_unit_zero (S := S512x1024) hz2]
  simp only [View.readAt_eq_ld, h1.read_unread, h2.read_unread, h3.read_unread, h4.read_unread, h5.read_unread,
    View.ld_unit_zero (S := S512x5632) hz2, View.ld_unit_zero (S := S5632x1024) hz2, View.ld_unit_zero (S := S512x1024) hz2,
    View.ld_unit_zero (S := S1x1024) hz2]
theorem B7 (hc : ¬cond0_0 i) : out0_B_7 c i a1 h1 a2 h2 a3 h3 a4 h4 a5 h5 a6 h6 a7 h7 a8 h8 hc x0 x1 x2 x3 x4 xo
    = k0_pay7 x0 x1 x2 xo := by
  unfold out0_B_7
  rw [View.read_writes_eq_canon _ _ _ (cover0_B_7 c i a1 h1 a2 h2 a3 h3 a4 h4 a5 h5 a6 h6 a7 h7 a8 h8 hc x0 x1 x2 x3 x4 xo)]
  unfold kernelRun0_B
  dsimp only
  sl_unfold_words
  rw [View.canon_unit_zero (S := S1x1024) hz2]
  simp only [View.readAt_eq_ld, h1.read_unread, h2.read_unread, h3.read_unread, h8.read_unread,
    View.ld_unit_zero (S := S512x5632) hz2, View.ld_unit_zero (S := S5632x1024) hz2, View.ld_unit_zero (S := S512x1024) hz2,
    View.ld_unit_zero (S := S1x1024) hz2]
end pieces

end Cert.Kernel2Ideal.Norm

end
-- ==== Proof.NormArr.lean ====
module

public import proofs.«01_k».proof.Proof.NormBody

@[expose] public section

set_option maxRecDepth 16384

noncomputable section

/-! The three result arrays of the feed-forward norm's gradient after the run, where every argument holds real numbers. -/

namespace Cert.Kernel2Ideal.Norm

open Cert.Kernel2Ideal Cert.Kernel2Ideal.Gen Cert.Consts Cert.NormSpec Idealize.ShloMosaic Idealize.ShloMosaic.TcCoe Idealize.SL.Sem

variable (m : (ℓ : Loc nD τ sig) → Buf (Elt Ideal) ℓ) (c : Dev nD)
variable (fd : Fin 4096 → Fin 5632 → ℝ) (fw : Fin 5632 → Fin 1024 → ℝ) (fx : Fin 4096 → Fin 1024 → ℝ) (fg : Fin 1024 → ℝ)
  (fp : Fin 4096 → Fin 1024 → ℝ)

/-- The arguments hold these real numbers. -/
structure Args : Prop where
  hd : ∀ r k, m ((c : Thread nD τ).loc main_arg0) (ix2 r k) = ((fd r k : ℝ) : EReal)
  hw : ∀ k j, m ((c : Thread nD τ).loc main_arg1) (ix2 k j) = ((fw k j : ℝ) : EReal)
  hx : ∀ r j, m ((c : Thread nD τ).loc main_arg2) (ix2 r j) = ((fx r j : ℝ) : EReal)
  hg : ∀ j, m ((c : Thread nD τ).loc main_arg3) (ix1 j) = ((fg j : ℝ) : EReal)
  hp : ∀ r j, m ((c : Thread nD τ).loc main_arg4) (ix2 r j) = ((fp r j : ℝ) : EReal)

/-- A grid point's number. -/
def pt (t : Fin cfg0.N) : Fin 8 := ⟨t.val, lt_of_lt_of_eq t.isLt N_0⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

theorem blk0 (t : Fin cfg0.N) (a : Fin 512) (k : Fin 5632) :
    (show Vec Ideal S512x5632 .bf16 from iblk m c 0 t) (ix2 a k) = m ((c : Thread nD τ).loc main_arg0) (ix2 (grow (pt t) a) k) := by
  blk_ext [iblk, V, idx0 t, grow, pt]
theorem blk1 (t : Fin cfg0.N) (k : Fin 5632) (j : Fin 1024) :
    (show Vec Ideal S5632x1024 .bf16 from iblk m c 1 t) (ix2 k j) = m ((c : Thread nD τ).loc main_arg1) (ix2 k j) := by
  blk_ext [iblk, V, idx1 t]
theorem blk2 (t : Fin cfg0.N) (a : Fin 512) (j : Fin 1024) :
    (show Vec Ideal S512x1024 .f32 from iblk m c 2 t) (ix2 a j) = m ((c : Thread nD τ).loc main_arg2) (ix2 (grow (pt t) a) j) := by
  blk_ext [iblk, V, idx2 t, grow, pt]
theorem blk3 (t : Fin cfg0.N) (j : Fin 1024) :
    (show Vec Ideal S1x1024 .f32 from iblk m c 3 t) (ix2 0 j) = m ((c : Thread nD τ).loc main_arg3) (ix1 j) := by
  blk_simp [iblk]
  entry_read
  pointwise
  blk_ext [idx3 t]
theorem blk4 (t : Fin cfg0.N) (a : Fin 512) (j : Fin 1024) :
    (show Vec Ideal S512x1024 .f32 from iblk m c 4 t) (ix2 a j) = m ((c : Thread nD τ).loc main_arg4) (ix2 (grow (pt t) a) j) := by
  blk_ext [iblk, V, idx4 t, grow, pt]

/-! The three outputs of the body at a point. -/

theorem o5 (t : Fin cfg0.N) : (outsAt0 m c t.val t.isLt).1 = k0_pay1 (k0_pay5 (iblk m c 2 t)) (k0_pay6 (iblk m c 2 t))
    (k0_pay8 (iblk m c 0 t) (iblk m c 1 t) (iblk m c 3 t)) (iblk m c 4 t)
    (k0_pay9 (iblk m c 0 t) (iblk m c 1 t) (iblk m c 2 t) (iblk m c 3 t)) := by
  by_cases h : t.val % 8 = 0
  · rw [outsAt0_A m c t h]; dsimp only; rw [A5]
  · rw [outsAt0_B m c t h]; dsimp only; rw [B5]
theorem o6 (t : Fin cfg0.N) : (outsAt0 m c t.val t.isLt).2.1 = k0_pay2 (k0_pay5 (iblk m c 2 t)) (k0_pay6 (iblk m c 2 t))
    (k0_pay8 (iblk m c 0 t) (iblk m c 1 t) (iblk m c 3 t)) (iblk m c 4 t)
    (k0_pay9 (iblk m c 0 t) (iblk m c 1 t) (iblk m c 2 t) (iblk m c 3 t)) := by
  by_cases h : t.val % 8 = 0
  · rw [outsAt0_A m c t h]; dsimp only; rw [A6]
  · rw [outsAt0_B m c t h]; dsimp only; rw [B6]
theorem o7_A (t : Fin cfg0.N) (h : t.val % 8 = 0) : (outsAt0 m c t.val t.isLt).2.2
    = k0_pay7 (iblk m c 0 t) (iblk m c 1 t) (iblk m c 2 t) (k0_pay3 (F := Ideal)) := by
  rw [outsAt0_A m c t h]; dsimp only; rw [A7]
theorem o7_B (t : Fin cfg0.N) (h : ¬t.val % 8 = 0) : (outsAt0 m c t.val t.isLt).2.2
    = k0_pay7 (iblk m c 0 t) (iblk m c 1 t) (iblk m c 2 t)
      (outsAt0 m c (t.val - 1) (Nat.lt_of_le_of_lt (Nat.sub_le _ _) t.isLt)).2.2 := by
  rw [outsAt0_B m c t h]; dsimp only; rw [B7]

variable {m c fd fw fx fg fp} (H : Args m c fd fw fx fg fp)
include H

/-! The blocks of point `t`, as real numbers. -/

theorem q0 (t : Fin cfg0.N) (a : Fin 512) (k : Fin 5632) :
    (show Vec Ideal S512x5632 .bf16 from iblk m c 0 t) (ix2 a k) = ((fd (grow (pt t) a) k : ℝ) : EReal) := (blk0 m c t a k).trans (H.hd _ _)
theorem q1 (t : Fin cfg0.N) (k : Fin 5632) (j : Fin 1024) :
    (show Vec Ideal S5632x1024 .bf16 from iblk m c 1 t) (ix2 k j) = ((fw k j : ℝ) : EReal) := (blk1 m c t k j).trans (H.hw _ _)
theorem q2 (t : Fin cfg0.N) (a : Fin 512) (j : Fin 1024) :
    (show Vec Ideal S512x1024 .f32 from iblk m c 2 t) (ix2 a j) = ((fx (grow (pt t) a) j : ℝ) : EReal) := (blk2 m c t a j).trans (H.hx _ _)
theorem q3 (t : Fin cfg0.N) (j : Fin 1024) :
    (show Vec Ideal S1x1024 .f32 from iblk m c 3 t) (ix2 0 j) = ((fg j : ℝ) : EReal) := (blk3 m c t j).trans (H.hg _)
theorem q4 (t : Fin cfg0.N) (a : Fin 512) (j : Fin 1024) :
    (show Vec Ideal S512x1024 .f32 from iblk m c 4 t) (ix2 a j) = ((fp (grow (pt t) a) j : ℝ) : EReal) := (blk4 m c t a j).trans (H.hp _ _)

/-- The row gradients of point `t`. -/
theorem at5 (t : Fin cfg0.N) (a : Fin 512) (j : Fin 1024) : (outsAt0 m c t.val t.isLt).1 (ix2 a j)
    = ((dx (prod fd fw (grow (pt t) a)) (fx (grow (pt t) a)) fg (fp (grow (pt t) a)) j : ℝ) : EReal) := by
  rw [o5]
  exact p1 _ _ _ _ _ (fun a => fd (grow (pt t) a)) fw (fun a => fx (grow (pt t) a)) (fun a => fp (grow (pt t) a)) fg
    (q0 H t) (q1 H t) (q2 H t) (q4 H t) (q3 H t) a j
theorem at6 (t : Fin cfg0.N) (a : Fin 512) (j : Fin 1024) : (outsAt0 m c t.val t.isLt).2.1 (ix2 a j)
    = ((dx (prod fd fw (grow (pt t) a)) (fx (grow (pt t) a)) fg (fp (grow (pt t) a)) j : ℝ) : EReal) := by
  rw [o6]
  exact p2 _ _ _ _ _ (fun a => fd (grow (pt t) a)) fw (fun a => fx (grow (pt t) a)) (fun a => fp (grow (pt t) a)) fg
    (q0 H t) (q1 H t) (q2 H t) (q4 H t) (q3 H t) a j
/-- The gain's gradient after point `n`. -/
theorem at7 : ∀ (n : ℕ) (h : n < cfg0.N) (j : Fin 1024), (outsAt0 m c n h).2.2 (ix2 0 j)
    = ((part (fun r => prod fd fw r j * (fx r j * rr (fx r))) n : ℝ) : EReal)
  | 0, h, j => by
    rw [← part_zero, o7_A m c ⟨0, h⟩ rfl]
    exact p7 _ _ _ _ (fun a => fd (grow (pt ⟨0, h⟩) a)) fw (fun a => fx (grow (pt ⟨0, h⟩) a)) (fun _ => 0)
      (q0 H ⟨0, h⟩) (q1 H ⟨0, h⟩) (q2 H ⟨0, h⟩) p3 j
  | n + 1, h, j => by
    have hN : n + 1 < 8 := lt_of_lt_of_eq h N_0
    rw [← part_succ _ n hN, o7_B m c ⟨n + 1, h⟩ (by dsimp only; omega)]
    exact p7 _ _ _ _ (fun a => fd (grow (pt ⟨n + 1, h⟩) a)) fw (fun a => fx (grow (pt ⟨n + 1, h⟩) a))
      (fun j => part (fun r => prod fd fw r j * (fx r j * rr (fx r))) n)
      (q0 H ⟨n + 1, h⟩) (q1 H ⟨n + 1, h⟩) (q2 H ⟨n + 1, h⟩) (fun j => at7 n _ j) j

/-- The rows' gradients after the run. -/
theorem arr5 : (dats m 0 c).arrAt 5 cfg0.N
    = fun x : S4096x1024.Idx => ((dx (prod fd fw (x 0)) (fx (x 0)) fg (fp (x 0)) (x 1) : ℝ) : EReal) := by
  have key : ∀ (t : Fin cfg0.N) (y : S512x1024.Idx) (x : S4096x1024.Idx), (x 0).val = 512 * t.val + (y 0).val → (x 1).val = (y 1).val →
      (outsAt0 m c t.val t.isLt).1 y = ((dx (prod fd fw (x 0)) (fx (x 0)) fg (fp (x 0)) (x 1) : ℝ) : EReal) := fun t y x h0 h1 => by
    rw [eq_ix2 y]
    generalize y 0 = a, y 1 = j at h0 h1 ⊢
    rw [show x 0 = grow (pt t) a from Fin.ext h0, show x 1 = j from Fin.ext h1]
    exact at5 H t a j
  refine (dats m 0 c).arrAt_eq_of_covers 5 _ (by decide +kernel) fun t _ y => ?_
  blk_simp [idx5 t]
  rw [after0_5]
  refine key t _ _ ?_ ?_ <;> blk_simp [idx5 t] <;> try omega
/-- The same, rounded. -/
theorem arr6 : (dats m 0 c).arrAt 6 cfg0.N
    = fun x : S4096x1024.Idx => ((dx (prod fd fw (x 0)) (fx (x 0)) fg (fp (x 0)) (x 1) : ℝ) : EReal) := by
  have key : ∀ (t : Fin cfg0.N) (y : S512x1024.Idx) (x : S4096x1024.Idx), (x 0).val = 512 * t.val + (y 0).val → (x 1).val = (y 1).val →
      (outsAt0 m c t.val t.isLt).2.1 y = ((dx (prod fd fw (x 0)) (fx (x 0)) fg (fp (x 0)) (x 1) : ℝ) : EReal) := fun t y x h0 h1 => by
    rw [eq_ix2 y]
    generalize y 0 = a, y 1 = j at h0 h1 ⊢
    rw [show x 0 = grow (pt t) a from Fin.ext h0, show x 1 = j from Fin.ext h1]
    exact at6 H t a j
  refine (dats m 0 c).arrAt_eq_of_covers 6 _ (by decide +kernel) fun t _ y => ?_
  blk_simp [idx6 t]
  rw [after0_6]
  refine key t _ _ ?_ ?_ <;> blk_simp [idx6 t] <;> try omega
/-- The gain's gradient after the run. -/
theorem arr7 : (dats m 0 c).arrAt 7 cfg0.N = fun x : S1x1024.Idx => ((dg (prod fd fw) fx (x 1) : ℝ) : EReal) := by
  have key : ∀ x : S1x1024.Idx, (outsAt0 m c 7 (by rw [show cfg0.N = 8 from N_0]; decide)).2.2 x
      = ((dg (prod fd fw) fx (x 1) : ℝ) : EReal) := fun x => by
    rw [eq_ix2 x]
    generalize x 0 = a, x 1 = b
    obtain rfl : a = (0 : Fin 1) := Subsingleton.elim (α := Fin 1) _ _
    rw [at7 H 7 _ b, part_last]; rfl
  refine (dats m 0 c).arrAt_eq_of_after_last 7 t0_7 (by decide +kernel) _ fun y => ?_
  blk_simp
  rw [after0_7]
  exact key _

end Cert.Kernel2Ideal.Norm

end
-- ==== Proof.NormRef.lean ====
module

public import proofs.«01_k».proof.Proof.NormSpec
public import proofs.«01_k».proof.Proof.Gen.Reference2Ideal.Run
public import proofs.«01_k».proof.Proof.Gen.Reference2Ideal.Read
public import Idealize.ShloMosaic.Lib.Pointwise

@[expose] public section

set_option maxRecDepth 16384

noncomputable section

/-! The reference of the feed-forward norm's gradient at real arguments, stage by stage. -/

namespace Cert.Reference2Ideal.Norm

open Cert.Reference2Ideal Cert.Reference2Ideal.Read Cert.Consts Cert.NormSpec Idealize.ShloMosaic Idealize.SL.Sem

variable (x0 : (⟨S4096x5632, .bf16⟩ : BufTy).Contents (Elt Ideal)) (x1 : (⟨S5632x1024, .bf16⟩ : BufTy).Contents (Elt Ideal))
  (x2 : (⟨S4096x1024, .f32⟩ : BufTy).Contents (Elt Ideal)) (x3 : (⟨S1024, .f32⟩ : BufTy).Contents (Elt Ideal))
  (x4 : (⟨S4096x1024, .f32⟩ : BufTy).Contents (Elt Ideal))
variable (fd : Fin 4096 → Fin 5632 → ℝ) (fw : Fin 5632 → Fin 1024 → ℝ) (fx : Fin 4096 → Fin 1024 → ℝ) (fg : Fin 1024 → ℝ)
  (fp : Fin 4096 → Fin 1024 → ℝ)

/-- The arguments hold these real numbers. -/
structure Args : Prop where
  hd : ∀ r k, x0 (ix2 r k) = ((fd r k : ℝ) : EReal)
  hw : ∀ k j, x1 (ix2 k j) = ((fw k j : ℝ) : EReal)
  hx : ∀ r j, x2 (ix2 r j) = ((fx r j : ℝ) : EReal)
  hg : ∀ j, x3 (ix1 j) = ((fg j : ℝ) : EReal)
  hp : ∀ r j, x4 (ix2 r j) = ((fp r j : ℝ) : EReal)

variable {x0 x1 x2 x3 x4 fd fw fx fg fp} (H : Args x0 x1 x2 x3 x4 fd fw fx fg fp)
include H

/-- The mean of the squares plus the small constant. -/
theorem s6 (r : Fin 4096) : val_main_v6 (F := Ideal) x2 (ix2 r 0) = ((ms (fx r) + eps : ℝ) : EReal) := by
  pointwise [val_main_v6, val_main_v5, val_main_v4, val_main_v3, val_main_v2, val_main_v1, val_main_v0, val_main_cst, val_main_cst_0,
    val_main_cst_1]
  simp only [H.hx, ← EReal.coe_mul]
  rw [coe_sum', w_1024, w_eps, div_real _ _ (by norm_num), ← EReal.coe_add]; rfl
/-- The inverse root. -/
theorem s7 (r : Fin 4096) : val_main_v7 (F := Ideal) x2 (ix2 r 0) = ((rr (fx r) : ℝ) : EReal) := by
  pointwise [val_main_v7]
  rw [s6 H]; exact rsqrt_pos (ms_pos (fx r))
/-- The factor of the chain rule through the inverse root. -/
theorem s10 (r : Fin 4096) : val_main_v10 (F := Ideal) x2 (ix2 r 0) = ((-(1 / 2) * (rr (fx r) / (ms (fx r) + eps)) : ℝ) : EReal) := by
  pointwise [val_main_v10, val_main_v9, val_main_v8, val_main_cst_2]
  rw [s6 H, s7 H, div_real _ _ (ms_pos (fx r)).ne', w_neg_half, ← EReal.coe_mul]
/-- The normed rows. -/
theorem s12 (r : Fin 4096) (j : Fin 1024) : val_main_v12 (F := Ideal) x2 (ix2 r j) = ((fx r j * rr (fx r) : ℝ) : EReal) := by
  pointwise [val_main_v12, val_main_v11]
  rw [H.hx, s7 H, ← EReal.coe_mul]
/-- The gradient that reaches the norm's result. -/
theorem s20 (r : Fin 4096) (j : Fin 1024) : val_main_v20 (F := Ideal) x0 x1 (ix2 r j) = ((prod fd fw r j : ℝ) : EReal) := by
  pointwise [val_main_v20, val_main_v19, val_main_v17, val_main_v16]
  simp only [H.hd, H.hw, ← EReal.coe_mul]
  rw [coe_sum']; rfl
/-- The gain's gradient. -/
theorem s26 (j : Fin 1024) : val_main_v26 (F := Ideal) x0 x1 x2 (ix1 j) = ((dg (prod fd fw) fx j : ℝ) : EReal) := by
  pointwise [val_main_v26, val_main_v23, val_main_v22, val_main_v21, val_main_cst_3, val_main_cst_4]
  simp only [s12 H, s20 H, ← EReal.coe_mul]
  simp only [Fin.sum_univ_one, coe_sum']
  exact congrArg _ (Finset.sum_congr rfl fun r _ => mul_comm _ _)
/-- It is the third result. -/
theorem s43 (j : Fin 1024) : val_main_v43 (F := Ideal) x0 x1 x2 (ix2 0 j) = ((dg (prod fd fw) fx j : ℝ) : EReal) := by
  pointwise [val_main_v43]
  exact s26 H j
/-- That gradient times the gain. -/
theorem s25 (r : Fin 4096) (j : Fin 1024) : val_main_v25 (F := Ideal) x0 x1 x3 (ix2 r j) = ((prod fd fw r j * fg j : ℝ) : EReal) := by
  pointwise [val_main_v25, val_main_v24, val_main_v13]
  rw [s20 H, H.hg, ← EReal.coe_mul]
/-- The chain rule's term through the mean of the squares. -/
theorem s36 (r : Fin 4096) : val_main_v36 (F := Ideal) x0 x1 x2 x3 (ix1 r) = ((tail (prod fd fw r) (fx r) fg : ℝ) : EReal) := by
  pointwise [val_main_v36, val_main_v35, val_main_v34, val_main_v33, val_main_v29, val_main_v28, val_main_v27, val_main_cst_5,
    val_main_cst_6, val_main_cst_7]
  simp only [H.hx, s25 H, s10 H, ← EReal.coe_mul, Fin.sum_univ_one, coe_sum', w_1024]
  rw [div_real _ _ (by norm_num)]; rfl
/-- The rows' gradient, the first result. -/
theorem s41 (r : Fin 4096) (j : Fin 1024) : val_main_v41 (F := Ideal) x0 x1 x2 x3 x4 (ix2 r j)
    = ((dx (prod fd fw r) (fx r) fg (fp r) j : ℝ) : EReal) := by
  pointwise [val_main_v41, val_main_v40, val_main_v39, val_main_v38, val_main_v37, val_main_v32, val_main_v31, val_main_v30]
  simp only [H.hx, H.hp, s25 H, s36 H, s7 H, ← EReal.coe_mul, ← EReal.coe_add]
  exact congrArg _ (dx_eq _ _ _ _ _)
/-- The same rounded, the second result. -/
theorem s42 (r : Fin 4096) (j : Fin 1024) : val_main_v42 (F := Ideal) x0 x1 x2 x3 x4 (ix2 r j)
    = ((dx (prod fd fw r) (fx r) fg (fp r) j : ℝ) : EReal) := by
  pointwise [val_main_v42]
  exact s41 H r j

end Cert.Reference2Ideal.Norm

end
-- ==== Proof.NormFinal.lean ====
module

public import proofs.«01_k».proof.Proof.NormArr
public import proofs.«01_k».proof.Proof.NormRef
public import proofs.«01_k».proof.Proof.Finite

@[expose] public section

set_option maxRecDepth 16384

noncomputable section

/-! The value claim of the feed-forward norm's gradient: from real arguments, kernel and reference end with the same three
results. -/

namespace Cert.NormFinal

open Idealize.ShloMosaic Idealize.ShloMosaic.TcCoe Idealize.SL.Sem

/-- The shape relations of the precondition's function. -/
instance facts : Cert.Pre_norm_finite.Facts where
  bitsLt_bf16_f32 := by decide
  bcast_S_S4096x5632 := by decide
  bcast_S_S5632x1024 := by decide
  bcast_S_S4096x1024 := by decide
  bcast_S_S1024 := by decide

section
open Cert.Kernel2Ideal
/-- The kernel's arguments as the real numbers they are. -/
theorem kernel_args (m : (ℓ : Loc nD τ sig) → Buf (Elt Ideal) ℓ) (h : Cert.Pre_Kernel2Ideal_norm_finite m) (c : Dev nD) :
    Norm.Args m c (fun r k => EReal.toReal (m ((c : Thread nD τ).loc main_arg0) (ix2 r k)))
      (fun k j => EReal.toReal (m ((c : Thread nD τ).loc main_arg1) (ix2 k j)))
      (fun r j => EReal.toReal (m ((c : Thread nD τ).loc main_arg2) (ix2 r j)))
      (fun j => EReal.toReal (m ((c : Thread nD τ).loc main_arg3) (ix1 j)))
      (fun r j => EReal.toReal (m ((c : Thread nD τ).loc main_arg4) (ix2 r j))) := by
  obtain ⟨h0, h1, h2, h3, h4⟩ := h c
  exact ⟨fun r k => Cert.Finite.real_of _ (congrFun h0 (ix2 r k)), fun k j => Cert.Finite.real_of _ (congrFun h1 (ix2 k j)),
    fun r j => Cert.Finite.real_of _ (congrFun h2 (ix2 r j)), fun j => Cert.Finite.real_of _ (congrFun h3 (ix1 j)),
    fun r j => Cert.Finite.real_of _ (congrFun h4 (ix2 r j))⟩
end

/-- The value claim. -/
theorem algebraic : Cert.algebraic_Kernel2Ideal_Reference2Ideal_pre_norm_finite (hKernel2Ideal := Cert.Kernel2Ideal.Gen.facts)
    (hReference2Ideal := Cert.Reference2Ideal.Gen.facts) (hPre_norm_finite := facts) := by
  intro m g m' g' hpre hag
  have K := fun c => kernel_args m hpre c
  refine ⟨fun c => (Cert.Kernel2Ideal.Gen.dats m 0 c).arrAt 5 Cert.Kernel2Ideal.cfg0.N,
    fun c => (Cert.Kernel2Ideal.Gen.dats m 0 c).arrAt 6 Cert.Kernel2Ideal.cfg0.N,
    fun c => (Cert.Kernel2Ideal.Gen.dats m 0 c).arrAt 7 Cert.Kernel2Ideal.cfg0.N,
    Cert.Kernel2Ideal.Value.run_blocks m g, ?_⟩
  refine (θ_run _ _ _).mono (fun r h c => ?_) (Cert.Reference2Ideal.Value.run m' g')
  obtain ⟨a0, a1, a2, a3, a4⟩ := hag c
  have HR : Cert.Reference2Ideal.Norm.Args
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg4)) _ _ _ _ _ :=
    ⟨fun r k => (congrFun a0 (ix2 r k)).trans ((K c).hd r k), fun k j => (congrFun a1 (ix2 k j)).trans ((K c).hw k j),
      fun r j => (congrFun a2 (ix2 r j)).trans ((K c).hx r j), fun j => (congrFun a3 (ix1 j)).trans ((K c).hg j),
      fun r j => (congrFun a4 (ix2 r j)).trans ((K c).hp r j)⟩
  obtain ⟨h0, h1, h2, hargs⟩ := h c
  refine ⟨h0.trans ((Cert.Reference2Ideal.Read.val_main_v41_eq _ _).trans ((funext fun x => ?_).trans (Cert.Kernel2Ideal.Norm.arr5 (K c)).symm)),
    h1.trans ((Cert.Reference2Ideal.Read.val_main_v42_eq _ _).trans ((funext fun x => ?_).trans (Cert.Kernel2Ideal.Norm.arr6 (K c)).symm)),
    h2.trans ((Cert.Reference2Ideal.Read.val_main_v43_eq _ _ _).trans ((funext fun x => ?_).trans (Cert.Kernel2Ideal.Norm.arr7 (K c)).symm)),
    hargs⟩
  · rw [eq_ix2 x]; exact Cert.Reference2Ideal.Norm.s41 HR _ _
  · rw [eq_ix2 x]; exact Cert.Reference2Ideal.Norm.s42 HR _ _
  · rw [eq_ix2 x, Subsingleton.elim (α := Fin 1) (x 0) 0]; exact Cert.Reference2Ideal.Norm.s43 HR _

end Cert.NormFinal

end
-- ==== Proof.DwUp.lean ====
module

public import proofs.«01_k».proof.Defs
public import proofs.«01_k».proof.Proof.Consts
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Lib.Pipeline.ValueKit
public import Idealize.ShloMosaic.Lib.WholeRead
public import Idealize.ShloMosaic.Lib.Claim

@[expose] public section

set_option maxRecDepth 16384

noncomputable section

/-! The gradient of the up projection's weight: the product accumulated over two halves of the rows is the whole product. -/

namespace Cert.Kernel3Ideal.Dw

open Cert.Kernel3Ideal Cert.Kernel3Ideal.Gen Cert.Consts Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (c : Dev nD)

section body
variable (i : grid0.Coords) (a2 : Memref sig .tc .vmem S2048x1408 .bf16) (h2 : a2.IsWhole) (a3 : Memref sig .tc .vmem S2048x1024 .bf16) (h3 : a3.IsWhole)
  (a4 : Memref sig .tc .vmem S1x1408x1024 .bf16) (h4 : a4.IsWhole) (a5 : Memref sig .tc .vmem S1408x1024 .f32) (h5 : a5.IsWhole)
  (x0 : Vec Ideal S2048x1408 .bf16) (x1 : Vec Ideal S2048x1024 .bf16) (xs : Vec Ideal S1408x1024 .f32)

/-- At the first of two points the accumulator ends with zero plus the block's product. -/
theorem first (hc0 : cond0_0 i) (hc1 : ¬cond0_1 i) : sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1408x1024) hz2, View.readCov_unit_zero (S := S1408x1024) _ hz2]
  simp only [View.readAt_eq_ld, h2.read_unread, h3.read_unread, View.ld_unit_zero (S := S2048x1408) hz2, View.ld_unit_zero (S := S2048x1024) hz2]

/-- At the second the output is the accumulator plus the block's product. -/
theorem second (hc0 : ¬cond0_0 i) (hc1 : cond0_1 i) :
    out0_B_2 c i a2 h2 a3 h3 a4 h4 a5 h5 hc0 hc1 x0 x1 xs = k0_pay3 (k0_pay2 xs x0 x1) := by
  unfold out0_B_2
  rw [View.read_writes_eq_canon _ _ _ (cover0_B_2 c i a2 h2 a3 h3 a4 h4 a5 h5 hc0 hc1 x0 x1 xs)]
  unfold kernelRun0_B
  dsimp only
  sl_unfold_words
  rw [View.canon_unit_zero (S := S1x1408x1024) hz3, View.readCov_unit_zero (S := S1408x1024) _ hz2]
  simp only [View.readAt_eq_ld, h2.read_unread, h3.read_unread, h5.read_unread, View.ld_unit_zero (S := S2048x1408) hz2,
    View.ld_unit_zero (S := S2048x1024) hz2, View.ld_unit_zero (S := S1408x1024) hz2]

/-- The accumulator's step. -/
theorem pay2_at (r : Fin 1408) (j : Fin 1024) :
    k0_pay2 xs x0 x1 (ix2 r j) = (xs (ix2 r j) + ∑ k : Fin 2048, x0 (ix2 k r) * x1 (ix2 k j) : EReal) := by
  pointwise [k0_pay2]
/-- The same, of blocks whose entries are known. -/
theorem step_at (r : Fin 1408) (j : Fin 1024) (p q : Fin 2048 → EReal) (hp : ∀ k, x0 (ix2 k r) = p k) (hq : ∀ k, x1 (ix2 k j) = q k) :
    k0_pay2 xs x0 x1 (ix2 r j) = (xs (ix2 r j) + ∑ k, p k * q k : EReal) := by
  rw [pay2_at]
  simp only [hp, hq]
theorem pay1_at (r : Fin 1408) (j : Fin 1024) : k0_pay1 (F := Ideal) (ix2 r j) = (0 : EReal) := by
  pointwise [k0_pay1]
theorem pay3_at (r : Fin 1408) (j : Fin 1024) : k0_pay3 xs (ix3 0 r j) = xs (ix2 r j) := by
  pointwise [k0_pay3]
end body

/-- The first argument's entries. -/
def A (r : Fin 4096) (k : Fin 5632) : EReal := m ((c : Thread nD τ).loc main_arg0) (ix2 r k)
/-- The second argument's entries. -/
def B (r : Fin 4096) (j : Fin 1024) : EReal := m ((c : Thread nD τ).loc main_arg1) (ix2 r j)

theorem idx0 : ∀ t : Fin cfg0.N, win0_0.index t = ![t.val % 2, t.val / 2] := (by decide +kernel : ∀ t : Fin grid0.N, _)
theorem idx1 : ∀ t : Fin cfg0.N, win0_1.index t = ![t.val % 2, 0] := (by decide +kernel : ∀ t : Fin grid0.N, _)

/-- Row `k` of the half that point `n` reads. -/
def half (n : ℕ) (k : Fin 2048) : Fin 4096 := ⟨2048 * (n % 2) + k.val, by omega⟩
/-- Column `r` of the block that the points `2 q` and `2 q + 1` compute. -/
def col (q : Fin 4) (r : Fin 1408) : Fin 5632 := ⟨1408 * q.val + r.val, by omega⟩

theorem blk0 (t : Fin cfg0.N) (q : Fin 4) (hq : t.val / 2 = q.val) (k : Fin 2048) (r : Fin 1408) :
    (show Vec Ideal S2048x1408 .bf16 from iblk m c 0 t) (ix2 k r) = A m c (half t.val k) (col q r) := by
  unfold A
  blk_ext [iblk, V, idx0 t, half, col, hq]
theorem blk1 (t : Fin cfg0.N) (k : Fin 2048) (j : Fin 1024) :
    (show Vec Ideal S2048x1024 .bf16 from iblk m c 1 t) (ix2 k j) = B m c (half t.val k) j := by
  unfold B
  blk_ext [iblk, V, idx1 t, half]

/-- What the first of a block's two points leaves in the accumulator. -/
theorem acc_eq (t : Fin cfg0.N) (h : t.val % 2 = 0) :
    (outsAt0 m c t.val t.isLt).2 = k0_pay2 k0_pay1 (iblk m c 0 t) (iblk m c 1 t) := by
  rw [outsAt0_A m c t h (by omega)]
  dsimp only
  rw [first]
theorem acc_at (t : Fin cfg0.N) (h : t.val % 2 = 0) (q : Fin 4) (hq : t.val / 2 = q.val) (r : Fin 1408) (j : Fin 1024) :
    (outsAt0 m c t.val t.isLt).2 (ix2 r j) = ∑ k : Fin 2048, A m c (half 0 k) (col q r) * B m c (half 0 k) j := by
  have e : half t.val = half 0 := funext fun k => Fin.ext (by show 2048 * (t.val % 2) + _ = 2048 * (0 % 2) + _; rw [h])
  rw [acc_eq m c t h, step_at _ _ _ r j _ _ (fun k => blk0 m c t q hq k r) (fun k => blk1 m c t k j), pay1_at, zero_add, e]

/-- What the second leaves in the output block. -/
theorem out_eq (t : Fin cfg0.N) (h : t.val % 2 = 1) : (outsAt0 m c t.val t.isLt).1 =
    k0_pay3 (k0_pay2 (outsAt0 m c (t.val - 1) (Nat.lt_of_le_of_lt (Nat.sub_le _ _) t.isLt)).2 (iblk m c 0 t) (iblk m c 1 t)) := by
  rw [outsAt0_B m c t (by omega) h]
  dsimp only
  rw [second]
theorem out_at (t : Fin cfg0.N) (h : t.val % 2 = 1) (q : Fin 4) (hq : t.val / 2 = q.val) (r : Fin 1408) (j : Fin 1024) :
    (outsAt0 m c t.val t.isLt).1 (ix3 0 r j) = ∑ k : Fin 4096, A m c k (col q r) * B m c k j := by
  have e : half t.val = half 1 := funext fun k => Fin.ext (by show 2048 * (t.val % 2) + _ = 2048 * (1 % 2) + _; rw [h])
  rw [out_eq m c t h, pay3_at, step_at _ _ _ r j _ _ (fun k => blk0 m c t q hq k r) (fun k => blk1 m c t k j), e,
    acc_at m c ⟨t.val - 1, lt_of_le_of_lt (Nat.sub_le _ _) t.isLt⟩ (by dsimp only; omega) q (by dsimp only; omega) r j]
  exact (Fin.sum_univ_add (a := 2048) (b := 2048) (fun k : Fin (2048 + 2048) => A m c k (col q r) * B m c k j)).symm

/-- The result array after the run. -/
theorem result (q : Fin 4) (r : Fin 1408) (j : Fin 1024) :
    Value.G2 m c (ix3 0 (col q r) j) = (∑ k : Fin 4096, A m c k (col q r)
      * B m c k j : EReal) := by
  have hr : Value.run2Of (ix3 0 (col q r) j) = q.val := by
    show 4 * (0 / 1 - 0) + 1 * ((1408 * q.val + r.val) / 1408 - 0) + 1 * (j.val / 1024 - 0) = q.val
    omega
  have hl : Value.loc2Of (ix3 0 (col q r) j) = ix3 0 r j := by
    funext a; apply Fin.ext
    match a with
    | ⟨0, _⟩ => rfl
    | ⟨1, _⟩ => show (1408 * q.val + r.val) % 1408 = r.val; omega
    | ⟨2, _⟩ => show j.val % 1024 = j.val; omega
  have hp : Value.pt2Of (ix3 0 (col q r) j) = 2 * q.val + 1 := by
    show 2 * Value.run2Of _ + 1 = _; rw [hr]
  have hlt : 2 * q.val + 1 < cfg0.N := lt_of_lt_of_eq (show 2 * q.val + 1 < 8 by omega) N_0.symm
  unfold Value.G2
  rw [dif_pos (by rw [hp]; exact hlt), hl, Value.fold0_congr m c _ _ _ (by rw [Nat.zero_add]; exact hlt) hp, ← Value.outsAt0_sweep m c _ hlt]
  exact out_at m c ⟨2 * q.val + 1, hlt⟩ (by dsimp only; omega) q (by dsimp only; omega) r j

/-- The block of a column, and its place in it. -/
theorem col_of (k : Fin 5632) : col ⟨k.val / 1408, by omega⟩ ⟨k.val % 1408, by omega⟩ = k :=
  Fin.ext (by show 1408 * (k.val / 1408) + k.val % 1408 = k.val; omega)

/-- The reference's result. -/
theorem reference (x0 : (⟨Cert.Reference3Ideal.S4096x5632, .bf16⟩ : BufTy).Contents (Elt Ideal))
    (x1 : (⟨Cert.Reference3Ideal.S4096x1024, .bf16⟩ : BufTy).Contents (Elt Ideal)) (k : Fin 5632) (j : Fin 1024) :
    Cert.Reference3Ideal.Read.val_main_v8 (F := Ideal) x0 x1 (ix3 0 k j) = (∑ r : Fin 4096, x0 (ix2 r k) * x1 (ix2 r j) : EReal) := by
  pointwise [Cert.Reference3Ideal.Read.val_main_v8, Cert.Reference3Ideal.Read.val_main_v7, Cert.Reference3Ideal.Read.val_main_v6,
    Cert.Reference3Ideal.Read.val_main_v5, Cert.Reference3Ideal.Read.val_main_v4, Cert.Reference3Ideal.Read.val_main_v1,
    Cert.Reference3Ideal.Read.val_main_v0]

/-- The value claim. -/
theorem algebraic : Cert.algebraic_Kernel3Ideal_Reference3Ideal (hKernel3Ideal := Cert.Kernel3Ideal.Gen.facts)
    (hReference3Ideal := Cert.Reference3Ideal.Gen.facts) := by
  intro m g m' g' _ hag
  refine ⟨fun c => Value.G2 m c, Value.run m g, ?_⟩
  refine (θ_run _ _ _).mono (fun r h c => ?_) (Cert.Reference3Ideal.Value.run (F := Ideal) m' g')
  obtain ⟨a0, a1⟩ := hag c
  obtain ⟨h0, hargs⟩ := h c
  refine ⟨h0.trans ((Cert.Reference3Ideal.Read.val_main_v8_eq _ _).trans ?_), hargs⟩
  funext x
  rw [eq_ix3 x, Subsingleton.elim (α := Fin 1) (x 0) 0, ← col_of (x 1)]
  refine (reference _ _ _ _).trans ?_
  rw [a0, a1]
  exact (result m c _ _ _).symm

end Cert.Kernel3Ideal.Dw

end
-- ==== Proof.Parts.lean ====
module

public import proofs.«01_k».proof.Proof.Consts

@[expose] public section

noncomputable section

/-! The 3840 columns of the input projection as the five parts they are split into. -/

namespace Cert.Parts

/-- Column `k` of the part of `n` columns that begins at `o`. -/
def off (o n : ℕ) (h : o + n ≤ 3840) (k : Fin n) : Fin 3840 := ⟨o + k.val, by omega⟩

/-- Five parts side by side. -/
def cat {α : Type} (f0 : Fin 768 → α) (f1 f2 : Fin 512 → α) (f3 f4 : Fin 1024 → α) (k : Fin 3840) : α :=
  if h0 : k.val < 768 then f0 ⟨k.val, h0⟩ else if h1 : k.val - 768 < 512 then f1 ⟨k.val - 768, h1⟩
  else if h2 : k.val - 768 - 512 < 512 then f2 ⟨k.val - 768 - 512, h2⟩
  else if h3 : k.val - 768 - 512 - 512 < 1024 then f3 ⟨k.val - 768 - 512 - 512, h3⟩
  else f4 ⟨k.val - 768 - 512 - 512 - 1024, by omega⟩

section
variable {α : Type} (f0 : Fin 768 → α) (f1 f2 : Fin 512 → α) (f3 f4 : Fin 1024 → α)

theorem cat_0 (k : Fin 768) : cat f0 f1 f2 f3 f4 (off 0 768 (by decide) k) = f0 k := by
  unfold cat off
  rw [dif_pos (by dsimp only; omega)]
  exact congrArg f0 (Fin.ext (Nat.zero_add _))
theorem cat_1 (k : Fin 512) : cat f0 f1 f2 f3 f4 (off 768 512 (by decide) k) = f1 k := by
  unfold cat off
  rw [dif_neg (by dsimp only; omega), dif_pos (by dsimp only; omega)]
  exact congrArg f1 (Fin.ext (by dsimp only; omega))
theorem cat_2 (k : Fin 512) : cat f0 f1 f2 f3 f4 (off 1280 512 (by decide) k) = f2 k := by
  unfold cat off
  rw [dif_neg (by dsimp only; omega), dif_neg (by dsimp only; omega), dif_pos (by dsimp only; omega)]
  exact congrArg f2 (Fin.ext (by dsimp only; omega))
theorem cat_3 (k : Fin 1024) : cat f0 f1 f2 f3 f4 (off 1792 1024 (by decide) k) = f3 k := by
  unfold cat off
  rw [dif_neg (by dsimp only; omega), dif_neg (by dsimp only; omega), dif_neg (by dsimp only; omega), dif_pos (by dsimp only; omega)]
  exact congrArg f3 (Fin.ext (by dsimp only; omega))
theorem cat_4 (k : Fin 1024) : cat f0 f1 f2 f3 f4 (off 2816 1024 (by decide) k) = f4 k := by
  unfold cat off
  rw [dif_neg (by dsimp only; omega), dif_neg (by dsimp only; omega), dif_neg (by dsimp only; omega), dif_neg (by dsimp only; omega)]
  exact congrArg f4 (Fin.ext (by dsimp only; omega))
end

/-- A sum over all columns is the sum of the parts' sums. -/
theorem sum_parts {M : Type} [AddCommMonoid M] (g : Fin 3840 → M) : ∑ k, g k = (∑ k, g (off 0 768 (by decide) k))
    + (∑ k, g (off 768 512 (by decide) k)) + (∑ k, g (off 1280 512 (by decide) k)) + (∑ k, g (off 1792 1024 (by decide) k))
    + ∑ k, g (off 2816 1024 (by decide) k) := by
  refine (Fin.sum_univ_add (a := 2816) (b := 1024) g).trans (congrArg₂ _ ?_ rfl)
  refine (Fin.sum_univ_add (a := 1792) (b := 1024) _).trans (congrArg₂ _ ?_ rfl)
  refine (Fin.sum_univ_add (a := 1280) (b := 512) _).trans (congrArg₂ _ ?_ rfl)
  refine (Fin.sum_univ_add (a := 768) (b := 512) _).trans (congrArg₂ _ ?_ rfl)
  exact Finset.sum_congr rfl fun k _ => congrArg g (Fin.ext (Nat.zero_add _).symm)

/-- A sum of products against five parts side by side. -/
theorem sum_cat {M : Type} [AddCommMonoid M] [Mul M] (f0 : Fin 768 → M) (f1 f2 : Fin 512 → M) (f3 f4 : Fin 1024 → M)
    (w : Fin 3840 → M) : ∑ k, cat f0 f1 f2 f3 f4 k * w k = (∑ k, f0 k * w (off 0 768 (by decide) k))
    + (∑ k, f1 k * w (off 768 512 (by decide) k)) + (∑ k, f2 k * w (off 1280 512 (by decide) k))
    + (∑ k, f3 k * w (off 1792 1024 (by decide) k)) + ∑ k, f4 k * w (off 2816 1024 (by decide) k) := by
  rw [sum_parts]
  simp only [cat_0, cat_1, cat_2, cat_3, cat_4]

end Cert.Parts

end
-- ==== Proof.MixBody.lean ====
module

public import proofs.«01_k».proof.Proof.NormSpec
public import proofs.«01_k».proof.Proof.Parts
public import proofs.«01_k».proof.Proof.Gen.Kernel4Ideal.Value
public import Idealize.ShloMosaic.Lib.Pointwise
public import Idealize.ShloMosaic.Lib.Pipeline.ValueKit
public import Idealize.ShloMosaic.Lib.Claim

@[expose] public section

set_option maxRecDepth 16384

noncomputable section

/-! What the body of the mixer norm's gradient leaves in its outputs, where its inputs hold real numbers. -/

namespace Cert.Kernel4Ideal.Mix

open Cert.Kernel4Ideal Cert.Kernel4Ideal.Gen Cert.Consts Cert.NormSpec Cert.Parts Idealize.ShloMosaic Idealize.ShloMosaic.TcCoe
  Idealize.SL.Sem

theorem hz2 : (![0, 0] : Fin 2 → Nat) = fun _ => 0 := funext fun a => by fin_cases a <;> rfl

section product
variable (v3 : Vec Ideal S512x768 .bf16) (v4 : Vec Ideal S768x1024 .bf16) (v6 v10 : Vec Ideal S512x512 .bf16)
  (v7 v11 v14 v18 : Vec Ideal S512x1024 .bf16) (v15 v19 : Vec Ideal S1024x1024 .bf16)
variable (D0 : Fin 512 → Fin 768 → ℝ) (D1 D2 : Fin 512 → Fin 512 → ℝ) (D3 D4 : Fin 512 → Fin 1024 → ℝ) (W : Fin 3840 → Fin 1024 → ℝ)

/-- The product of five parts side by side, part by part. -/
theorem prod_cat (a : Fin 512) (j : Fin 1024) : prod (fun a => cat (D0 a) (D1 a) (D2 a) (D3 a) (D4 a)) W a j
    = (∑ k, D0 a k * W (off 0 768 (by decide) k) j) + (∑ k, D1 a k * W (off 768 512 (by decide) k) j)
      + (∑ k, D2 a k * W (off 1280 512 (by decide) k) j) + (∑ k, D3 a k * W (off 1792 1024 (by decide) k) j)
      + ∑ k, D4 a k * W (off 2816 1024 (by decide) k) j := by
  unfold prod
  exact sum_cat (D0 a) (D1 a) (D2 a) (D3 a) (D4 a) fun k => W k j

/-- The five products' sum is the product of the five parts side by side. -/
theorem p7 (h3 : ∀ a k, v3 (ix2 a k) = ((D0 a k : ℝ) : EReal)) (h6 : ∀ a k, v6 (ix2 a k) = ((D1 a k : ℝ) : EReal))
    (h10 : ∀ a k, v10 (ix2 a k) = ((D2 a k : ℝ) : EReal)) (h14 : ∀ a k, v14 (ix2 a k) = ((D3 a k : ℝ) : EReal))
    (h18 : ∀ a k, v18 (ix2 a k) = ((D4 a k : ℝ) : EReal))
    (h4 : ∀ k j, v4 (ix2 k j) = ((W (off 0 768 (by decide) k) j : ℝ) : EReal))
    (h7 : ∀ k j, v7 (ix2 k j) = ((W (off 768 512 (by decide) k) j : ℝ) : EReal))
    (h11 : ∀ k j, v11 (ix2 k j) = ((W (off 1280 512 (by decide) k) j : ℝ) : EReal))
    (h15 : ∀ k j, v15 (ix2 k j) = ((W (off 1792 1024 (by decide) k) j : ℝ) : EReal))
    (h19 : ∀ k j, v19 (ix2 k j) = ((W (off 2816 1024 (by decide) k) j : ℝ) : EReal)) (a : Fin 512) (j : Fin 1024) :
    k0_pay7 v3 v4 v6 v7 v10 v11 v14 v15 v18 v19 (ix2 a j)
      = ((prod (fun a => cat (D0 a) (D1 a) (D2 a) (D3 a) (D4 a)) W a j : ℝ) : EReal) := by
  rw [prod_cat]
  pointwise [k0_pay7]
  simp only [h3, h4, h6, h7, h10, h11, h14, h15, h18, h19, ← EReal.coe_mul, coe_sum', ← EReal.coe_add]
end product

section payloads
variable (v21 : FVec Ideal S512x1024 .f32) (v22 v44 : Vec Ideal S512x1024 .f32) (v33 v40 : Vec Ideal S1x1024 .f32)
variable (D X P : Fin 512 → Fin 1024 → ℝ) (G A : Fin 1024 → ℝ)

variable (h21 : ∀ a j, v21 (ix2 a j) = ((D a j : ℝ) : EReal))
  (h22 : ∀ a j, v22 (ix2 a j) = ((X a j : ℝ) : EReal)) (h44 : ∀ a j, v44 (ix2 a j) = ((P a j : ℝ) : EReal))
  (h40 : ∀ j, v40 (ix2 0 j) = ((G j : ℝ) : EReal)) (h33 : ∀ j, v33 (ix2 0 j) = ((A j : ℝ) : EReal))

include h22 in
/-- The inverse root. -/
theorem p1 (a : Fin 512) : k0_pay1 (k0_pay8 v22) (k0_pay9 (F := Ideal)) (ix2 a 0) = ((rr (X a) : ℝ) : EReal) := by
  pointwise [k0_pay1, k0_pay8, k0_pay9]
  simp only [h22, ← EReal.coe_mul]
  rw [coe_sum', w_1024, w_eps, div_real _ _ (by norm_num), ← EReal.coe_add]; exact rsqrt_pos (ms_pos (X a))
include h22 in
/-- The normed row. -/
theorem p2 (a : Fin 512) (j : Fin 1024) : k0_pay2 v22 (k0_pay8 v22) (k0_pay9 (F := Ideal)) (ix2 a j)
    = ((X a j * rr (X a) : ℝ) : EReal) := by
  pointwise [k0_pay2]
  rw [h22, p1 v22 X h22, ← EReal.coe_mul]
include h21 h22 h33 in
/-- The gain's gradient after a point. -/
theorem p3 (j : Fin 1024) : k0_pay3 v21 v22 (k0_pay8 v22) (k0_pay9 (F := Ideal)) v33 (ix2 0 j)
    = ((A j + ∑ a, D a j * (X a j * rr (X a)) : ℝ) : EReal) := by
  pointwise [k0_pay3]
  simp only [h33, h21, p2 v22 X h22, ← EReal.coe_mul]
  rw [coe_sum', ← EReal.coe_add]
include h21 h22 h40 h44 in
/-- The row's gradient. -/
theorem p4 (a : Fin 512) (j : Fin 1024) : k0_pay4 v21 v22 (k0_pay8 v22) (k0_pay9 (F := Ideal)) v40 v44 (ix2 a j)
    = ((dx (D a) (X a) G (P a) j : ℝ) : EReal) := by
  pointwise [k0_pay4]
  simp only [h21, h40, h44, p1 v22 X h22, p2 v22 X h22, ← EReal.coe_mul]
  rw [coe_sum', w_1024, div_real _ _ (by norm_num)]
  simp only [← EReal.coe_mul, ← EReal.coe_add, ← EReal.coe_sub]
  rfl
include h21 h22 h40 h44 in
/-- The same, rounded. -/
theorem p5 (a : Fin 512) (j : Fin 1024) : k0_pay5 v21 v22 (k0_pay8 v22) (k0_pay9 (F := Ideal)) v40 v44 (ix2 a j)
    = ((dx (D a) (X a) G (P a) j : ℝ) : EReal) := by
  pointwise [k0_pay5]
  exact p4 v21 v22 v44 v40 D X P G h21 h22 h44 h40 a j
/-- The gain's gradient before the first point. -/
theorem p6 (j : Fin 1024) : k0_pay6 (F := Ideal) (ix2 0 j) = ((0 : ℝ) : EReal) := by
  pointwise [k0_pay6]
  exact EReal.coe_zero.symm
end payloads

section pieces
variable (x0 : Vec Ideal S512x768 .bf16) (x1 x2 : Vec Ideal S512x512 .bf16) (x3 x4 : Vec Ideal S512x1024 .bf16)
  (x5 : Vec Ideal S3840x1024 .bf16)

/-- The sum of the five products, each against its rows of the weight. -/
def dh : FVec Ideal S512x1024 .f32 :=
  k0_pay7 x0 (View.ld x5 (Rect.unit (s := S3840x1024) ![0, 0] S768x1024.size inb_S3840x1024_S768x1024_0_0))
    x1 (View.ld x5 (Rect.unit (s := S3840x1024) ![768, 0] S512x1024.size inb_S3840x1024_S512x1024_768_0))
    x2 (View.ld x5 (Rect.unit (s := S3840x1024) ![1280, 0] S512x1024.size inb_S3840x1024_S512x1024_1280_0))
    x3 (View.ld x5 (Rect.unit (s := S3840x1024) ![1792, 0] S1024x1024.size inb_S3840x1024_S1024x1024_1792_0))
    x4 (View.ld x5 (Rect.unit (s := S3840x1024) ![2816, 0] S1024x1024.size inb_S3840x1024_S1024x1024_2816_0))

/-- Rows of the weight from row `o` on. -/
theorem rows_at (o n : ℕ) (ho : o + n ≤ 3840) (inb : ∀ a, (![o, 0] : Fin 2 → ℕ) a + (![n, 1024] : Fin 2 → ℕ) a ≤ S3840x1024.size a)
    (k : Fin n) (j : Fin 1024) :
    View.ld x5 (Rect.unit (s := S3840x1024) ![o, 0] ![n, 1024] inb) (ix2 k j) = x5 (ix2 (off o n ho k) j) := by
  rw [View.ld_unit]
  refine congrArg x5 (funext fun a => Fin.ext ?_)
  match a with
  | ⟨0, _⟩ => rfl
  | ⟨1, _⟩ => exact Nat.zero_add _

theorem dh_at (D0 : Fin 512 → Fin 768 → ℝ) (D1 D2 : Fin 512 → Fin 512 → ℝ) (D3 D4 : Fin 512 → Fin 1024 → ℝ) (W : Fin 3840 → Fin 1024 → ℝ)
    (h0 : ∀ a k, x0 (ix2 a k) = ((D0 a k : ℝ) : EReal)) (h1 : ∀ a k, x1 (ix2 a k) = ((D1 a k : ℝ) : EReal))
    (h2 : ∀ a k, x2 (ix2 a k) = ((D2 a k : ℝ) : EReal)) (h3 : ∀ a k, x3 (ix2 a k) = ((D3 a k : ℝ) : EReal))
    (h4 : ∀ a k, x4 (ix2 a k) = ((D4 a k : ℝ) : EReal)) (h5 : ∀ k j, x5 (ix2 k j) = ((W k j : ℝ) : EReal)) (a : Fin 512) (j : Fin 1024) :
    dh x0 x1 x2 x3 x4 x5 (ix2 a j) = ((prod (fun a => cat (D0 a) (D1 a) (D2 a) (D3 a) (D4 a)) W a j : ℝ) : EReal) :=
  p7 _ _ _ _ _ _ _ _ _ _ D0 D1 D2 D3 D4 W h0 h1 h2 h3 h4
    (fun k j => (rows_at x5 0 768 (by decide) _ k j).trans (h5 _ _)) (fun k j => (rows_at x5 768 512 (by decide) _ k j).trans (h5 _ _))
    (fun k j => (rows_at x5 1280 512 (by decide) _ k j).trans (h5 _ _)) (fun k j => (rows_at x5 1792 1024 (by decide) _ k j).trans (h5 _ _))
    (fun k j => (rows_at x5 2816 1024 (by decide) _ k j).trans (h5 _ _)) a j

variable (c : Dev nD) (i : grid0.Coords) (a1 : Memref sig .tc .vmem S512x768 .bf16) (h1 : a1.IsWhole)
  (a2 : Memref sig .tc .vmem S512x512 .bf16) (h2 : a2.IsWhole)
  (a3 : Memref sig .tc .vmem S512x512 .bf16) (h3 : a3.IsWhole)
  (a4 : Memref sig .tc .vmem S512x1024 .bf16) (h4 : a4.IsWhole)
  (a5 : Memref sig .tc .vmem S512x1024 .bf16) (h5 : a5.IsWhole)
  (a6 : Memref sig .tc .vmem S3840x1024 .bf16) (h6 : a6.IsWhole)
  (a7 : Memref sig .tc .vmem S512x1024 .f32) (h7 : a7.IsWhole)
  (a8 : Memref sig .tc .vmem S1x1024 .f32) (h8 : a8.IsWhole)
  (a9 : Memref sig .tc .vmem S512x1024 .f32) (h9 : a9.IsWhole)
  (a10 : Memref sig .tc .vmem S512x1024 .f32) (h10 : a10.IsWhole)
  (a11 : Memref sig .tc .vmem S512x1024 .bf16) (h11 : a11.IsWhole)
  (a12 : Memref sig .tc .vmem S1x1024 .f32) (h12 : a12.IsWhole)
  (x6 : Vec Ideal S512x1024 .f32) (x7 : Vec Ideal S1x1024 .f32) (x8 : Vec Ideal S512x1024 .f32) (xo : Vec Ideal S1x1024 .f32)

/-! At the first point the gain's gradient starts from zero, at a later one from what the point before left. -/

theorem A9 (hc : cond0_0 i) : out0_A_9 c i a1 h1 a2 h2 a3 h3 a4 h4 a5 h5 a6 h6 a7 h7 a8 h8 a9 h9 a10 h10 a11 h11 a12 h12 hc x0 x1 x2 x3 x4 x5 x6 x7 x8
    = k0_pay4 (dh x0 x1 x2 x3 x4 x5) x6 (k0_pay8 x6) (k0_pay9 (F := Ideal)) x7 x8 := by
  unfold out0_A_9
  rw [View.read_writes_eq_canon _ _ _ (cover0_A_9 c i a1 h1 a2 h2 a3 h3 a4 h4 a5 h5 a6 h6 a7 h7 a8 h8 a9 h9 a10 h10 a11 h11 a12 h12 hc x0 x1 x2 x3 x4 x5 x6 x7 x8)]
  unfold kernelRun0_A
  dsimp only
  sl_unfold_words
  rw [View.canon_unit_zero (S := S512x1024) hz2]
  simp only [View.readAt_eq_ld, h1.read_unread, h2.read_unread, h3.read_unread, h4.read_unread, h5.read_unread, h6.read_unread, h7.read_unread,
    h8.read_unread, h9.read_unread, View.ld_unit_zero (S := S512x768) hz2, View.ld_unit_zero (S := S512x512) hz2, View.ld_unit_zero (S := S512x1024) hz2,
    View.ld_unit_zero (S := S1x1024) hz2, dh]

theorem A10 (hc : cond0_0 i) : out0_A_10 c i a1 h1 a2 h2 a3 h3 a4 h4 a5 h5 a6 h6 a7 h7 a8 h8 a9 h9 a10 h10 a11 h11 a12 h12 hc x0 x1 x2 x3 x4 x5 x6 x7 x8
    = k0_pay5 (dh x0 x1 x2 x3 x4 x5) x6 (k0_pay8 x6) (k0_pay9 (F := Ideal)) x7 x8 := by
  unfold out0_A_10
  rw [View.read_writes_eq_canon _ _ _ (cover0_A_10 c i a1 h1 a2 h2 a3 h3 a4 h4 a5 h5 a6 h6 a7 h7 a8 h8 a9 h9 a10 h10 a11 h11 a12 h12 hc x0 x1 x2 x3 x4 x5 x6 x7 x8)]
  unfold kernelRun0_A
  dsimp only
  sl_unfold_words
  rw [View.canon_unit_zero (S := S512x1024) hz2]
  simp only [View.readAt_eq_ld, h1.read_unread, h2.read_unread, h3.read_unread, h4.read_unread, h5.read_unread, h6.read_unread, h7.read_unread,
    h8.read_unread, h9.read_unread, View.ld_unit_zero (S := S512x768) hz2, View.ld_unit_zero (S := S512x512) hz2, View.ld_unit_zero (S := S512x1024) hz2,
    View.ld_unit_zero (S := S1x1024) hz2, dh]

theorem A11 (hc : cond0_0 i) : out0_A_11 c i a1 h1 a2 h2 a3 h3 a4 h4 a5 h5 a6 h6 a7 h7 a8 h8 a9 h9 a10 h10 a11 h11 a12 h12 hc x0 x1 x2 x3 x4 x5 x6 x7 x8
    = k0_pay3 (dh x0 x1 x2 x3 x4 x5) x6 (k0_pay8 x6) (k0_pay9 (F := Ideal)) (k0_pay6 (F := Ideal)) := by
  unfold out0_A_11
  rw [View.read_writes_eq_canon _ _ _ (cover0_A_11 c i a1 h1 a2 h2 a3 h3 a4 h4 a5 h5 a6 h6 a7 h7 a8 h8 a9 h9 a10 h10 a11 h11 a12 h12 hc x0 x1 x2 x3 x4 x5 x6 x7 x8)]
  unfold kernelRun0_A
  dsimp only
  sl_unfold_words
  rw [View.canon_cons_unit_zero (S := S1x1024) hz2, View.readCov_unit_zero (S := S1x1024) _ hz2]
  simp only [View.readAt_eq_ld, h1.read_unread, h2.read_unread, h3.read_unread, h4.read_unread, h5.read_unread, h6.read_unread, h7.read_unread,
    h8.read_unread, h9.read_unread, View.ld_unit_zero (S := S512x768) hz2, View.ld_unit_zero (S := S512x512) hz2, View.ld_unit_zero (S := S512x1024) hz2,
    View.ld_unit_zero (S := S1x1024) hz2, dh]

theorem B9 (hc : ¬cond0_0 i) : out0_B_9 c i a1 h1 a2 h2 a3 h3 a4 h4 a5 h5 a6 h6 a7 h7 a8 h8 a9 h9 a10 h10 a11 h11 a12 h12 hc x0 x1 x2 x3 x4 x5 x6 x7 x8 xo
    = k0_pay4 (dh x0 x1 x2 x3 x4 x5) x6 (k0_pay8 x6) (k0_pay9 (F := Ideal)) x7 x8 := by
  unfold out0_B_9
  rw [View.read_writes_eq_canon _ _ _ (cover0_B_9 c i a1 h1 a2 h2 a3 h3 a4 h4 a5 h5 a6 h6 a7 h7 a8 h8 a9 h9 a10 h10 a11 h11 a12 h12 hc x0 x1 x2 x3 x4 x5 x6 x7 x8 xo)]
  unfold kernelRun0_B
  dsimp only
  sl_unfold_words
  rw [View.canon_unit_zero (S := S512x1024) hz2]
  simp only [View.readAt_eq_ld, h1.read_unread, h2.read_unread, h3.read_unread, h4.read_unread, h5.read_unread, h6.read_unread, h7.read_unread,
    h8.read_unread, h9.read_unread, View.ld_unit_zero (S := S512x768) hz2, View.ld_unit_zero (S := S512x512) hz2, View.ld_unit_zero (S := S512x1024) hz2,
    View.ld_unit_zero (S := S1x1024) hz2, dh]

theorem B10 (hc : ¬cond0_0 i) : out0_B_10 c i a1 h1 a2 h2 a3 h3 a4 h4 a5 h5 a6 h6 a7 h7 a8 h8 a9 h9 a10 h10 a11 h11 a12 h12 hc x0 x1 x2 x3 x4 x5 x6 x7 x8 xo
    = k0_pay5 (dh x0 x1 x2 x3 x4 x5) x6 (k0_pay8 x6) (k0_pay9 (F := Ideal)) x7 x8 := by
  unfold out0_B_10
  rw [View.read_writes_eq_canon _ _ _ (cover0_B_10 c i a1 h1 a2 h2 a3 h3 a4 h4 a5 h5 a6 h6 a7 h7 a8 h8 a9 h9 a10 h10 a11 h11 a12 h12 hc x0 x1 x2 x3 x4 x5 x6 x7 x8 xo)]
  unfold kernelRun0_B
  dsimp only
  sl_unfold_words
  rw [View.canon_unit_zero (S := S512x1024) hz2]
  simp only [View.readAt_eq_ld, h1.read_unread, h2.read_unread, h3.read_unread, h4.read_unread, h5.read_unread, h6.read_unread, h7.read_unread,
    h8.read_unread, h9.read_unread, View.ld_unit_zero (S := S512x768) hz2, View.ld_unit_zero (S := S512x512) hz2, View.ld_unit_zero (S := S512x1024) hz2,
    View.ld_unit_zero (S := S1x1024) hz2, dh]

theorem B11 (hc : ¬cond0_0 i) : out0_B_11 c i a1 h1 a2 h2 a3 h3 a4 h4 a5 h5 a6 h6 a7 h7 a8 h8 a9 h9 a10 h10 a11 h11 a12 h12 hc x0 x1 x2 x3 x4 x5 x6 x7 x8 xo
    = k0_pay3 (dh x0 x1 x2 x3 x4 x5) x6 (k0_pay8 x6) (k0_pay9 (F := Ideal)) xo := by
  unfold out0_B_11
  rw [View.read_writes_eq_canon _ _ _ (cover0_B_11 c i a1 h1 a2 h2 a3 h3 a4 h4 a5 h5 a6 h6 a7 h7 a8 h8 a9 h9 a10 h10 a11 h11 a12 h12 hc x0 x1 x2 x3 x4 x5 x6 x7 x8 xo)]
  unfold kernelRun0_B
  dsimp only
  sl_unfold_words
  rw [View.canon_unit_zero (S := S1x1024) hz2]
  simp only [View.readAt_eq_ld, h1.read_unread, h2.read_unread, h3.read_unread, h4.read_unread, h5.read_unread, h6.read_unread, h7.read_unread,
    h8.read_unread, h9.read_unread, h12.read_unread, View.ld_unit_zero (S := S512x768) hz2, View.ld_unit_zero (S := S512x512) hz2, View.ld_unit_zero (S := S512x1024) hz2,
    View.ld_unit_zero (S := S1x1024) hz2, dh]

end pieces

end Cert.Kernel4Ideal.Mix

end
-- ==== Proof.MixArr.lean ====
module

public import proofs.«01_k».proof.Proof.MixBody

@[expose] public section

set_option maxRecDepth 16384

noncomputable section

/-! The three result arrays of the mixer norm's gradient after the run, where every argument holds real numbers. -/

namespace Cert.Kernel4Ideal.Mix

open Cert.Kernel4Ideal Cert.Kernel4Ideal.Gen Cert.Consts Cert.NormSpec Cert.Parts Idealize.ShloMosaic Idealize.ShloMosaic.TcCoe Idealize.SL.Sem

variable (m : (ℓ : Loc nD τ sig) → Buf (Elt Ideal) ℓ) (c : Dev nD)
variable (e0 : Fin 4096 → Fin 768 → ℝ) (e1 e2 : Fin 4096 → Fin 512 → ℝ) (e3 e4 : Fin 4096 → Fin 1024 → ℝ) (fw : Fin 3840 → Fin 1024 → ℝ)
  (fx : Fin 4096 → Fin 1024 → ℝ) (fg : Fin 1024 → ℝ) (fp : Fin 4096 → Fin 1024 → ℝ)

/-- The arguments hold these real numbers. -/
structure Args : Prop where
  h0 : ∀ r k, m ((c : Thread nD τ).loc main_arg0) (ix2 r k) = ((e0 r k : ℝ) : EReal)
  h1 : ∀ r k, m ((c : Thread nD τ).loc main_arg1) (ix2 r k) = ((e1 r k : ℝ) : EReal)
  h2 : ∀ r k, m ((c : Thread nD τ).loc main_arg2) (ix2 r k) = ((e2 r k : ℝ) : EReal)
  h3 : ∀ r k, m ((c : Thread nD τ).loc main_arg3) (ix2 r k) = ((e3 r k : ℝ) : EReal)
  h4 : ∀ r k, m ((c : Thread nD τ).loc main_arg4) (ix2 r k) = ((e4 r k : ℝ) : EReal)
  hw : ∀ k j, m ((c : Thread nD τ).loc main_arg5) (ix2 k j) = ((fw k j : ℝ) : EReal)
  hx : ∀ r j, m ((c : Thread nD τ).loc main_arg6) (ix2 r j) = ((fx r j : ℝ) : EReal)
  hg : ∀ j, m ((c : Thread nD τ).loc main_arg7) (ix1 j) = ((fg j : ℝ) : EReal)
  hp : ∀ r j, m ((c : Thread nD τ).loc main_arg8) (ix2 r j) = ((fp r j : ℝ) : EReal)

/-- The five parts of the columns, side by side. -/
abbrev fd (r : Fin 4096) : Fin 3840 → ℝ := cat (e0 r) (e1 r) (e2 r) (e3 r) (e4 r)

/-- A grid point's number. -/
def pt (t : Fin cfg0.N) : Fin 8 := ⟨t.val, lt_of_lt_of_eq t.isLt N_0⟩

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx6 : ∀ t : Fin cfg0.N, win0_6.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx5 : ∀ t : Fin cfg0.N, win0_5.index t = ![0, 0] := (by decide +kernel : ∀ t : Fin grid0.N, _)
theorem idx7 : ∀ t : Fin cfg0.N, win0_7.index t = ![0, 0] := (by decide +kernel : ∀ t : Fin grid0.N, _)
theorem blk0 (t : Fin cfg0.N) (a : Fin 512) (k : Fin 768) :
    (show Vec Ideal S512x768 .bf16 from iblk m c 0 t) (ix2 a k) = m ((c : Thread nD τ).loc main_arg0) (ix2 (grow (pt t) a) k) := by
  blk_ext [iblk, V, idx0 t, grow, pt]
theorem blk1 (t : Fin cfg0.N) (a : Fin 512) (k : Fin 512) :
    (show Vec Ideal S512x512 .bf16 from iblk m c 1 t) (ix2 a k) = m ((c : Thread nD τ).loc main_arg1) (ix2 (grow (pt t) a) k) := by
  blk_ext [iblk, V, idx1 t, grow, pt]
theorem blk2 (t : Fin cfg0.N) (a : Fin 512) (k : Fin 512) :
    (show Vec Ideal S512x512 .bf16 from iblk m c 2 t) (ix2 a k) = m ((c : Thread nD τ).loc main_arg2) (ix2 (grow (pt t) a) k) := by
  blk_ext [iblk, V, idx2 t, grow, pt]
theorem blk3 (t : Fin cfg0.N) (a : Fin 512) (k : Fin 1024) :
    (show Vec Ideal S512x1024 .bf16 from iblk m c 3 t) (ix2 a k) = m ((c : Thread nD τ).loc main_arg3) (ix2 (grow (pt t) a) k) := by
  blk_ext [iblk, V, idx3 t, grow, pt]
theorem blk4 (t : Fin cfg0.N) (a : Fin 512) (k : Fin 1024) :
    (show Vec Ideal S512x1024 .bf16 from iblk m c 4 t) (ix2 a k) = m ((c : Thread nD τ).loc main_arg4) (ix2 (grow (pt t) a) k) := by
  blk_ext [iblk, V, idx4 t, grow, pt]
theorem blk6 (t : Fin cfg0.N) (a : Fin 512) (k : Fin 1024) :
    (show Vec Ideal S512x1024 .f32 from iblk m c 6 t) (ix2 a k) = m ((c : Thread nD τ).loc main_arg6) (ix2 (grow (pt t) a) k) := by
  blk_ext [iblk, V, idx6 t, grow, pt]
theorem blk8 (t : Fin cfg0.N) (a : Fin 512) (k : Fin 1024) :
    (show Vec Ideal S512x1024 .f32 from iblk m c 8 t) (ix2 a k) = m ((c : Thread nD τ).loc main_arg8) (ix2 (grow (pt t) a) k) := by
  blk_ext [iblk, V, idx8 t, grow, pt]
theorem blk5 (t : Fin cfg0.N) (k : Fin 3840) (j : Fin 1024) :
    (show Vec Ideal S3840x1024 .bf16 from iblk m c 5 t) (ix2 k j) = m ((c : Thread nD τ).loc main_arg5) (ix2 k j) := by
  blk_ext [iblk, V, idx5 t]
theorem blk7 (t : Fin cfg0.N) (j : Fin 1024) :
    (show Vec Ideal S1x1024 .f32 from iblk m c 7 t) (ix2 0 j) = m ((c : Thread nD τ).loc main_arg7) (ix1 j) := by
  blk_simp [iblk]
  entry_read
  pointwise
  blk_ext [idx7 t]

/-- The sum of the products at a point. -/
abbrev dhAt (t : Fin cfg0.N) : FVec Ideal S512x1024 .f32 :=
  dh (iblk m c 0 t) (iblk m c 1 t) (iblk m c 2 t) (iblk m c 3 t) (iblk m c 4 t) (iblk m c 5 t)

/-! The three outputs of the body at a point. -/

theorem o9 (t : Fin cfg0.N) : (outsAt0 m c t.val t.isLt).1 = k0_pay4 (dhAt m c t) (iblk m c 6 t) (k0_pay8 (iblk m c 6 t)) (k0_pay9 (F := Ideal))
    (iblk m c 7 t) (iblk m c 8 t) := by
  by_cases h : t.val % 8 = 0
  · rw [outsAt0_A m c t h]; dsimp only; rw [A9]
  · rw [outsAt0_B m c t h]; dsimp only; rw [B9]
theorem o10 (t : Fin cfg0.N) : (outsAt0 m c t.val t.isLt).2.1 = k0_pay5 (dhAt m c t) (iblk m c 6 t) (k0_pay8 (iblk m c 6 t)) (k0_pay9 (F := Ideal))
    (iblk m c 7 t) (iblk m c 8 t) := by
  by_cases h : t.val % 8 = 0
  · rw [outsAt0_A m c t h]; dsimp only; rw [A10]
  · rw [outsAt0_B m c t h]; dsimp only; rw [B10]
theorem o11_A (t : Fin cfg0.N) (h : t.val % 8 = 0) : (outsAt0 m c t.val t.isLt).2.2
    = k0_pay3 (dhAt m c t) (iblk m c 6 t) (k0_pay8 (iblk m c 6 t)) (k0_pay9 (F := Ideal)) (k0_pay6 (F := Ideal)) := by
  rw [outsAt0_A m c t h]; dsimp only; rw [A11]
theorem o11_B (t : Fin cfg0.N) (h : ¬t.val % 8 = 0) : (outsAt0 m c t.val t.isLt).2.2
    = k0_pay3 (dhAt m c t) (iblk m c 6 t) (k0_pay8 (iblk m c 6 t)) (k0_pay9 (F := Ideal))
      (outsAt0 m c (t.val - 1) (Nat.lt_of_le_of_lt (Nat.sub_le _ _) t.isLt)).2.2 := by
  rw [outsAt0_B m c t h]; dsimp only; rw [B11]

variable {m c e0 e1 e2 e3 e4 fw fx fg fp} (H : Args m c e0 e1 e2 e3 e4 fw fx fg fp)
include H

/-! The blocks of point `t`, as real numbers. -/

theorem qd (t : Fin cfg0.N) (a : Fin 512) (j : Fin 1024) :
    dhAt m c t (ix2 a j) = ((prod (fd e0 e1 e2 e3 e4) fw (grow (pt t) a) j : ℝ) : EReal) :=
  dh_at _ _ _ _ _ _ (fun a => e0 (grow (pt t) a)) (fun a => e1 (grow (pt t) a)) (fun a => e2 (grow (pt t) a)) (fun a => e3 (grow (pt t) a))
    (fun a => e4 (grow (pt t) a)) fw (fun a k => (blk0 m c t a k).trans (H.h0 _ _)) (fun a k => (blk1 m c t a k).trans (H.h1 _ _))
    (fun a k => (blk2 m c t a k).trans (H.h2 _ _)) (fun a k => (blk3 m c t a k).trans (H.h3 _ _))
    (fun a k => (blk4 m c t a k).trans (H.h4 _ _)) (fun k j => (blk5 m c t k j).trans (H.hw _ _)) a j
theorem q6 (t : Fin cfg0.N) (a : Fin 512) (j : Fin 1024) :
    (show Vec Ideal S512x1024 .f32 from iblk m c 6 t) (ix2 a j) = ((fx (grow (pt t) a) j : ℝ) : EReal) := (blk6 m c t a j).trans (H.hx _ _)
theorem q7 (t : Fin cfg0.N) (j : Fin 1024) :
    (show Vec Ideal S1x1024 .f32 from iblk m c 7 t) (ix2 0 j) = ((fg j : ℝ) : EReal) := (blk7 m c t j).trans (H.hg _)
theorem q8 (t : Fin cfg0.N) (a : Fin 512) (j : Fin 1024) :
    (show Vec Ideal S512x1024 .f32 from iblk m c 8 t) (ix2 a j) = ((fp (grow (pt t) a) j : ℝ) : EReal) := (blk8 m c t a j).trans (H.hp _ _)

theorem at9 (t : Fin cfg0.N) (a : Fin 512) (j : Fin 1024) : (outsAt0 m c t.val t.isLt).1 (ix2 a j)
    = ((dx (prod (fd e0 e1 e2 e3 e4) fw (grow (pt t) a)) (fx (grow (pt t) a)) fg (fp (grow (pt t) a)) j : ℝ) : EReal) := by
  rw [o9]
  exact p4 _ _ _ _ (fun a => prod (fd e0 e1 e2 e3 e4) fw (grow (pt t) a)) (fun a => fx (grow (pt t) a)) (fun a => fp (grow (pt t) a)) fg
    (qd H t) (q6 H t) (q8 H t) (q7 H t) a j
theorem at10 (t : Fin cfg0.N) (a : Fin 512) (j : Fin 1024) : (outsAt0 m c t.val t.isLt).2.1 (ix2 a j)
    = ((dx (prod (fd e0 e1 e2 e3 e4) fw (grow (pt t) a)) (fx (grow (pt t) a)) fg (fp (grow (pt t) a)) j : ℝ) : EReal) := by
  rw [o10]
  exact p5 _ _ _ _ (fun a => prod (fd e0 e1 e2 e3 e4) fw (grow (pt t) a)) (fun a => fx (grow (pt t) a)) (fun a => fp (grow (pt t) a)) fg
    (qd H t) (q6 H t) (q8 H t) (q7 H t) a j
/-- The gain's gradient after point `n`. -/
theorem at11 : ∀ (n : ℕ) (h : n < cfg0.N) (j : Fin 1024), (outsAt0 m c n h).2.2 (ix2 0 j)
    = ((part (fun r => prod (fd e0 e1 e2 e3 e4) fw r j * (fx r j * rr (fx r))) n : ℝ) : EReal)
  | 0, h, j => by
    rw [← part_zero, o11_A m c ⟨0, h⟩ rfl]
    exact p3 _ _ _ (fun a => prod (fd e0 e1 e2 e3 e4) fw (grow (pt ⟨0, h⟩) a)) (fun a => fx (grow (pt ⟨0, h⟩) a)) (fun _ => 0)
      (qd H ⟨0, h⟩) (q6 H ⟨0, h⟩) p6 j
  | n + 1, h, j => by
    have hN : n + 1 < 8 := lt_of_lt_of_eq h N_0
    rw [← part_succ _ n hN, o11_B m c ⟨n + 1, h⟩ (by dsimp only; omega)]
    exact p3 _ _ _ (fun a => prod (fd e0 e1 e2 e3 e4) fw (grow (pt ⟨n + 1, h⟩) a)) (fun a => fx (grow (pt ⟨n + 1, h⟩) a))
      (fun j => part (fun r => prod (fd e0 e1 e2 e3 e4) fw r j * (fx r j * rr (fx r))) n)
      (qd H ⟨n + 1, h⟩) (q6 H ⟨n + 1, h⟩) (fun j => at11 n _ j) j

/-- The rows' gradients after the run. -/
theorem arr9 : (dats m 0 c).arrAt 9 cfg0.N
    = fun x : S4096x1024.Idx => ((dx (prod (fd e0 e1 e2 e3 e4) fw (x 0)) (fx (x 0)) fg (fp (x 0)) (x 1) : ℝ) : EReal) := by
  have key : ∀ (t : Fin cfg0.N) (y : S512x1024.Idx) (x : S4096x1024.Idx), (x 0).val = 512 * t.val + (y 0).val → (x 1).val = (y 1).val →
      (outsAt0 m c t.val t.isLt).1 y = ((dx (prod (fd e0 e1 e2 e3 e4) fw (x 0)) (fx (x 0)) fg (fp (x 0)) (x 1) : ℝ) : EReal) := fun t y x h0 h1 => by
    rw [eq_ix2 y]
    generalize y 0 = a, y 1 = j at h0 h1 ⊢
    rw [show x 0 = grow (pt t) a from Fin.ext h0, show x 1 = j from Fin.ext h1]
    exact at9 H t a j
  refine (dats m 0 c).arrAt_eq_of_covers 9 _ (by decide +kernel) fun t _ y => ?_
  blk_simp [idx9 t]
  rw [after0_9]
  refine key t _ _ ?_ ?_ <;> blk_simp [idx9 t] <;> try omega
/-- The same, rounded. -/
theorem arr10 : (dats m 0 c).arrAt 10 cfg0.N
    = fun x : S4096x1024.Idx => ((dx (prod (fd e0 e1 e2 e3 e4) fw (x 0)) (fx (x 0)) fg (fp (x 0)) (x 1) : ℝ) : EReal) := by
  have key : ∀ (t : Fin cfg0.N) (y : S512x1024.Idx) (x : S4096x1024.Idx), (x 0).val = 512 * t.val + (y 0).val → (x 1).val = (y 1).val →
      (outsAt0 m c t.val t.isLt).2.1 y = ((dx (prod (fd e0 e1 e2 e3 e4) fw (x 0)) (fx (x 0)) fg (fp (x 0)) (x 1) : ℝ) : EReal) := fun t y x h0 h1 => by
    rw [eq_ix2 y]
    generalize y 0 = a, y 1 = j at h0 h1 ⊢
    rw [show x 0 = grow (pt t) a from Fin.ext h0, show x 1 = j from Fin.ext h1]
    exact at10 H t a j
  refine (dats m 0 c).arrAt_eq_of_covers 10 _ (by decide +kernel) fun t _ y => ?_
  blk_simp [idx10 t]
  rw [after0_10]
  refine key t _ _ ?_ ?_ <;> blk_simp [idx10 t] <;> try omega
/-- The gain's gradient after the run. -/
theorem arr11 : (dats m 0 c).arrAt 11 cfg0.N = fun x : S1x1024.Idx => ((dg (prod (fd e0 e1 e2 e3 e4) fw) fx (x 1) : ℝ) : EReal) := by
  have key : ∀ x : S1x1024.Idx, (outsAt0 m c 7 (by rw [show cfg0.N = 8 from N_0]; decide)).2.2 x
      = ((dg (prod (fd e0 e1 e2 e3 e4) fw) fx (x 1) : ℝ) : EReal) := fun x => by
    rw [eq_ix2 x]
    generalize x 0 = a, x 1 = b
    obtain rfl : a = (0 : Fin 1) := Subsingleton.elim (α := Fin 1) _ _
    rw [at11 H 7 _ b, part_last]; rfl
  refine (dats m 0 c).arrAt_eq_of_after_last 11 t0_7 (by decide +kernel) _ fun y => ?_
  blk_simp
  rw [after0_11]
  exact key _

end Cert.Kernel4Ideal.Mix

end
-- ==== Proof.MixRef.lean ====
module

public import proofs.«01_k».proof.Proof.NormSpec
public import proofs.«01_k».proof.Proof.Parts
public import proofs.«01_k».proof.Proof.Gen.Reference4Ideal.Run
public import proofs.«01_k».proof.Proof.Gen.Reference4Ideal.Read
public import Idealize.ShloMosaic.Lib.Pointwise

@[expose] public section

set_option maxRecDepth 16384

noncomputable section

/-! The reference of the mixer norm's gradient at real arguments, stage by stage. -/

namespace Cert.Reference4Ideal.Mix

open Cert.Reference4Ideal Cert.Reference4Ideal.Read Cert.Consts Cert.NormSpec Cert.Parts Idealize.ShloMosaic Idealize.SL.Sem

variable (x0 : (⟨S4096x768, .bf16⟩ : BufTy).Contents (Elt Ideal))
  (x1 : (⟨S4096x512, .bf16⟩ : BufTy).Contents (Elt Ideal))
  (x2 : (⟨S4096x512, .bf16⟩ : BufTy).Contents (Elt Ideal))
  (x3 : (⟨S4096x1024, .bf16⟩ : BufTy).Contents (Elt Ideal))
  (x4 : (⟨S4096x1024, .bf16⟩ : BufTy).Contents (Elt Ideal))
  (x5 : (⟨S3840x1024, .bf16⟩ : BufTy).Contents (Elt Ideal))
  (x6 : (⟨S4096x1024, .f32⟩ : BufTy).Contents (Elt Ideal)) (x7 : (⟨S1024, .f32⟩ : BufTy).Contents (Elt Ideal))
  (x8 : (⟨S4096x1024, .f32⟩ : BufTy).Contents (Elt Ideal))
variable (e0 : Fin 4096 → Fin 768 → ℝ) (e1 e2 : Fin 4096 → Fin 512 → ℝ) (e3 e4 : Fin 4096 → Fin 1024 → ℝ) (fw : Fin 3840 → Fin 1024 → ℝ)
  (fx : Fin 4096 → Fin 1024 → ℝ) (fg : Fin 1024 → ℝ) (fp : Fin 4096 → Fin 1024 → ℝ)

/-- The arguments hold these real numbers. -/
structure Args : Prop where
  h0 : ∀ r k, x0 (ix2 r k) = ((e0 r k : ℝ) : EReal)
  h1 : ∀ r k, x1 (ix2 r k) = ((e1 r k : ℝ) : EReal)
  h2 : ∀ r k, x2 (ix2 r k) = ((e2 r k : ℝ) : EReal)
  h3 : ∀ r k, x3 (ix2 r k) = ((e3 r k : ℝ) : EReal)
  h4 : ∀ r k, x4 (ix2 r k) = ((e4 r k : ℝ) : EReal)
  hw : ∀ k j, x5 (ix2 k j) = ((fw k j : ℝ) : EReal)
  hx : ∀ r j, x6 (ix2 r j) = ((fx r j : ℝ) : EReal)
  hg : ∀ j, x7 (ix1 j) = ((fg j : ℝ) : EReal)
  hp : ∀ r j, x8 (ix2 r j) = ((fp r j : ℝ) : EReal)

/-- The five parts of the columns, side by side. -/
abbrev fd (r : Fin 4096) : Fin 3840 → ℝ := cat (e0 r) (e1 r) (e2 r) (e3 r) (e4 r)

variable {x0 x1 x2 x3 x4 x5 x6 x7 x8 e0 e1 e2 e3 e4 fw fx fg fp} (H : Args x0 x1 x2 x3 x4 x5 x6 x7 x8 e0 e1 e2 e3 e4 fw fx fg fp)
include H

/-- The mean of the squares plus the small constant. -/
theorem s11 (r : Fin 4096) : val_main_v11 (F := Ideal) x6 (ix2 r 0) = ((ms (fx r) + eps : ℝ) : EReal) := by
  pointwise [val_main_v11, val_main_v10, val_main_v9, val_main_v8, val_main_v7, val_main_v6, val_main_v5, val_main_cst, val_main_cst_0,
    val_main_cst_1]
  simp only [H.hx, ← EReal.coe_mul]
  rw [coe_sum', w_1024, w_eps, div_real _ _ (by norm_num), ← EReal.coe_add]; rfl
/-- The inverse root. -/
theorem s12 (r : Fin 4096) : val_main_v12 (F := Ideal) x6 (ix2 r 0) = ((rr (fx r) : ℝ) : EReal) := by
  pointwise [val_main_v12]
  rw [s11 H]; exact rsqrt_pos (ms_pos (fx r))
/-- The factor of the chain rule through the inverse root. -/
theorem s15 (r : Fin 4096) : val_main_v15 (F := Ideal) x6 (ix2 r 0) = ((-(1 / 2) * (rr (fx r) / (ms (fx r) + eps)) : ℝ) : EReal) := by
  pointwise [val_main_v15, val_main_v14, val_main_v13, val_main_cst_2]
  rw [s11 H, s12 H, div_real _ _ (ms_pos (fx r)).ne', w_neg_half, ← EReal.coe_mul]
/-- The normed rows. -/
theorem s17 (r : Fin 4096) (j : Fin 1024) : val_main_v17 (F := Ideal) x6 (ix2 r j) = ((fx r j * rr (fx r) : ℝ) : EReal) := by
  pointwise [val_main_v17, val_main_v16]
  rw [H.hx, s12 H, ← EReal.coe_mul]
/-- The five parts side by side. -/
theorem s29 (r : Fin 4096) (k : Fin 3840) : val_main_v29 (F := Ideal) x0 x1 x2 x3 x4 (ix2 r k)
    = ((fd e0 e1 e2 e3 e4 r k : ℝ) : EReal) := by
  unfold fd cat
  pointwise [val_main_v29, val_main_v0, val_main_v1, val_main_v2, val_main_v3, val_main_v4]
  split_ifs <;> first | exact H.h0 _ _ | exact H.h1 _ _ | exact H.h2 _ _ | exact H.h3 _ _ | exact H.h4 _ _
/-- The gradient that reaches the norm's result. -/
theorem s30 (r : Fin 4096) (j : Fin 1024) : val_main_v30 (F := Ideal) x0 x1 x2 x3 x4 x5 (ix2 r j)
    = ((prod (fd e0 e1 e2 e3 e4) fw r j : ℝ) : EReal) := by
  pointwise [val_main_v30, val_main_v22, val_main_v21]
  simp only [s29 H, H.hw, ← EReal.coe_mul]
  rw [coe_sum']; rfl
/-- The gain's gradient. -/
theorem s36 (j : Fin 1024) : val_main_v36 (F := Ideal) x0 x1 x2 x3 x4 x5 x6 (ix1 j) = ((dg (prod (fd e0 e1 e2 e3 e4) fw) fx j : ℝ) : EReal) := by
  pointwise [val_main_v36, val_main_v33, val_main_v32, val_main_v31, val_main_cst_3, val_main_cst_4]
  simp only [s17 H, s30 H, ← EReal.coe_mul]
  simp only [Fin.sum_univ_one, coe_sum']
  exact congrArg _ (Finset.sum_congr rfl fun r _ => mul_comm _ _)
/-- It is the third result. -/
theorem s53 (j : Fin 1024) : val_main_v53 (F := Ideal) x0 x1 x2 x3 x4 x5 x6 (ix2 0 j) = ((dg (prod (fd e0 e1 e2 e3 e4) fw) fx j : ℝ) : EReal) := by
  pointwise [val_main_v53]
  exact s36 H j
/-- That gradient times the gain. -/
theorem s35 (r : Fin 4096) (j : Fin 1024) : val_main_v35 (F := Ideal) x0 x1 x2 x3 x4 x5 x7 (ix2 r j) = ((prod (fd e0 e1 e2 e3 e4) fw r j * fg j : ℝ) : EReal) := by
  pointwise [val_main_v35, val_main_v34, val_main_v18]
  rw [s30 H, H.hg, ← EReal.coe_mul]
/-- The chain rule's term through the mean of the squares. -/
theorem s46 (r : Fin 4096) : val_main_v46 (F := Ideal) x0 x1 x2 x3 x4 x5 x6 x7 (ix1 r) = ((tail (prod (fd e0 e1 e2 e3 e4) fw r) (fx r) fg : ℝ) : EReal) := by
  pointwise [val_main_v46, val_main_v45, val_main_v44, val_main_v43, val_main_v39, val_main_v38, val_main_v37, val_main_cst_5,
    val_main_cst_6, val_main_cst_7]
  simp only [H.hx, s35 H, s15 H, ← EReal.coe_mul, Fin.sum_univ_one, coe_sum', w_1024]
  rw [div_real _ _ (by norm_num)]; rfl
/-- The rows' gradient, the first result. -/
theorem s51 (r : Fin 4096) (j : Fin 1024) : val_main_v51 (F := Ideal) x0 x1 x2 x3 x4 x5 x6 x7 x8 (ix2 r j)
    = ((dx (prod (fd e0 e1 e2 e3 e4) fw r) (fx r) fg (fp r) j : ℝ) : EReal) := by
  pointwise [val_main_v51, val_main_v50, val_main_v49, val_main_v48, val_main_v47, val_main_v42, val_main_v41, val_main_v40]
  simp only [H.hx, H.hp, s35 H, s46 H, s12 H, ← EReal.coe_mul, ← EReal.coe_add]
  exact congrArg _ (dx_eq _ _ _ _ _)
/-- The same rounded, the second result. -/
theorem s52 (r : Fin 4096) (j : Fin 1024) : val_main_v52 (F := Ideal) x0 x1 x2 x3 x4 x5 x6 x7 x8 (ix2 r j)
    = ((dx (prod (fd e0 e1 e2 e3 e4) fw r) (fx r) fg (fp r) j : ℝ) : EReal) := by
  pointwise [val_main_v52]
  exact s51 H r j

end Cert.Reference4Ideal.Mix

end
-- ==== Proof.MixFinal.lean ====
module

public import proofs.«01_k».proof.Proof.MixArr
public import proofs.«01_k».proof.Proof.MixRef
public import proofs.«01_k».proof.Proof.Finite

@[expose] public section

set_option maxRecDepth 16384

noncomputable section

/-! The value claim of the mixer norm's gradient: from real arguments, kernel and reference end with the same three results. -/

namespace Cert.MixFinal

open Idealize.ShloMosaic Idealize.ShloMosaic.TcCoe Idealize.SL.Sem

/-- The shape relations of the precondition's function. -/
instance facts : Cert.Pre_mix_norm_finite.Facts where
  bitsLt_bf16_f32 := by decide
  bcast_S_S4096x768 := by decide
  bcast_S_S4096x512 := by decide
  bcast_S_S4096x1024 := by decide
  bcast_S_S3840x1024 := by decide
  bcast_S_S1024 := by decide

section
open Cert.Kernel4Ideal
/-- The kernel's arguments as the real numbers they are. -/
theorem kernel_args (m : (ℓ : Loc nD τ sig) → Buf (Elt Ideal) ℓ) (h : Cert.Pre_Kernel4Ideal_mix_norm_finite m) (c : Dev nD) :
    Mix.Args m c (fun r k => EReal.toReal (m ((c : Thread nD τ).loc main_arg0) (ix2 r k)))
      (fun r k => EReal.toReal (m ((c : Thread nD τ).loc main_arg1) (ix2 r k)))
      (fun r k => EReal.toReal (m ((c : Thread nD τ).loc main_arg2) (ix2 r k)))
      (fun r k => EReal.toReal (m ((c : Thread nD τ).loc main_arg3) (ix2 r k)))
      (fun r k => EReal.toReal (m ((c : Thread nD τ).loc main_arg4) (ix2 r k)))
      (fun r k => EReal.toReal (m ((c : Thread nD τ).loc main_arg5) (ix2 r k)))
      (fun r k => EReal.toReal (m ((c : Thread nD τ).loc main_arg6) (ix2 r k)))
      (fun j => EReal.toReal (m ((c : Thread nD τ).loc main_arg7) (ix1 j)))
      (fun r j => EReal.toReal (m ((c : Thread nD τ).loc main_arg8) (ix2 r j))) := by
  obtain ⟨h0, h1, h2, h3, h4, h5, h6, h7, h8⟩ := h c
  exact ⟨fun r k => Cert.Finite.real_of _ (congrFun h0 (ix2 r k)),
    fun r k => Cert.Finite.real_of _ (congrFun h1 (ix2 r k)),
    fun r k => Cert.Finite.real_of _ (congrFun h2 (ix2 r k)),
    fun r k => Cert.Finite.real_of _ (congrFun h3 (ix2 r k)),
    fun r k => Cert.Finite.real_of _ (congrFun h4 (ix2 r k)),
    fun r k => Cert.Finite.real_of _ (congrFun h5 (ix2 r k)),
    fun r k => Cert.Finite.real_of _ (congrFun h6 (ix2 r k)),
    fun j => Cert.Finite.real_of _ (congrFun h7 (ix1 j)), fun r j => Cert.Finite.real_of _ (congrFun h8 (ix2 r j))⟩
end

/-- The value claim. -/
theorem algebraic : Cert.algebraic_Kernel4Ideal_Reference4Ideal_pre_mix_norm_finite (hKernel4Ideal := Cert.Kernel4Ideal.Gen.facts)
    (hReference4Ideal := Cert.Reference4Ideal.Gen.facts) (hPre_mix_norm_finite := facts) := by
  intro m g m' g' hpre hag
  have K := fun c => kernel_args m hpre c
  refine ⟨fun c => (Cert.Kernel4Ideal.Gen.dats m 0 c).arrAt 9 Cert.Kernel4Ideal.cfg0.N,
    fun c => (Cert.Kernel4Ideal.Gen.dats m 0 c).arrAt 10 Cert.Kernel4Ideal.cfg0.N,
    fun c => (Cert.Kernel4Ideal.Gen.dats m 0 c).arrAt 11 Cert.Kernel4Ideal.cfg0.N,
    Cert.Kernel4Ideal.Value.run_blocks m g, ?_⟩
  refine (θ_run _ _ _).mono (fun r h c => ?_) (Cert.Reference4Ideal.Value.run m' g')
  obtain ⟨a0, a1, a2, a3, a4, a5, a6, a7, a8⟩ := hag c
  have HR : Cert.Reference4Ideal.Mix.Args
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg3))
      (m' ((c.tc : Thread Cert.Reference4Ideal.nD Cert.Reference4Ideal.τ).loc Cert.Reference4Ideal.main_arg4))
      (m' ((c.tc : Thread Cert.Reference4Ideal.nD Cert.Reference4Ideal.τ).loc Cert.Reference4Ideal.main_arg5))
      (m' ((c.tc : Thread Cert.Reference4Ideal.nD Cert.Reference4Ideal.τ).loc Cert.Reference4Ideal.main_arg6))
      (m' ((c.tc : Thread Cert.Reference4Ideal.nD Cert.Reference4Ideal.τ).loc Cert.Reference4Ideal.main_arg7))
      (m' ((c.tc : Thread Cert.Reference4Ideal.nD Cert.Reference4Ideal.τ).loc Cert.Reference4Ideal.main_arg8)) _ _ _ _ _ _ _ _ _ :=
    ⟨fun r k => (congrFun a0 (ix2 r k)).trans ((K c).h0 r k),
      fun r k => (congrFun a1 (ix2 r k)).trans ((K c).h1 r k),
      fun r k => (congrFun a2 (ix2 r k)).trans ((K c).h2 r k),
      fun r k => (congrFun a3 (ix2 r k)).trans ((K c).h3 r k),
      fun r k => (congrFun a4 (ix2 r k)).trans ((K c).h4 r k),
      fun r k => (congrFun a5 (ix2 r k)).trans ((K c).hw r k),
      fun r k => (congrFun a6 (ix2 r k)).trans ((K c).hx r k),
      fun j => (congrFun a7 (ix1 j)).trans ((K c).hg j), fun r j => (congrFun a8 (ix2 r j)).trans ((K c).hp r j)⟩
  obtain ⟨h0, h1, h2, hargs⟩ := h c
  refine ⟨h0.trans ((Cert.Reference4Ideal.Read.val_main_v51_eq _ _).trans ((funext fun x => ?_).trans (Cert.Kernel4Ideal.Mix.arr9 (K c)).symm)),
    h1.trans ((Cert.Reference4Ideal.Read.val_main_v52_eq _ _).trans ((funext fun x => ?_).trans (Cert.Kernel4Ideal.Mix.arr10 (K c)).symm)),
    h2.trans ((Cert.Reference4Ideal.Read.val_main_v53_eq _ _ _ _ _ _ _).trans ((funext fun x => ?_).trans (Cert.Kernel4Ideal.Mix.arr11 (K c)).symm)),
    hargs⟩
  · rw [eq_ix2 x]; exact Cert.Reference4Ideal.Mix.s51 HR _ _
  · rw [eq_ix2 x]; exact Cert.Reference4Ideal.Mix.s52 HR _ _
  · rw [eq_ix2 x, Subsingleton.elim (α := Fin 1) (x 0) 0]; exact Cert.Reference4Ideal.Mix.s53 HR _

end Cert.MixFinal

end
-- ==== Proof.DwIn.lean ====
module

public import proofs.«01_k».proof.Defs
public import proofs.«01_k».proof.Proof.Consts
public import proofs.«01_k».proof.Proof.Parts
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Lib.Pipeline.ValueKit
public import Idealize.ShloMosaic.Lib.WholeRead
public import Idealize.ShloMosaic.Lib.Claim

@[expose] public section

set_option maxRecDepth 16384

noncomputable section

/-! The gradient of the input projection's weight: five products, kept in five groups of rows of one accumulator and added up over
four blocks of 1024 rows, are the product with the five cotangents side by side. -/

namespace Cert.Kernel5Ideal.Dw

open Cert.Kernel5Ideal Cert.Kernel5Ideal.Gen Cert.Consts Cert.Parts Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator's `n` rows from row `o`. -/
abbrev rowsR (o n : ℕ) (h : o + n ≤ 3840) : Rect S3840x1024 :=
  Rect.unit ![o, 0] ![n, 1024] (by intro a; fin_cases a; exacts [h, le_refl 1024])

section canon
variable {o n : ℕ} (h : o + n ≤ 3840) (w : (rowsR o n h).shape.Idx → Elt Ideal .f32) (L : List (View.Piece (Elt Ideal) S3840x1024 .f32))

theorem emb_at (k : Fin n) (j : Fin 1024) : (rowsR o n h).emb (ix2 k j) = ix2 (off o n h k) j := by
  funext a; apply Fin.ext
  match a with
  | ⟨0, _⟩ => show o + 1 * k.val = o + k.val; omega
  | ⟨1, _⟩ => show 0 + 1 * j.val = j.val; omega
/-- The newest piece, at one of its rows. -/
theorem hit (k : Fin n) (j : Fin 1024) : View.canon (⟨rowsR o n h, w⟩ :: L) (ix2 (off o n h k) j) = w (ix2 k j) := by
  rw [← emb_at, View.canon_cons_emb]
/-- A piece of other rows is passed over. -/
theorem pass (r : Fin 3840) (j : Fin 1024) (hr : r.val < o ∨ o + n ≤ r.val) :
    View.canon (⟨rowsR o n h, w⟩ :: L) (ix2 r j) = View.canon L (ix2 r j) :=
  View.canon_cons_of_not_mem _ _ fun hm => by
    obtain ⟨z, hz, he⟩ := (LoadRect.mem_set _).mp hm 0
    have he' : r.val = o + 1 * z := he
    have hz' : z < n := hz
    omega
/-- A load of the rows finds what the pieces left. -/
theorem load_at {sp : Space} (v : View sig .tc sp S3840x1024 .f32) (k : Fin n) (j : Fin 1024) :
    v.readCov L (rowsR o n h).toLoadRect (ix2 k j) = View.canon L (ix2 (off o n h k) j) := by
  rw [View.readCov_eq_canon']
  exact congrArg (View.canon L) (emb_at h k j)
/-- A load of the rows of a buffer holding `x`. -/
theorem whole_at {a : Memref sig .tc .vmem S3840x1024 .f32} (ha : a.IsWhole) (x : Vec Ideal S3840x1024 .f32) (k : Fin n) (j : Fin 1024) :
    View.readAt (Elt Ideal) a.view (rowsR o n h).toLoadRect (ha.unread x) (ix2 k j) = x (ix2 (off o n h k) j) :=
  (ha.readAt_unread _ _ _).trans (congrArg x (emb_at h k j))
end canon

/-- Every row is in one of the five groups. -/
theorem rows_cases (P : Fin 3840 → Prop) (h0 : ∀ k, P (off 0 768 (by decide) k)) (h1 : ∀ k, P (off 768 512 (by decide) k))
    (h2 : ∀ k, P (off 1280 512 (by decide) k)) (h3 : ∀ k, P (off 1792 1024 (by decide) k)) (h4 : ∀ k, P (off 2816 1024 (by decide) k)) :
    ∀ r, P r := fun r => by
  have of : ∀ (o n : ℕ) (h : o + n ≤ 3840), (∀ k, P (off o n h k)) → o ≤ r.val → r.val < o + n → P r := fun o n h hp hl hu => by
    have e : off o n h ⟨r.val - o, by omega⟩ = r := Fin.ext (by show o + (r.val - o) = r.val; omega)
    exact e ▸ hp _
  have := r.isLt
  by_cases a0 : r.val < 768
  · exact of 0 768 _ h0 (by omega) (by omega)
  by_cases a1 : r.val < 1280
  · exact of 768 512 _ h1 (by omega) (by omega)
  by_cases a2 : r.val < 1792
  · exact of 1280 512 _ h2 (by omega) (by omega)
  by_cases a3 : r.val < 2816
  · exact of 1792 1024 _ h3 (by omega) (by omega)
  exact of 2816 1024 _ h4 (by omega) (by omega)

/-- Five pieces, one per group of rows, read at a row. -/
theorem canon_groups (L : List (View.Piece (Elt Ideal) S3840x1024 .f32)) (g : Fin 3840 → Fin 1024 → EReal)
    (w0 : (rowsR 0 768 (by decide)).shape.Idx → Elt Ideal .f32) (w1 : (rowsR 768 512 (by decide)).shape.Idx → Elt Ideal .f32)
    (w2 : (rowsR 1280 512 (by decide)).shape.Idx → Elt Ideal .f32) (w3 : (rowsR 1792 1024 (by decide)).shape.Idx → Elt Ideal .f32)
    (w4 : (rowsR 2816 1024 (by decide)).shape.Idx → Elt Ideal .f32)
    (h0 : ∀ k j, w0 (ix2 k j) = g (off 0 768 (by decide) k) j) (h1 : ∀ k j, w1 (ix2 k j) = g (off 768 512 (by decide) k) j)
    (h2 : ∀ k j, w2 (ix2 k j) = g (off 1280 512 (by decide) k) j) (h3 : ∀ k j, w3 (ix2 k j) = g (off 1792 1024 (by decide) k) j)
    (h4 : ∀ k j, w4 (ix2 k j) = g (off 2816 1024 (by decide) k) j) (r : Fin 3840) (j : Fin 1024) :
    View.canon (Val := Elt Ideal) (⟨rowsR 2816 1024 (by decide), w4⟩ :: ⟨rowsR 1792 1024 (by decide), w3⟩ :: ⟨rowsR 1280 512 (by decide), w2⟩
      :: ⟨rowsR 768 512 (by decide), w1⟩ :: ⟨rowsR 0 768 (by decide), w0⟩ :: L) (ix2 r j) = g r j := by
  revert r
  refine rows_cases _ (fun k => ?_) (fun k => ?_) (fun k => ?_) (fun k => ?_) (fun k => ?_)
  · rw [pass, pass, pass, pass, hit, h0] <;> (have := k.isLt; dsimp only [off]; omega)
  · rw [pass, pass, pass, hit, h1] <;> (have := k.isLt; dsimp only [off]; omega)
  · rw [pass, pass, hit, h2] <;> (have := k.isLt; dsimp only [off]; omega)
  · rw [pass, hit, h3]; have := k.isLt; dsimp only [off]; omega
  · rw [hit, h4]

section pays
/-- The five groups' steps. -/
theorem pay5_at (v : Vec Ideal S768x1024 .f32) (x : Vec Ideal S1024x768 .bf16) (y : Vec Ideal S1024x1024 .bf16) (r : Fin 768) (j : Fin 1024) :
    k0_pay5 v x y (ix2 r j) = (v (ix2 r j) + ∑ k : Fin 1024, x (ix2 k r) * y (ix2 k j) : EReal) := by
  pointwise [k0_pay5]
theorem pay6_at (v : Vec Ideal S512x1024 .f32) (x : Vec Ideal S1024x512 .bf16) (y : Vec Ideal S1024x1024 .bf16) (r : Fin 512) (j : Fin 1024) :
    k0_pay6 v x y (ix2 r j) = (v (ix2 r j) + ∑ k : Fin 1024, x (ix2 k r) * y (ix2 k j) : EReal) := by
  pointwise [k0_pay6]
theorem pay7_at (v : Vec Ideal S512x1024 .f32) (x : Vec Ideal S1024x512 .bf16) (y : Vec Ideal S1024x1024 .bf16) (r : Fin 512) (j : Fin 1024) :
    k0_pay7 v x y (ix2 r j) = (v (ix2 r j) + ∑ k : Fin 1024, x (ix2 k r) * y (ix2 k j) : EReal) := by
  pointwise [k0_pay7]
theorem pay1_at (v : Vec Ideal S1024x1024 .f32) (x : Vec Ideal S1024x1024 .bf16) (y : Vec Ideal S1024x1024 .bf16) (r : Fin 1024) (j : Fin 1024) :
    k0_pay1 v x y (ix2 r j) = (v (ix2 r j) + ∑ k : Fin 1024, x (ix2 k r) * y (ix2 k j) : EReal) := by
  pointwise [k0_pay1]
theorem pay2_at (v : Vec Ideal S1024x1024 .f32) (x : Vec Ideal S1024x1024 .bf16) (y : Vec Ideal S1024x1024 .bf16) (r : Fin 1024) (j : Fin 1024) :
    k0_pay2 v x y (ix2 r j) = (v (ix2 r j) + ∑ k : Fin 1024, x (ix2 k r) * y (ix2 k j) : EReal) := by
  pointwise [k0_pay2]
theorem pay4_at (r : Fin 3840) (j : Fin 1024) : k0_pay4 (F := Ideal) (ix2 r j) = (0 : EReal) := by
  pointwise [k0_pay4]
theorem pay3_at (v : Vec Ideal S3840x1024 .f32) (r : Fin 3840) (j : Fin 1024) : k0_pay3 v (ix3 0 r j) = v (ix2 r j) := by
  pointwise [k0_pay3]
end pays

section body
variable (c : Dev nD) (i : grid0.Coords) (a1 : Memref sig .tc .vmem S1024x768 .bf16) (h1 : a1.IsWhole) (a2 : Memref sig .tc .vmem S1024x512 .bf16) (h2 : a2.IsWhole) (a3 : Memref sig .tc .vmem S1024x512 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .bf16) (h6 : a6.IsWhole) (a7 : Memref sig .tc .vmem S1x3840x1024 .bf16) (h7 : a7.IsWhole) (a8 : Memref sig .tc .vmem S3840x1024 .f32) (h8 : a8.IsWhole)
  (x0 : Vec Ideal S1024x768 .bf16) (x1 x2 : Vec Ideal S1024x512 .bf16) (x3 x4 x5 : Vec Ideal S1024x1024 .bf16) (xs : Vec Ideal S3840x1024 .f32)

/-- What a load of rectangle `R` of a buffer holding `x` reads. -/
abbrev rd {s : Shape} {e : EltTy} (a : Memref sig .tc .vmem s e) (h : a.IsWhole) (x : Vec Ideal s e) (R : Rect s) : R.shape.Idx → Elt Ideal e :=
  View.readAt (Elt Ideal) a.view R.toLoadRect (h.unread x)
/-- A load of the whole of a buffer holding `x`. -/
abbrev all2 {n k : ℕ} {e : EltTy} (a : Memref sig .tc .vmem ⟨2, ![n, k]⟩ e) (h : a.IsWhole) (x : Vec Ideal ⟨2, ![n, k]⟩ e) :
    Vec Ideal ⟨2, ![n, k]⟩ e :=
  View.readAt (Elt Ideal) a.view (Rect.unit (s := ⟨2, ![n, k]⟩) ![0, 0] ![n, k] (by intro a; fin_cases a <;> simp)).toLoadRect (h.unread x)
theorem all2_eq {n k : ℕ} {e : EltTy} (a : Memref sig .tc .vmem ⟨2, ![n, k]⟩ e) (h : a.IsWhole) (x : Vec Ideal ⟨2, ![n, k]⟩ e) :
    all2 a h x = x := by
  unfold all2
  rw [View.readAt_eq_ld, h.read_unread, View.ld_unit_zero (S := ⟨2, ![n, k]⟩) hz2]

/-- The pieces a point leaves when group `p` finds `w p` in its rows. -/
abbrev pieces (w0 : Vec Ideal S768x1024 .f32) (w1 w2 : Vec Ideal S512x1024 .f32) (w3 w4 : Vec Ideal S1024x1024 .f32)
    (L : List (View.Piece (Elt Ideal) S3840x1024 .f32)) : List (View.Piece (Elt Ideal) S3840x1024 .f32) :=
  ⟨rowsR 2816 1024 (by decide), k0_pay2 w4 (all2 a5 h5 x4) (all2 a6 h6 x5)⟩ ::
  ⟨rowsR 1792 1024 (by decide), k0_pay1 w3 (all2 a4 h4 x3) (all2 a6 h6 x5)⟩ ::
  ⟨rowsR 1280 512 (by decide), k0_pay7 w2 (all2 a3 h3 x2) (all2 a6 h6 x5)⟩ ::
  ⟨rowsR 768 512 (by decide), k0_pay6 w1 (all2 a2 h2 x1) (all2 a6 h6 x5)⟩ ::
  ⟨rowsR 0 768 (by decide), k0_pay5 w0 (all2 a1 h1 x0) (all2 a6 h6 x5)⟩ :: L

/-- One point's sum at row `r` and column `j`. -/
def part (r : Fin 3840) (j : Fin 1024) : EReal :=
  ∑ k : Fin 1024, cat (fun q => x0 (ix2 k q)) (fun q => x1 (ix2 k q)) (fun q => x2 (ix2 k q)) (fun q => x3 (ix2 k q)) (fun q => x4 (ix2 k q)) r
    * x5 (ix2 k j)

/-- The pieces leave what was there plus the point's sum. -/
theorem pieces_at (b : Fin 3840 → Fin 1024 → EReal)
    (w0 : Vec Ideal S768x1024 .f32) (w1 w2 : Vec Ideal S512x1024 .f32) (w3 w4 : Vec Ideal S1024x1024 .f32)
    (L : List (View.Piece (Elt Ideal) S3840x1024 .f32))
    (e0 : ∀ k j, w0 (ix2 k j) = b (off 0 768 (by decide) k) j) (e1 : ∀ k j, w1 (ix2 k j) = b (off 768 512 (by decide) k) j)
    (e2 : ∀ k j, w2 (ix2 k j) = b (off 1280 512 (by decide) k) j) (e3 : ∀ k j, w3 (ix2 k j) = b (off 1792 1024 (by decide) k) j)
    (e4 : ∀ k j, w4 (ix2 k j) = b (off 2816 1024 (by decide) k) j) (r : Fin 3840) (j : Fin 1024) :
    View.canon (pieces a1 h1 a2 h2 a3 h3 a4 h4 a5 h5 a6 h6 x0 x1 x2 x3 x4 x5 w0 w1 w2 w3 w4 L) (ix2 r j)
      = b r j + part x0 x1 x2 x3 x4 x5 r j := by
  refine canon_groups L (fun r j => b r j + part x0 x1 x2 x3 x4 x5 r j) _ _ _ _ _ ?_ ?_ ?_ ?_ ?_ r j
  · intro k j; rw [all2_eq, all2_eq, pay5_at, e0]; simp only [part, cat_0]
  · intro k j; rw [all2_eq, all2_eq, pay6_at, e1]; simp only [part, cat_1]
  · intro k j; rw [all2_eq, all2_eq, pay7_at, e2]; simp only [part, cat_2]
  · intro k j; rw [all2_eq, all2_eq, pay1_at, e3]; simp only [part, cat_3]
  · intro k j; rw [all2_eq, all2_eq, pay2_at, e4]; simp only [part, cat_4]

/-- At a point that is not the first the accumulator's pieces add to what the point before left. -/
theorem run_B (hc0 : ¬cond0_0 i) (hc1 : ¬cond0_1 i) :
    (kernelRun0_B (F := Ideal) c i a1 h1 a2 h2 a3 h3 a4 h4 a5 h5 a6 h6 a7 h7 a8 h8 hc0 hc1 x0 x1 x2 x3 x4 x5 xs).2.1
      = pieces a1 h1 a2 h2 a3 h3 a4 h4 a5 h5 a6 h6 x0 x1 x2 x3 x4 x5 (rd a8 h8 xs (rowsR 0 768 (by decide)))
        (rd a8 h8 xs (rowsR 768 512 (by decide))) (rd a8 h8 xs (rowsR 1280 512 (by decide))) (rd a8 h8 xs (rowsR 1792 1024 (by decide)))
        (rd a8 h8 xs (rowsR 2816 1024 (by decide))) [] := (rfl)
/-- At the last point the output is the accumulator after its pieces. -/
theorem run_C (hc0 : ¬cond0_0 i) (hc1 : cond0_1 i) :
    (kernelRun0_C (F := Ideal) c i a1 h1 a2 h2 a3 h3 a4 h4 a5 h5 a6 h6 a7 h7 a8 h8 hc0 hc1 x0 x1 x2 x3 x4 x5 xs).1
      = [⟨Rect.unit ![0, 0, 0] S1x3840x1024.size inb_S1x3840x1024_S1x3840x1024_0_0_0, k0_pay3 (a8.view.readCov
        (pieces a1 h1 a2 h2 a3 h3 a4 h4 a5 h5 a6 h6 x0 x1 x2 x3 x4 x5 (rd a8 h8 xs (rowsR 0 768 (by decide)))
        (rd a8 h8 xs (rowsR 768 512 (by decide))) (rd a8 h8 xs (rowsR 1280 512 (by decide))) (rd a8 h8 xs (rowsR 1792 1024 (by decide)))
        (rd a8 h8 xs (rowsR 2816 1024 (by decide))) []) (rowsR 0 3840 (by decide)).toLoadRect)⟩] := (rfl)

theorem out_C (hc0 : ¬cond0_0 i) (hc1 : cond0_1 i) (r : Fin 3840) (j : Fin 1024) :
    out0_C_6 c i a1 h1 a2 h2 a3 h3 a4 h4 a5 h5 a6 h6 a7 h7 a8 h8 hc0 hc1 x0 x1 x2 x3 x4 x5 xs (ix3 0 r j)
      = (xs (ix2 r j) + part x0 x1 x2 x3 x4 x5 r j : EReal) := by
  unfold out0_C_6
  rw [View.read_writes_eq_canon _ _ _ (cover0_C_6 c i a1 h1 a2 h2 a3 h3 a4 h4 a5 h5 a6 h6 a7 h7 a8 h8 hc0 hc1 x0 x1 x2 x3 x4 x5 xs),
    run_C, View.canon_unit_zero (S := S1x3840x1024) hz3, pay3_at]
  have e : off 0 3840 (by decide) r = r := Fin.ext (Nat.zero_add _)
  rw [load_at, e]
  exact pieces_at a1 h1 a2 h2 a3 h3 a4 h4 a5 h5 a6 h6 x0 x1 x2 x3 x4 x5 (fun r j => xs (ix2 r j)) _ _ _ _ _ _ (whole_at _ h8 xs)
    (whole_at _ h8 xs) (whole_at _ h8 xs) (whole_at _ h8 xs) (whole_at _ h8 xs) r j

theorem acc_B (hc0 : ¬cond0_0 i) (hc1 : ¬cond0_1 i) (r : Fin 3840) (j : Fin 1024) :
    sout0_B_0 c i a1 h1 a2 h2 a3 h3 a4 h4 a5 h5 a6 h6 a7 h7 a8 h8 hc0 hc1 x0 x1 x2 x3 x4 x5 xs (ix2 r j)
      = (xs (ix2 r j) + part x0 x1 x2 x3 x4 x5 r j : EReal) := by
  unfold sout0_B_0
  rw [View.read_writes_eq_canon _ _ _ (scover0_B_0 c i a1 h1 a2 h2 a3 h3 a4 h4 a5 h5 a6 h6 a7 h7 a8 h8 hc0 hc1 x0 x1 x2 x3 x4 x5 xs), run_B]
  exact pieces_at a1 h1 a2 h2 a3 h3 a4 h4 a5 h5 a6 h6 x0 x1 x2 x3 x4 x5 (fun r j => xs (ix2 r j)) _ _ _ _ _ _ (whole_at _ h8 xs)
    (whole_at _ h8 xs) (whole_at _ h8 xs) (whole_at _ h8 xs) (whole_at _ h8 xs) r j

/-- The zeros the first point stores before anything else. -/
abbrev zeros : List (View.Piece (Elt Ideal) S3840x1024 .f32) :=
  [⟨Rect.unit ![0, 0] S3840x1024.size inb_S3840x1024_S3840x1024_0_0, k0_pay4 (F := Ideal)⟩]
theorem zeros_at (r : Fin 3840) (j : Fin 1024) : View.canon zeros (ix2 r j) = (0 : EReal) := by
  rw [zeros, View.canon_unit_zero (S := S3840x1024) hz2, pay4_at]

/-- The first point's pieces after the first group, the second, and so on. -/
abbrev l0 : List (View.Piece (Elt Ideal) S3840x1024 .f32) :=
  ⟨rowsR 0 768 (by decide), k0_pay5 (a8.view.readCov zeros (rowsR 0 768 (by decide)).toLoadRect) (all2 a1 h1 x0) (all2 a6 h6 x5)⟩ :: zeros
abbrev l1 : List (View.Piece (Elt Ideal) S3840x1024 .f32) :=
  ⟨rowsR 768 512 (by decide), k0_pay6 (a8.view.readCov (l0 a1 h1 a6 h6 a8 x0 x5) (rowsR 768 512 (by decide)).toLoadRect) (all2 a2 h2 x1)
    (all2 a6 h6 x5)⟩ :: l0 a1 h1 a6 h6 a8 x0 x5
abbrev l2 : List (View.Piece (Elt Ideal) S3840x1024 .f32) :=
  ⟨rowsR 1280 512 (by decide), k0_pay7 (a8.view.readCov (l1 a1 h1 a2 h2 a6 h6 a8 x0 x1 x5) (rowsR 1280 512 (by decide)).toLoadRect)
    (all2 a3 h3 x2) (all2 a6 h6 x5)⟩ :: l1 a1 h1 a2 h2 a6 h6 a8 x0 x1 x5
abbrev l3 : List (View.Piece (Elt Ideal) S3840x1024 .f32) :=
  ⟨rowsR 1792 1024 (by decide), k0_pay1 (a8.view.readCov (l2 a1 h1 a2 h2 a3 h3 a6 h6 a8 x0 x1 x2 x5) (rowsR 1792 1024 (by decide)).toLoadRect)
    (all2 a4 h4 x3) (all2 a6 h6 x5)⟩ :: l2 a1 h1 a2 h2 a3 h3 a6 h6 a8 x0 x1 x2 x5

theorem run_A (hc0 : cond0_0 i) (hc1 : ¬cond0_1 i) :
    (kernelRun0_A (F := Ideal) c i a1 h1 a2 h2 a3 h3 a4 h4 a5 h5 a6 h6 a7 h7 a8 h8 hc0 hc1 x0 x1 x2 x3 x4 x5).2.1
      = pieces a1 h1 a2 h2 a3 h3 a4 h4 a5 h5 a6 h6 x0 x1 x2 x3 x4 x5
        (a8.view.readCov zeros (rowsR 0 768 (by decide)).toLoadRect)
        (a8.view.readCov (l0 a1 h1 a6 h6 a8 x0 x5) (rowsR 768 512 (by decide)).toLoadRect)
        (a8.view.readCov (l1 a1 h1 a2 h2 a6 h6 a8 x0 x1 x5) (rowsR 1280 512 (by decide)).toLoadRect)
        (a8.view.readCov (l2 a1 h1 a2 h2 a3 h3 a6 h6 a8 x0 x1 x2 x5) (rowsR 1792 1024 (by decide)).toLoadRect)
        (a8.view.readCov (l3 a1 h1 a2 h2 a3 h3 a4 h4 a6 h6 a8 x0 x1 x2 x3 x5) (rowsR 2816 1024 (by decide)).toLoadRect) zeros := (rfl)

/-- Every group of the first point finds zeros. -/
theorem acc_A (hc0 : cond0_0 i) (hc1 : ¬cond0_1 i) (r : Fin 3840) (j : Fin 1024) :
    sout0_A_0 c i a1 h1 a2 h2 a3 h3 a4 h4 a5 h5 a6 h6 a7 h7 a8 h8 hc0 hc1 x0 x1 x2 x3 x4 x5 (ix2 r j)
      = part x0 x1 x2 x3 x4 x5 r j := by
  unfold sout0_A_0
  rw [View.read_writes_eq_canon _ _ _ (scover0_A_0 c i a1 h1 a2 h2 a3 h3 a4 h4 a5 h5 a6 h6 a7 h7 a8 h8 hc0 hc1 x0 x1 x2 x3 x4 x5), run_A]
  refine (pieces_at a1 h1 a2 h2 a3 h3 a4 h4 a5 h5 a6 h6 x0 x1 x2 x3 x4 x5 (fun _ _ => 0) _ _ _ _ _ _ ?_ ?_ ?_ ?_ ?_ r j).trans (zero_add _)
  · intro k j; rw [load_at, zeros_at]
  · intro k j; rw [load_at, pass, zeros_at]; dsimp only [off]; omega
  · intro k j; rw [load_at, pass, pass, zeros_at] <;> (dsimp only [off]; omega)
  · intro k j; rw [load_at, pass, pass, pass, zeros_at] <;> (dsimp only [off]; omega)
  · intro k j; rw [load_at, pass, pass, pass, pass, zeros_at] <;> (dsimp only [off]; omega)
end body

variable (m : (ℓ : Loc nD τ sig) → Buf (Elt Ideal) ℓ) (c : Dev nD)

/-- The five cotangents' entries side by side. -/
def D (r : Fin 4096) : Fin 3840 → EReal :=
  cat (fun q => m ((c : Thread nD τ).loc main_arg0) (ix2 r q)) (fun q => m ((c : Thread nD τ).loc main_arg1) (ix2 r q))
    (fun q => m ((c : Thread nD τ).loc main_arg2) (ix2 r q)) (fun q => m ((c : Thread nD τ).loc main_arg3) (ix2 r q))
    (fun q => m ((c : Thread nD τ).loc main_arg4) (ix2 r q))
/-- The normalised activations' entries. -/
def B (r : Fin 4096) (j : Fin 1024) : EReal := m ((c : Thread nD τ).loc main_arg5) (ix2 r j)

/-- Row `k` of the block that point `n` reads. -/
def row (n : Fin 4) (k : Fin 1024) : Fin 4096 := ⟨1024 * n.val + k.val, by omega⟩

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

section blocks
variable (t : Fin cfg0.N) (n : Fin 4) (hn : t.val = n.val) (k : Fin 1024)
include hn
theorem blk0 (q : Fin 768) : (show Vec Ideal S1024x768 .bf16 from iblk m c 0 t) (ix2 k q) = (m ((c : Thread nD τ).loc main_arg0) (ix2 (row n k) q) : EReal) := by
  blk_ext [iblk, V, idx0 t, row, hn]
theorem blk1 (q : Fin 512) : (show Vec Ideal S1024x512 .bf16 from iblk m c 1 t) (ix2 k q) = (m ((c : Thread nD τ).loc main_arg1) (ix2 (row n k) q) : EReal) := by
  blk_ext [iblk, V, idx1 t, row, hn]
theorem blk2 (q : Fin 512) : (show Vec Ideal S1024x512 .bf16 from iblk m c 2 t) (ix2 k q) = (m ((c : Thread nD τ).loc main_arg2) (ix2 (row n k) q) : EReal) := by
  blk_ext [iblk, V, idx2 t, row, hn]
theorem blk3 (q : Fin 1024) : (show Vec Ideal S1024x1024 .bf16 from iblk m c 3 t) (ix2 k q) = (m ((c : Thread nD τ).loc main_arg3) (ix2 (row n k) q) : EReal) := by
  blk_ext [iblk, V, idx3 t, row, hn]
theorem blk4 (q : Fin 1024) : (show Vec Ideal S1024x1024 .bf16 from iblk m c 4 t) (ix2 k q) = (m ((c : Thread nD τ).loc main_arg4) (ix2 (row n k) q) : EReal) := by
  blk_ext [iblk, V, idx4 t, row, hn]
theorem blk5 (q : Fin 1024) : (show Vec Ideal S1024x1024 .bf16 from iblk m c 5 t) (ix2 k q) = B m c (row n k) q := by
  unfold B
  blk_ext [iblk, V, idx5 t, row, hn]
end blocks

/-- The sum over the rows of one block. -/
def sumOf (n : Fin 4) (r : Fin 3840) (j : Fin 1024) : EReal := ∑ k : Fin 1024, D m c (row n k) r * B m c (row n k) j

theorem part_at (t : Fin cfg0.N) (n : Fin 4) (hn : t.val = n.val) (r : Fin 3840) (j : Fin 1024) :
    part (iblk m c 0 t) (iblk m c 1 t) (iblk m c 2 t) (iblk m c 3 t) (iblk m c 4 t) (iblk m c 5 t) r j = sumOf m c n r j := by
  unfold part sumOf D
  refine Finset.sum_congr rfl fun k _ => ?_
  rw [← blk5 m c t n hn k j, ← funext (blk0 m c t n hn k), ← funext (blk1 m c t n hn k), ← funext (blk2 m c t n hn k),
    ← funext (blk3 m c t n hn k), ← funext (blk4 m c t n hn k)]

/-- The accumulator after the first point. -/
theorem acc_first (t : Fin cfg0.N) (h : t.val = 0) (r : Fin 3840) (j : Fin 1024) :
    (outsAt0 m c t.val t.isLt).2 (ix2 r j) = sumOf m c 0 r j := by
  rw [outsAt0_A m c t (by omega) (by omega)]
  dsimp only
  rw [acc_A, part_at m c t 0 h]
/-- A point in the middle adds its block's sum. -/
theorem acc_next (t : Fin cfg0.N) (n : Fin 4) (hn : t.val = n.val) (h0 : t.val ≠ 0) (h3 : t.val ≠ 3) (r : Fin 3840) (j : Fin 1024) :
    (outsAt0 m c t.val t.isLt).2 (ix2 r j)
      = ((outsAt0 m c (t.val - 1) (Nat.lt_of_le_of_lt (Nat.sub_le _ _) t.isLt)).2 (ix2 r j) + sumOf m c n r j : EReal) := by
  rw [outsAt0_B m c t (by omega) (by omega)]
  dsimp only
  rw [acc_B, part_at m c t n hn]
/-- So does the last, into the output. -/
theorem out_last (t : Fin cfg0.N) (h : t.val = 3) (r : Fin 3840) (j : Fin 1024) :
    (outsAt0 m c t.val t.isLt).1 (ix3 0 r j)
      = ((outsAt0 m c (t.val - 1) (Nat.lt_of_le_of_lt (Nat.sub_le _ _) t.isLt)).2 (ix2 r j) + sumOf m c 3 r j : EReal) := by
  rw [outsAt0_C m c t (by omega) (by omega)]
  dsimp only
  rw [out_C, part_at m c t 3 h]

/-- A sum over all rows is the sum over the four blocks of rows. -/
theorem sum_rows (f : Fin 4096 → EReal) :
    ∑ k, f k = (∑ k, f (row 0 k)) + (∑ k, f (row 1 k)) + (∑ k, f (row 2 k)) + ∑ k, f (row 3 k) := by
  refine (Fin.sum_univ_add (a := 3072) (b := 1024) f).trans (congrArg₂ _ ?_ rfl)
  refine (Fin.sum_univ_add (a := 2048) (b := 1024) _).trans (congrArg₂ _ ?_ rfl)
  refine (Fin.sum_univ_add (a := 1024) (b := 1024) _).trans (congrArg₂ _ ?_ rfl)
  exact Finset.sum_congr rfl fun k _ => congrArg f (Fin.ext (by show k.val = 1024 * 0 + k.val; omega))

/-- The result array after the run. -/
theorem result (r : Fin 3840) (j : Fin 1024) :
    Value.G6 m c (ix3 0 r j) = ∑ k : Fin 4096, D m c k r * B m c k j := by
  have lt : ∀ n, n < 4 → n < cfg0.N := fun n h => lt_of_lt_of_eq h N_0.symm
  rw [Value.G6_last, ← Value.outsAt0_sweep m c 3 (lt 3 (by decide)), sum_rows]
  refine (out_last m c ⟨3, lt 3 (by decide)⟩ rfl r j).trans (congrArg (· + _) ?_)
  refine (acc_next m c ⟨2, lt 2 (by decide)⟩ 2 rfl (show 2 ≠ 0 by decide) (show 2 ≠ 3 by decide) r j).trans (congrArg (· + _) ?_)
  refine (acc_next m c ⟨1, lt 1 (by decide)⟩ 1 rfl (show 1 ≠ 0 by decide) (show 1 ≠ 3 by decide) r j).trans (congrArg (· + _) ?_)
  exact acc_first m c ⟨0, lt 0 (by decide)⟩ rfl r j

/-- The reference's result. -/
theorem reference (x0 : (⟨Cert.Reference5Ideal.S4096x768, .bf16⟩ : BufTy).Contents (Elt Ideal))
    (x1 x2 : (⟨Cert.Reference5Ideal.S4096x512, .bf16⟩ : BufTy).Contents (Elt Ideal))
    (x3 x4 x5 : (⟨Cert.Reference5Ideal.S4096x1024, .bf16⟩ : BufTy).Contents (Elt Ideal)) (r : Fin 3840) (j : Fin 1024) :
    Cert.Reference5Ideal.Read.val_main_v18 (F := Ideal) x0 x1 x2 x3 x4 x5 (ix3 0 r j)
      = (∑ k : Fin 4096, cat (α := EReal) (fun q => x0 (ix2 k q)) (fun q => x1 (ix2 k q)) (fun q => x2 (ix2 k q)) (fun q => x3 (ix2 k q))
        (fun q => x4 (ix2 k q)) r * x5 (ix2 k j) : EReal) := by
  pointwise [Cert.Reference5Ideal.Read.val_main_v18, Cert.Reference5Ideal.Read.val_main_v17, Cert.Reference5Ideal.Read.val_main_v16,
    Cert.Reference5Ideal.Read.val_main_v15, Cert.Reference5Ideal.Read.val_main_v14, Cert.Reference5Ideal.Read.val_main_v13,
    Cert.Reference5Ideal.Read.val_main_v5, Cert.Reference5Ideal.Read.val_main_v4, Cert.Reference5Ideal.Read.val_main_v3,
    Cert.Reference5Ideal.Read.val_main_v2, Cert.Reference5Ideal.Read.val_main_v1, Cert.Reference5Ideal.Read.val_main_v0]
  refine Finset.sum_congr rfl fun k _ => congrArg (· * _) ?_
  unfold cat
  split_ifs <;> rfl

/-- The value claim. -/
theorem algebraic : Cert.algebraic_Kernel5Ideal_Reference5Ideal (hKernel5Ideal := Cert.Kernel5Ideal.Gen.facts)
    (hReference5Ideal := Cert.Reference5Ideal.Gen.facts) := by
  intro m g m' g' _ hag
  refine ⟨fun c => Value.G6 m c, Value.run m g, ?_⟩
  refine (θ_run _ _ _).mono (fun r h c => ?_) (Cert.Reference5Ideal.Value.run (F := Ideal) m' g')
  obtain ⟨b0, b1, b2, b3, b4, b5⟩ := hag c
  obtain ⟨h0, hargs⟩ := h c
  refine ⟨h0.trans ((Cert.Reference5Ideal.Read.val_main_v18_eq _ _ _ _ _ _).trans ?_), hargs⟩
  funext x
  rw [eq_ix3 x, Subsingleton.elim (α := Fin 1) (x 0) 0]
  refine (reference _ _ _ _ _ _ _ _).trans ?_
  rw [b0, b1, b2, b3, b4, b5]
  exact (result m c _ _).symm

end Cert.Kernel5Ideal.Dw

end
-- ==== Proof.DwDown.lean ====
module

public import proofs.«01_k».proof.Defs
public import proofs.«01_k».proof.Proof.Consts
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.DwUp
public import Idealize.ShloMosaic.Lib.Pipeline.ValueKit
public import Idealize.ShloMosaic.Lib.WholeRead
public import Idealize.ShloMosaic.Lib.Claim

@[expose] public section

set_option maxRecDepth 16384

noncomputable section

/-! The gradient of the down projection's weight: the product accumulated over two halves of the rows is the whole product. -/

namespace Cert.Kernel6Ideal.Dw

open Cert.Kernel3Ideal.Dw (hz2 hz3 half)
open Cert.Kernel6Ideal Cert.Kernel6Ideal.Gen Cert.Consts Idealize.ShloMosaic Idealize.ShloMosaic.TcCoe Idealize.SL.Sem

variable (m : (ℓ : Loc nD τ sig) → Buf (Elt Ideal) ℓ) (c : Dev nD)

section body
variable (i : grid0.Coords) (a2 : Memref sig .tc .vmem S2048x1408 .bf16) (h2 : a2.IsWhole) (a3 : Memref sig .tc .vmem S2048x1024 .bf16) (h3 : a3.IsWhole)
  (a4 : Memref sig .tc .vmem S1x1408x1024 .bf16) (h4 : a4.IsWhole) (a5 : Memref sig .tc .vmem S1408x1024 .f32) (h5 : a5.IsWhole)
  (x0 : Vec Ideal S2048x1408 .bf16) (x1 : Vec Ideal S2048x1024 .bf16) (xs : Vec Ideal S1408x1024 .f32)

/-- At the first of two points the accumulator ends with zero plus the block's product. -/
theorem first (hc0 : cond0_0 i) (hc1 : ¬cond0_1 i) : sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1408x1024) hz2, View.readCov_unit_zero (S := S1408x1024) _ hz2]
  simp only [View.readAt_eq_ld, h2.read_unread, h3.read_unread, View.ld_unit_zero (S := S2048x1408) hz2, View.ld_unit_zero (S := S2048x1024) hz2]

/-- At the second the output is the accumulator plus the block's product. -/
theorem second (hc0 : ¬cond0_0 i) (hc1 : cond0_1 i) :
    out0_B_2 c i a2 h2 a3 h3 a4 h4 a5 h5 hc0 hc1 x0 x1 xs = k0_pay3 (k0_pay2 xs x0 x1) := by
  unfold out0_B_2
  rw [View.read_writes_eq_canon _ _ _ (cover0_B_2 c i a2 h2 a3 h3 a4 h4 a5 h5 hc0 hc1 x0 x1 xs)]
  unfold kernelRun0_B
  dsimp only
  sl_unfold_words
  rw [View.canon_unit_zero (S := S1x1408x1024) hz3, View.readCov_unit_zero (S := S1408x1024) _ hz2]
  simp only [View.readAt_eq_ld, h2.read_unread, h3.read_unread, h5.read_unread, View.ld_unit_zero (S := S2048x1408) hz2,
    View.ld_unit_zero (S := S2048x1024) hz2, View.ld_unit_zero (S := S1408x1024) hz2]

/-! The arithmetic is the up projection's. -/

theorem step_at (r : Fin 1408) (j : Fin 1024) (p q : Fin 2048 → EReal) (hp : ∀ k, x0 (ix2 k r) = p k) (hq : ∀ k, x1 (ix2 k j) = q k) :
    k0_pay2 xs x0 x1 (ix2 r j) = (xs (ix2 r j) + ∑ k, p k * q k : EReal) := Cert.Kernel3Ideal.Dw.step_at x0 x1 xs r j p q hp hq
theorem pay1_at (r : Fin 1408) (j : Fin 1024) : k0_pay1 (F := Ideal) (ix2 r j) = (0 : EReal) := Cert.Kernel3Ideal.Dw.pay1_at r j
theorem pay3_at (r : Fin 1408) (j : Fin 1024) : k0_pay3 xs (ix3 0 r j) = xs (ix2 r j) := Cert.Kernel3Ideal.Dw.pay3_at xs r j
end body

/-- The first argument's entries. -/
def A (r : Fin 4096) (k : Fin 2816) : EReal := m ((c : Thread nD τ).loc main_arg0) (ix2 r k)
/-- The second argument's entries. -/
def B (r : Fin 4096) (j : Fin 1024) : EReal := m ((c : Thread nD τ).loc main_arg1) (ix2 r j)

theorem idx0 : ∀ t : Fin cfg0.N, win0_0.index t = ![t.val % 2, t.val / 2] := (by decide +kernel : ∀ t : Fin grid0.N, _)
theorem idx1 : ∀ t : Fin cfg0.N, win0_1.index t = ![t.val % 2, 0] := (by decide +kernel : ∀ t : Fin grid0.N, _)

/-- Column `r` of the block that the points `2 q` and `2 q + 1` compute. -/
def col (q : Fin 2) (r : Fin 1408) : Fin 2816 := ⟨1408 * q.val + r.val, by omega⟩

theorem blk0 (t : Fin cfg0.N) (q : Fin 2) (hq : t.val / 2 = q.val) (k : Fin 2048) (r : Fin 1408) :
    (show Vec Ideal S2048x1408 .bf16 from iblk m c 0 t) (ix2 k r) = A m c (half t.val k) (col q r) := by
  unfold A
  blk_ext [iblk, V, idx0 t, half, col, hq]
theorem blk1 (t : Fin cfg0.N) (k : Fin 2048) (j : Fin 1024) :
    (show Vec Ideal S2048x1024 .bf16 from iblk m c 1 t) (ix2 k j) = B m c (half t.val k) j := by
  unfold B
  blk_ext [iblk, V, idx1 t, half]

/-- What the first of a block's two points leaves in the accumulator. -/
theorem acc_eq (t : Fin cfg0.N) (h : t.val % 2 = 0) :
    (outsAt0 m c t.val t.isLt).2 = k0_pay2 k0_pay1 (iblk m c 0 t) (iblk m c 1 t) := by
  rw [outsAt0_A m c t h (by omega)]
  dsimp only
  rw [first]
theorem acc_at (t : Fin cfg0.N) (h : t.val % 2 = 0) (q : Fin 2) (hq : t.val / 2 = q.val) (r : Fin 1408) (j : Fin 1024) :
    (outsAt0 m c t.val t.isLt).2 (ix2 r j) = ∑ k : Fin 2048, A m c (half 0 k) (col q r) * B m c (half 0 k) j := by
  have e : half t.val = half 0 := funext fun k => Fin.ext (by show 2048 * (t.val % 2) + _ = 2048 * (0 % 2) + _; rw [h])
  rw [acc_eq m c t h, step_at _ _ _ r j _ _ (fun k => blk0 m c t q hq k r) (fun k => blk1 m c t k j), pay1_at, zero_add, e]

/-- What the second leaves in the output block. -/
theorem out_eq (t : Fin cfg0.N) (h : t.val % 2 = 1) : (outsAt0 m c t.val t.isLt).1 =
    k0_pay3 (k0_pay2 (outsAt0 m c (t.val - 1) (Nat.lt_of_le_of_lt (Nat.sub_le _ _) t.isLt)).2 (iblk m c 0 t) (iblk m c 1 t)) := by
  rw [outsAt0_B m c t (by omega) h]
  dsimp only
  rw [second]
theorem out_at (t : Fin cfg0.N) (h : t.val % 2 = 1) (q : Fin 2) (hq : t.val / 2 = q.val) (r : Fin 1408) (j : Fin 1024) :
    (outsAt0 m c t.val t.isLt).1 (ix3 0 r j) = ∑ k : Fin 4096, A m c k (col q r) * B m c k j := by
  have e : half t.val = half 1 := funext fun k => Fin.ext (by show 2048 * (t.val % 2) + _ = 2048 * (1 % 2) + _; rw [h])
  rw [out_eq m c t h, pay3_at, step_at _ _ _ r j _ _ (fun k => blk0 m c t q hq k r) (fun k => blk1 m c t k j), e,
    acc_at m c ⟨t.val - 1, lt_of_le_of_lt (Nat.sub_le _ _) t.isLt⟩ (by dsimp only; omega) q (by dsimp only; omega) r j]
  exact (Fin.sum_univ_add (a := 2048) (b := 2048) (fun k : Fin (2048 + 2048) => A m c k (col q r) * B m c k j)).symm

/-- The result array after the run. -/
theorem result (q : Fin 2) (r : Fin 1408) (j : Fin 1024) :
    Value.G2 m c (ix3 0 (col q r) j) = (∑ k : Fin 4096, A m c k (col q r)
      * B m c k j : EReal) := by
  have hr : Value.run2Of (ix3 0 (col q r) j) = q.val := by
    show 2 * (0 / 1 - 0) + 1 * ((1408 * q.val + r.val) / 1408 - 0) + 1 * (j.val / 1024 - 0) = q.val
    omega
  have hl : Value.loc2Of (ix3 0 (col q r) j) = ix3 0 r j := by
    funext a; apply Fin.ext
    match a with
    | ⟨0, _⟩ => rfl
    | ⟨1, _⟩ => show (1408 * q.val + r.val) % 1408 = r.val; omega
    | ⟨2, _⟩ => show j.val % 1024 = j.val; omega
  have hp : Value.pt2Of (ix3 0 (col q r) j) = 2 * q.val + 1 := by
    show 2 * Value.run2Of _ + 1 = _; rw [hr]
  have hlt : 2 * q.val + 1 < cfg0.N := lt_of_lt_of_eq (show 2 * q.val + 1 < 4 by omega) N_0.symm
  unfold Value.G2
  rw [dif_pos (by rw [hp]; exact hlt), hl, Value.fold0_congr m c _ _ _ (by rw [Nat.zero_add]; exact hlt) hp, ← Value.outsAt0_sweep m c _ hlt]
  exact out_at m c ⟨2 * q.val + 1, hlt⟩ (by dsimp only; omega) q (by dsimp only; omega) r j

/-- The block of a column, and its place in it. -/
theorem col_of (k : Fin 2816) : col ⟨k.val / 1408, by omega⟩ ⟨k.val % 1408, by omega⟩ = k :=
  Fin.ext (by show 1408 * (k.val / 1408) + k.val % 1408 = k.val; omega)

/-- The reference's result. -/
theorem reference (x0 : (⟨Cert.Reference6Ideal.S4096x2816, .bf16⟩ : BufTy).Contents (Elt Ideal))
    (x1 : (⟨Cert.Reference6Ideal.S4096x1024, .bf16⟩ : BufTy).Contents (Elt Ideal)) (k : Fin 2816) (j : Fin 1024) :
    Cert.Reference6Ideal.Read.val_main_v7 (F := Ideal) x0 x1 (ix3 0 k j) = (∑ r : Fin 4096, x0 (ix2 r k) * x1 (ix2 r j) : EReal) := by
  pointwise [Cert.Reference6Ideal.Read.val_main_v7, Cert.Reference6Ideal.Read.val_main_v6,
    Cert.Reference6Ideal.Read.val_main_v5, Cert.Reference6Ideal.Read.val_main_v4, Cert.Reference6Ideal.Read.val_main_v1,
    Cert.Reference6Ideal.Read.val_main_v0]
  exact Finset.sum_congr rfl fun _ _ => mul_comm _ _

/-- The value claim. -/
theorem algebraic : Cert.algebraic_Kernel6Ideal_Reference6Ideal (hKernel6Ideal := Cert.Kernel6Ideal.Gen.facts)
    (hReference6Ideal := Cert.Reference6Ideal.Gen.facts) := by
  intro m g m' g' _ hag
  refine ⟨fun c => Value.G2 m c, Value.run m g, ?_⟩
  refine (θ_run _ _ _).mono (fun r h c => ?_) (Cert.Reference6Ideal.Value.run (F := Ideal) m' g')
  obtain ⟨a0, a1⟩ := hag c
  obtain ⟨h0, hargs⟩ := h c
  refine ⟨h0.trans ((Cert.Reference6Ideal.Read.val_main_v7_eq _ _).trans ?_), hargs⟩
  funext x
  rw [eq_ix3 x, Subsingleton.elim (α := Fin 1) (x 0) 0, ← col_of (x 1)]
  refine (reference _ _ _ _).trans ?_
  rw [a0, a1]
  exact (result m c _ _ _).symm

end Cert.Kernel6Ideal.Dw

end
-- ==== Proof.Sigmoid.lean ====
module

public import proofs.«01_k».proof.Proof.Consts

@[expose] public section

noncomputable section

/-! The sigmoid in its two forms: half a hyperbolic tangent of half the argument plus a half, and one over one plus an exponential. -/

namespace Cert.Sigmoid

open Idealize.ShloMosaic Cert.Consts

/-- The sigmoid of an extended real: 0 at minus infinity, 1 at infinity. -/
def gate (x : EReal) : EReal := Ideal.logistic x

theorem half_tanh (r : ℝ) : 1 / 2 * Real.tanh (1 / 2 * r) + 1 / 2 = (1 + Real.exp (-r))⁻¹ := by
  have e : Real.exp (-r) = Real.exp (-(1 / 2 * r)) * Real.exp (-(1 / 2 * r)) := by rw [← Real.exp_add]; congr 1; ring
  have p : 0 < Real.exp (1 / 2 * r) := Real.exp_pos _
  have q : 0 < Real.exp (-(1 / 2 * r)) := Real.exp_pos _
  have pq : Real.exp (1 / 2 * r) * Real.exp (-(1 / 2 * r)) = 1 := by rw [← Real.exp_add]; simp
  rw [Real.tanh_eq_sinh_div_cosh, Real.sinh_eq, Real.cosh_eq, e]
  generalize Real.exp (1 / 2 * r) = a at p pq
  generalize Real.exp (-(1 / 2 * r)) = b at q pq
  have h1 : a + b ≠ 0 := by positivity
  have h2 : 1 + b * b ≠ 0 := by positivity
  field_simp
  nlinarith [pq]

/-- The kernel's form. -/
theorem tanh_form (x : EReal) : Ideal.ofBits .f32 0x3F000000#32 * Ideal.tanh (Ideal.ofBits .f32 0x3F000000#32 * x)
    + Ideal.ofBits .f32 0x3F000000#32 = gate x := by
  unfold gate
  rw [w_half]
  induction x using EReal.rec with
  | bot =>
    rw [EReal.coe_mul_bot_of_pos (by norm_num), Ideal.tanh_bot, Ideal.logistic_bot]
    rw [show (-1 : EReal) = ((-1 : ℝ) : EReal) by simp, ← EReal.coe_mul, ← EReal.coe_add]; norm_num
  | top =>
    rw [EReal.coe_mul_top_of_pos (by norm_num), Ideal.tanh_top, Ideal.logistic_top, mul_one, ← EReal.coe_add]; norm_num
  | coe r =>
    rw [← EReal.coe_mul, Ideal.tanh_coe, ← EReal.coe_mul, ← EReal.coe_add, Ideal.logistic_coe, half_tanh]

/-- The reference's form. -/
theorem exp_form (x : EReal) : Ideal.div 1 (1 + Ideal.exp (-x)) = gate x := rfl

end Cert.Sigmoid

end
-- ==== Proof.Merge.lean ====
module

public import proofs.«01_k».proof.Defs
public import proofs.«01_k».proof.Proof.Sigmoid
public import proofs.«01_k».proof.Proof.NormSpec
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Lib.Pointwise
public import Idealize.ShloMosaic.Lib.Pipeline.ValueKit
public import Idealize.ShloMosaic.Lib.Claim

@[expose] public section

set_option maxRecDepth 16384

noncomputable section

/-! The gradient of the gated merge of the two branches: the kernel's six results are the reference's, on every input. -/

namespace Cert.MergeSpec

open Cert.Sigmoid

variable {ι : Type} (y : ι → Fin 1024 → EReal) (w : Fin 1024 → Fin 1024 → EReal) (g : ι → Fin 1024 → EReal) (a : ι → Fin 1024 → EReal)
  (o : Fin 1024 → Fin 512 → EReal)

/-- The merged branches' gradient. -/
def dm (r : ι) (j : Fin 1024) : EReal := ∑ k, y r k * w j k
/-- A branch's gradient: that times the branch's gate. -/
def db (r : ι) (j : Fin 1024) : EReal := dm y w r j * gate (g r j)
/-- The gate's gradient, `a` the branch's value. -/
def dg (r : ι) (j : Fin 1024) : EReal := dm y w r j * a r j * gate (g r j) * (1 - gate (g r j))
/-- The gradient before the branch's output projection. -/
def dy (r : ι) (q : Fin 512) : EReal := ∑ j, db y w g r j * o j q

end Cert.MergeSpec

namespace Cert.Kernel7Ideal.Merge

open Cert.Kernel7Ideal Cert.Kernel7Ideal.Gen Cert.Consts Cert.Sigmoid Cert.MergeSpec Cert.NormSpec Idealize.ShloMosaic Idealize.ShloMosaic.TcCoe
  Idealize.SL.Sem

theorem hz2 : (![0, 0] : Fin 2 → Nat) = fun _ => 0 := funext fun a => by fin_cases a <;> rfl

section payloads
variable (v0 v3 v12 v27 : Vec Ideal S512x1024 .bf16) (v1 : Vec Ideal S1024x1024 .bf16) (v45 : Vec Ideal S1024x512 .bf16)
variable (y g a : Fin 512 → Fin 1024 → EReal) (w : Fin 1024 → Fin 1024 → EReal) (o : Fin 1024 → Fin 512 → EReal)
variable (h0 : ∀ r k, v0 (ix2 r k) = y r k) (h1 : ∀ j k, v1 (ix2 j k) = w j k) (h3 : ∀ r j, v3 (ix2 r j) = g r j)
  (h27 : ∀ r j, v27 (ix2 r j) = a r j) (h45 : ∀ j q, v45 (ix2 j q) = o j q)

include h0 h1 in
theorem p4 (r : Fin 512) (j : Fin 1024) : k0_pay4 v0 v1 (ix2 r j) = dm y w r j := by
  pointwise [k0_pay4]
  simp only [h0, h1]; rfl
include h3 in
/-- The two gates. -/
theorem p5 (r : Fin 512) (j : Fin 1024) : k0_pay5 v3 (ix2 r j) = gate (g r j) := by
  pointwise [k0_pay5]
  rw [h3]; exact tanh_form _
include h3 in
theorem p6 (r : Fin 512) (j : Fin 1024) : k0_pay6 v3 (ix2 r j) = gate (g r j) := by
  pointwise [k0_pay6]
  rw [h3]; exact tanh_form _
include h0 h1 h3 in
/-- The two branches' gradients. -/
theorem p7 (r : Fin 512) (j : Fin 1024) : k0_pay7 v0 v1 v3 (ix2 r j) = db y w g r j := by
  pointwise [k0_pay7]
  rw [p4 v0 v1 y w h0 h1, p5 v3 g h3]; rfl
include h0 h1 h3 in
theorem p8 (r : Fin 512) (j : Fin 1024) : k0_pay8 v0 v1 v3 (ix2 r j) = db y w g r j := by
  pointwise [k0_pay8]
  rw [p4 v0 v1 y w h0 h1, p6 v3 g h3]; rfl
include h0 h1 h3 h27 in
/-- The two gates' gradients. -/
theorem p9 (r : Fin 512) (j : Fin 1024) : k0_pay9 v0 v1 v3 v27 (ix2 r j) = dg y w g a r j := by
  pointwise [k0_pay9]
  rw [p4 v0 v1 y w h0 h1, p5 v3 g h3, h27]; rfl
include h0 h1 h3 h27 in
theorem p1 (r : Fin 512) (j : Fin 1024) : k0_pay1 (k0_pay4 v0 v1) (k0_pay6 v3) v27 (ix2 r j) = dg y w g a r j := by
  pointwise [k0_pay1]
  rw [p4 v0 v1 y w h0 h1, p6 v3 g h3, h27]; rfl
include h0 h1 h3 h45 in
/-- The two gradients before the output projections. -/
theorem p2 (r : Fin 512) (q : Fin 512) : k0_pay2 (k0_pay7 v0 v1 v3) v45 (ix2 r q) = dy y w g o r q := by
  pointwise [k0_pay2]
  simp only [p7 v0 v3 v1 y g w h0 h1 h3, h45]; rfl
include h0 h1 h3 h45 in
theorem p3 (r : Fin 512) (q : Fin 512) : k0_pay3 (k0_pay8 v0 v1 v3) v45 (ix2 r q) = dy y w g o r q := by
  pointwise [k0_pay3]
  simp only [p8 v0 v3 v1 y g w h0 h1 h3, h45]; rfl
end payloads

section outs
variable (x0 x1 x2 x3 x4 : Vec Ideal S512x1024 .bf16) (x5 x6 : Vec Ideal S1024x512 .bf16) (x7 : Vec Ideal S1024x1024 .bf16)

theorem o8 : out0_8 x0 x1 x2 x3 x4 x5 x6 x7 = k0_pay7 x0 x7 x1 := by
  unfold out0_8
  rw [View.canon_unit_zero (S := S512x1024) hz2]
  simp only [View.ld_unit_zero (S := S512x1024) hz2, View.ld_unit_zero (S := S1024x1024) hz2]
theorem o9 : out0_9 x0 x1 x2 x3 x4 x5 x6 x7 = k0_pay8 x0 x7 x2 := by
  unfold out0_9
  rw [View.canon_unit_zero (S := S512x1024) hz2]
  simp only [View.ld_unit_zero (S := S512x1024) hz2, View.ld_unit_zero (S := S1024x1024) hz2]
theorem o10 : out0_10 x0 x1 x2 x3 x4 x5 x6 x7 = k0_pay9 x0 x7 x1 x3 := by
  unfold out0_10
  rw [View.canon_unit_zero (S := S512x1024) hz2]
  simp only [View.ld_unit_zero (S := S512x1024) hz2, View.ld_unit_zero (S := S1024x1024) hz2]
theorem o11 : out0_11 x0 x1 x2 x3 x4 x5 x6 x7 = k0_pay1 (k0_pay4 x0 x7) (k0_pay6 x2) x4 := by
  unfold out0_11
  rw [View.canon_unit_zero (S := S512x1024) hz2]
  simp only [View.ld_unit_zero (S := S512x1024) hz2, View.ld_unit_zero (S := S1024x1024) hz2]
theorem o12 : out0_12 x0 x1 x2 x3 x4 x5 x6 x7 = k0_pay2 (k0_pay7 x0 x7 x1) x5 := by
  unfold out0_12
  rw [View.canon_unit_zero (S := S512x512) hz2]
  simp only [View.ld_unit_zero (S := S512x1024) hz2, View.ld_unit_zero (S := S1024x1024) hz2, View.ld_unit_zero (S := S1024x512) hz2]
theorem o13 : out0_13 x0 x1 x2 x3 x4 x5 x6 x7 = k0_pay3 (k0_pay8 x0 x7 x2) x6 := by
  unfold out0_13
  rw [View.canon_unit_zero (S := S512x512) hz2]
  simp only [View.ld_unit_zero (S := S512x1024) hz2, View.ld_unit_zero (S := S1024x1024) hz2, View.ld_unit_zero (S := S1024x512) hz2]
end outs

variable (m : (ℓ : Loc nD τ sig) → Buf (Elt Ideal) ℓ) (c : Dev nD)

/-! The arguments' entries: the cotangent, the two gates, the two branches, the two output projections, the merge's weight. -/

def Y (r : Fin 4096) (k : Fin 1024) : EReal := m ((c : Thread nD τ).loc main_arg0) (ix2 r k)
def G1 (r : Fin 4096) (k : Fin 1024) : EReal := m ((c : Thread nD τ).loc main_arg1) (ix2 r k)
def G2 (r : Fin 4096) (k : Fin 1024) : EReal := m ((c : Thread nD τ).loc main_arg2) (ix2 r k)
def B1 (r : Fin 4096) (k : Fin 1024) : EReal := m ((c : Thread nD τ).loc main_arg3) (ix2 r k)
def B2 (r : Fin 4096) (k : Fin 1024) : EReal := m ((c : Thread nD τ).loc main_arg4) (ix2 r k)
def O1 (j : Fin 1024) (q : Fin 512) : EReal := m ((c : Thread nD τ).loc main_arg5) (ix2 j q)
def O2 (j : Fin 1024) (q : Fin 512) : EReal := m ((c : Thread nD τ).loc main_arg6) (ix2 j q)
def W (j k : Fin 1024) : EReal := m ((c : Thread nD τ).loc main_arg7) (ix2 j k)

/-- A grid point's number. -/
def pt (t : Fin cfg0.N) : Fin 8 := ⟨t.val, lt_of_lt_of_eq t.isLt N_0⟩

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)

section blocks
variable (t : Fin cfg0.N)
theorem blk0 (a : Fin 512) (j : Fin 1024) : (show Vec Ideal S512x1024 .bf16 from iblk m c 0 t) (ix2 a j) = Y m c (grow (pt t) a) j := by
  unfold Y
  blk_ext [iblk, V, idx0 t, grow, pt]
theorem blk1 (a : Fin 512) (j : Fin 1024) : (show Vec Ideal S512x1024 .bf16 from iblk m c 1 t) (ix2 a j) = G1 m c (grow (pt t) a) j := by
  unfold G1
  blk_ext [iblk, V, idx1 t, grow, pt]
theorem blk2 (a : Fin 512) (j : Fin 1024) : (show Vec Ideal S512x1024 .bf16 from iblk m c 2 t) (ix2 a j) = G2 m c (grow (pt t) a) j := by
  unfold G2
  blk_ext [iblk, V, idx2 t, grow, pt]
theorem blk3 (a : Fin 512) (j : Fin 1024) : (show Vec Ideal S512x1024 .bf16 from iblk m c 3 t) (ix2 a j) = B1 m c (grow (pt t) a) j := by
  unfold B1
  blk_ext [iblk, V, idx3 t, grow, pt]
theorem blk4 (a : Fin 512) (j : Fin 1024) : (show Vec Ideal S512x1024 .bf16 from iblk m c 4 t) (ix2 a j) = B2 m c (grow (pt t) a) j := by
  unfold B2
  blk_ext [iblk, V, idx4 t, grow, pt]
theorem blk5 (j : Fin 1024) (q : Fin 512) : (show Vec Ideal S1024x512 .bf16 from iblk m c 5 t) (ix2 j q) = O1 m c j q := by
  unfold O1
  blk_ext [iblk, V, idx5 t]
theorem blk6 (j : Fin 1024) (q : Fin 512) : (show Vec Ideal S1024x512 .bf16 from iblk m c 6 t) (ix2 j q) = O2 m c j q := by
  unfold O2
  blk_ext [iblk, V, idx6 t]
theorem blk7 (j k : Fin 1024) : (show Vec Ideal S1024x1024 .bf16 from iblk m c 7 t) (ix2 j k) = W m c j k := by
  unfold W
  blk_ext [iblk, V, idx7 t]
end blocks

/-- An entry of a block of 512 rows is the array's entry in the block's row. -/
theorem entry {n : ℕ} (t : Fin cfg0.N) (f : (⟨2, ![512, n]⟩ : Shape).Idx → EReal) (g : Fin 4096 → Fin n → EReal)
    (h : ∀ a j, f (ix2 a j) = g (grow (pt t) a) j) (y : (⟨2, ![512, n]⟩ : Shape).Idx) (x : (⟨2, ![4096, n]⟩ : Shape).Idx)
    (h0 : (x 0).val = 512 * t.val + (y 0).val) (h1 : (x 1).val = (y 1).val) : f y = g (x 0) (x 1) := by
  rw [eq_ix2 y, show x 0 = grow (pt t) (y 0) from Fin.ext h0, show x 1 = y 1 from Fin.ext h1]
  exact h _ _

/-! The six result arrays after the run. -/

theorem arr8 : (dats m 0 c).arrAt 8 cfg0.N = fun x : S4096x1024.Idx => db (Y m c) (W m c) (G1 m c) (x 0) (x 1) := by
  refine (dats m 0 c).arrAt_eq_of_covers 8 _ (by decide +kernel) fun t _ y => ?_
  blk_simp [idx8 t]
  rw [after0_8, o8]
  refine entry t _ (db (Y m c) (W m c) (G1 m c)) (p7 _ _ _ _ _ _ (blk0 m c t) (blk7 m c t) (blk1 m c t)) _ _ ?_ ?_
    <;> blk_simp [idx8 t] <;> try omega
theorem arr9 : (dats m 0 c).arrAt 9 cfg0.N = fun x : S4096x1024.Idx => db (Y m c) (W m c) (G2 m c) (x 0) (x 1) := by
  refine (dats m 0 c).arrAt_eq_of_covers 9 _ (by decide +kernel) fun t _ y => ?_
  blk_simp [idx9 t]
  rw [after0_9, o9]
  refine entry t _ (db (Y m c) (W m c) (G2 m c)) (p8 _ _ _ _ _ _ (blk0 m c t) (blk7 m c t) (blk2 m c t)) _ _ ?_ ?_
    <;> blk_simp [idx9 t] <;> try omega
theorem arr10 : (dats m 0 c).arrAt 10 cfg0.N = fun x : S4096x1024.Idx => dg (Y m c) (W m c) (G1 m c) (B1 m c) (x 0) (x 1) := by
  refine (dats m 0 c).arrAt_eq_of_covers 10 _ (by decide +kernel) fun t _ y => ?_
  blk_simp [idx10 t]
  rw [after0_10, o10]
  refine entry t _ (dg (Y m c) (W m c) (G1 m c) (B1 m c)) (p9 _ _ _ _ _ _ _ _ (blk0 m c t) (blk7 m c t) (blk1 m c t) (blk3 m c t)) _ _ ?_ ?_
    <;> blk_simp [idx10 t] <;> try omega
theorem arr11 : (dats m 0 c).arrAt 11 cfg0.N = fun x : S4096x1024.Idx => dg (Y m c) (W m c) (G2 m c) (B2 m c) (x 0) (x 1) := by
  refine (dats m 0 c).arrAt_eq_of_covers 11 _ (by decide +kernel) fun t _ y => ?_
  blk_simp [idx11 t]
  rw [after0_11, o11]
  refine entry t _ (dg (Y m c) (W m c) (G2 m c) (B2 m c)) (p1 _ _ _ _ _ _ _ _ (blk0 m c t) (blk7 m c t) (blk2 m c t) (blk4 m c t)) _ _ ?_ ?_
    <;> blk_simp [idx11 t] <;> try omega
theorem arr12 : (dats m 0 c).arrAt 12 cfg0.N = fun x : S4096x512.Idx => dy (Y m c) (W m c) (G1 m c) (O1 m c) (x 0) (x 1) := by
  refine (dats m 0 c).arrAt_eq_of_covers 12 _ (by decide +kernel) fun t _ y => ?_
  blk_simp [idx12 t]
  rw [after0_12, o12]
  refine entry t _ (dy (Y m c) (W m c) (G1 m c) (O1 m c)) (p2 _ _ _ _ _ _ _ _ (blk0 m c t) (blk7 m c t) (blk1 m c t) (blk5 m c t)) _ _ ?_ ?_
    <;> blk_simp [idx12 t] <;> try omega
theorem arr13 : (dats m 0 c).arrAt 13 cfg0.N = fun x : S4096x512.Idx => dy (Y m c) (W m c) (G2 m c) (O2 m c) (x 0) (x 1) := by
  refine (dats m 0 c).arrAt_eq_of_covers 13 _ (by decide +kernel) fun t _ y => ?_
  blk_simp [idx13 t]
  rw [after0_13, o13]
  refine entry t _ (dy (Y m c) (W m c) (G2 m c) (O2 m c)) (p3 _ _ _ _ _ _ _ _ (blk0 m c t) (blk7 m c t) (blk2 m c t) (blk6 m c t)) _ _ ?_ ?_
    <;> blk_simp [idx13 t] <;> try omega

end Cert.Kernel7Ideal.Merge

namespace Cert.Reference7Ideal.Merge

open Cert.Reference7Ideal Cert.Reference7Ideal.Read Cert.Consts Cert.Sigmoid Cert.MergeSpec Idealize.ShloMosaic Idealize.SL.Sem

variable (x0 x1 x2 x3 x4 : (⟨S4096x1024, .bf16⟩ : BufTy).Contents (Elt Ideal)) (x5 x6 : (⟨S1024x512, .bf16⟩ : BufTy).Contents (Elt Ideal))
  (x7 : (⟨S1024x1024, .bf16⟩ : BufTy).Contents (Elt Ideal))
variable (y g a : Fin 4096 → Fin 1024 → EReal) (w : Fin 1024 → Fin 1024 → EReal) (o : Fin 1024 → Fin 512 → EReal)

variable (h0 : ∀ r k, x0 (ix2 r k) = y r k) (h7 : ∀ j k, x7 (ix2 j k) = w j k)
include h0 h7 in
theorem s28 (r : Fin 4096) (j : Fin 1024) : val_main_v28 (F := Ideal) x0 x7 (ix2 r j) = dm y w r j := by
  pointwise [val_main_v28, val_main_v27, val_main_v25]
  simp only [h0, h7]; rfl
/-- The two gates. -/
theorem s9 (h1 : ∀ r j, x1 (ix2 r j) = g r j) (r : Fin 4096) (j : Fin 1024) : val_main_v9 (F := Ideal) x1 (ix2 r j) = gate (g r j) := by
  pointwise [val_main_v9, val_main_v8, val_main_v7, val_main_v6, val_main_v5, val_main_v4, val_main_v0, val_main_cst, val_main_cst_0]
  rw [h1]; exact exp_form _
theorem s19 (h2 : ∀ r j, x2 (ix2 r j) = g r j) (r : Fin 4096) (j : Fin 1024) : val_main_v19 (F := Ideal) x2 (ix2 r j) = gate (g r j) := by
  pointwise [val_main_v19, val_main_v18, val_main_v17, val_main_v16, val_main_v15, val_main_v14, val_main_v1, val_main_cst_2, val_main_cst_3]
  rw [h2]; exact exp_form _
include h0 h7 in
/-- The two branches' gradients. -/
theorem s37 (h1 : ∀ r j, x1 (ix2 r j) = g r j) (r : Fin 4096) (j : Fin 1024) :
    val_main_v37 (F := Ideal) x0 x1 x7 (ix2 r j) = db y w g r j := by
  pointwise [val_main_v37, val_main_v32]
  rw [s9 x1 g h1, s28 x0 x7 y w h0 h7]; exact mul_comm (G := EReal) _ _
include h0 h7 in
theorem s38 (h2 : ∀ r j, x2 (ix2 r j) = g r j) (r : Fin 4096) (j : Fin 1024) :
    val_main_v38 (F := Ideal) x0 x2 x7 (ix2 r j) = db y w g r j := by
  pointwise [val_main_v38, val_main_v29]
  rw [s19 x2 g h2, s28 x0 x7 y w h0 h7]; exact mul_comm (G := EReal) _ _
include h0 h7 in
/-- The two gates' gradients. -/
theorem s35 (h1 : ∀ r j, x1 (ix2 r j) = g r j) (h3 : ∀ r j, x3 (ix2 r j) = a r j) (r : Fin 4096) (j : Fin 1024) :
    val_main_v35 (F := Ideal) x0 x1 x3 x7 (ix2 r j) = dg y w g a r j := by
  pointwise [val_main_v35, val_main_v34, val_main_v33, val_main_v12, val_main_v11, val_main_v10, val_main_v2, val_main_cst_1]
  rw [s9 x1 g h1, s28 x0 x7 y w h0 h7, h3]; exact (mul_assoc (G := EReal) _ _ _).symm
include h0 h7 in
theorem s36 (h2 : ∀ r j, x2 (ix2 r j) = g r j) (h4 : ∀ r j, x4 (ix2 r j) = a r j) (r : Fin 4096) (j : Fin 1024) :
    val_main_v36 (F := Ideal) x0 x2 x4 x7 (ix2 r j) = dg y w g a r j := by
  pointwise [val_main_v36, val_main_v31, val_main_v30, val_main_v22, val_main_v21, val_main_v20, val_main_v3, val_main_cst_4]
  rw [s19 x2 g h2, s28 x0 x7 y w h0 h7, h4]; exact (mul_assoc (G := EReal) _ _ _).symm
include h0 h7 in
/-- The two gradients before the output projections. -/
theorem s45 (h1 : ∀ r j, x1 (ix2 r j) = g r j) (h5 : ∀ j q, x5 (ix2 j q) = o j q) (r : Fin 4096) (q : Fin 512) :
    val_main_v45 (F := Ideal) x0 x1 x5 x7 (ix2 r q) = dy y w g o r q := by
  pointwise [val_main_v45, val_main_v44, val_main_v39, val_main_v42, val_main_v41]
  simp only [s37 x0 x1 x7 y g w h0 h7 h1, h5]; rfl
include h0 h7 in
theorem s52 (h2 : ∀ r j, x2 (ix2 r j) = g r j) (h6 : ∀ j q, x6 (ix2 j q) = o j q) (r : Fin 4096) (q : Fin 512) :
    val_main_v52 (F := Ideal) x0 x2 x6 x7 (ix2 r q) = dy y w g o r q := by
  pointwise [val_main_v52, val_main_v51, val_main_v46, val_main_v49, val_main_v48]
  simp only [s38 x0 x2 x7 y g w h0 h7 h2, h6]; rfl

end Cert.Reference7Ideal.Merge

namespace Cert.Kernel7Ideal.Merge

open Cert.Reference7Ideal.Read Idealize.ShloMosaic Idealize.SL.Sem

/-- The value claim. -/
theorem algebraic : Cert.algebraic_Kernel7Ideal_Reference7Ideal (hKernel7Ideal := Cert.Kernel7Ideal.Gen.facts)
    (hReference7Ideal := Cert.Reference7Ideal.Gen.facts) := by
  intro m g m' g' _ hag
  refine ⟨fun c => (Cert.Kernel7Ideal.Gen.dats m 0 c).arrAt 8 Cert.Kernel7Ideal.cfg0.N,
    fun c => (Cert.Kernel7Ideal.Gen.dats m 0 c).arrAt 9 Cert.Kernel7Ideal.cfg0.N,
    fun c => (Cert.Kernel7Ideal.Gen.dats m 0 c).arrAt 10 Cert.Kernel7Ideal.cfg0.N,
    fun c => (Cert.Kernel7Ideal.Gen.dats m 0 c).arrAt 11 Cert.Kernel7Ideal.cfg0.N,
    fun c => (Cert.Kernel7Ideal.Gen.dats m 0 c).arrAt 12 Cert.Kernel7Ideal.cfg0.N,
    fun c => (Cert.Kernel7Ideal.Gen.dats m 0 c).arrAt 13 Cert.Kernel7Ideal.cfg0.N, Cert.Kernel7Ideal.Value.run_blocks m g, ?_⟩
  refine (θ_run _ _ _).mono (fun r h c => ?_) (Cert.Reference7Ideal.Value.run (F := Ideal) m' g')
  obtain ⟨a0, a1, a2, a3, a4, a5, a6, a7⟩ := hag c
  obtain ⟨q0, q1, q2, q3, q4, q5, hargs⟩ := h c
  have f0 : ∀ r k, _ = Y m c r k := fun r k => congrFun a0 (ix2 r k)
  have f1 : ∀ r k, _ = G1 m c r k := fun r k => congrFun a1 (ix2 r k)
  have f2 : ∀ r k, _ = G2 m c r k := fun r k => congrFun a2 (ix2 r k)
  have f3 : ∀ r k, _ = B1 m c r k := fun r k => congrFun a3 (ix2 r k)
  have f4 : ∀ r k, _ = B2 m c r k := fun r k => congrFun a4 (ix2 r k)
  have f5 : ∀ r k, _ = O1 m c r k := fun r k => congrFun a5 (ix2 r k)
  have f6 : ∀ r k, _ = O2 m c r k := fun r k => congrFun a6 (ix2 r k)
  have f7 : ∀ r k, _ = W m c r k := fun r k => congrFun a7 (ix2 r k)
  refine ⟨q0.trans ((val_main_v37_eq _ _ _).trans ((funext fun x => ?_).trans (arr8 m c).symm)),
    q1.trans ((val_main_v38_eq _ _ _).trans ((funext fun x => ?_).trans (arr9 m c).symm)),
    q2.trans ((val_main_v35_eq _ _ _ _).trans ((funext fun x => ?_).trans (arr10 m c).symm)),
    q3.trans ((val_main_v36_eq _ _ _ _).trans ((funext fun x => ?_).trans (arr11 m c).symm)),
    q4.trans ((val_main_v45_eq _ _ _ _).trans ((funext fun x => ?_).trans (arr12 m c).symm)),
    q5.trans ((val_main_v52_eq _ _ _ _).trans ((funext fun x => ?_).trans (arr13 m c).symm)), hargs⟩
  · rw [eq_ix2 x]; exact Cert.Reference7Ideal.Merge.s37 _ _ _ _ _ _ f0 f7 f1 _ _
  · rw [eq_ix2 x]; exact Cert.Reference7Ideal.Merge.s38 _ _ _ _ _ _ f0 f7 f2 _ _
  · rw [eq_ix2 x]; exact Cert.Reference7Ideal.Merge.s35 _ _ _ _ _ _ _ _ f0 f7 f1 f3 _ _
  · rw [eq_ix2 x]; exact Cert.Reference7Ideal.Merge.s36 _ _ _ _ _ _ _ _ f0 f7 f2 f4 _ _
  · rw [eq_ix2 x]; exact Cert.Reference7Ideal.Merge.s45 _ _ _ _ _ _ _ _ f0 f7 f1 f5 _ _
  · rw [eq_ix2 x]; exact Cert.Reference7Ideal.Merge.s52 _ _ _ _ _ _ _ _ f0 f7 f2 f6 _ _

end Cert.Kernel7Ideal.Merge

end
-- ==== Proof.DwOut.lean ====
module

public import proofs.«01_k».proof.Defs
public import proofs.«01_k».proof.Proof.Consts
public import proofs.«01_k».proof.Proof.DwUp
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Lib.Pipeline.ValueKit
public import Idealize.ShloMosaic.Lib.WholeRead
public import Idealize.ShloMosaic.Lib.Claim

@[expose] public section

set_option maxRecDepth 16384

noncomputable section

/-! The gradient of the output projection's weight: one block, accumulated over two halves of the rows. -/

namespace Cert.Kernel8Ideal.Dw

open Cert.Kernel8Ideal Cert.Kernel8Ideal.Gen Cert.Consts Idealize.ShloMosaic Idealize.ShloMosaic.TcCoe Idealize.SL.Sem
open Cert.Kernel3Ideal.Dw (hz2 hz3 half)

variable (m : (ℓ : Loc nD τ sig) → Buf (Elt Ideal) ℓ) (c : Dev nD)

section body
variable (i : grid0.Coords) (a2 : Memref sig .tc .vmem S2048x1024 .bf16) (h2 : a2.IsWhole) (a3 : Memref sig .tc .vmem S2048x1024 .bf16) (h3 : a3.IsWhole)
  (a4 : Memref sig .tc .vmem S1x1024x1024 .bf16) (h4 : a4.IsWhole) (a5 : Memref sig .tc .vmem S1024x1024 .f32) (h5 : a5.IsWhole)
  (x0 : Vec Ideal S2048x1024 .bf16) (x1 : Vec Ideal S2048x1024 .bf16) (xs : Vec Ideal S1024x1024 .f32)

/-- At the first of the two points the accumulator ends with zero plus the half's product. -/
theorem first (hc0 : cond0_0 i) (hc1 : ¬cond0_1 i) : sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x1024) hz2, View.readCov_unit_zero (S := S1024x1024) _ hz2]
  simp only [View.readAt_eq_ld, h2.read_unread, h3.read_unread, View.ld_unit_zero (S := S2048x1024) hz2]

/-- At the second the output is the accumulator plus the half's product. -/
theorem second (hc0 : ¬cond0_0 i) (hc1 : cond0_1 i) :
    out0_B_2 c i a2 h2 a3 h3 a4 h4 a5 h5 hc0 hc1 x0 x1 xs = k0_pay3 (k0_pay2 xs x0 x1) := by
  unfold out0_B_2
  rw [View.read_writes_eq_canon _ _ _ (cover0_B_2 c i a2 h2 a3 h3 a4 h4 a5 h5 hc0 hc1 x0 x1 xs)]
  unfold kernelRun0_B
  dsimp only
  sl_unfold_words
  rw [View.canon_unit_zero (S := S1x1024x1024) hz3, View.readCov_unit_zero (S := S1024x1024) _ hz2]
  simp only [View.readAt_eq_ld, h2.read_unread, h3.read_unread, h5.read_unread, View.ld_unit_zero (S := S2048x1024) hz2,
    View.ld_unit_zero (S := S1024x1024) hz2]

/-- The accumulator's step, of blocks whose entries are known. -/
theorem step_at (r : Fin 1024) (j : Fin 1024) (p q : Fin 2048 → EReal) (hp : ∀ k, x0 (ix2 k r) = p k) (hq : ∀ k, x1 (ix2 k j) = q k) :
    k0_pay2 xs x0 x1 (ix2 r j) = (xs (ix2 r j) + ∑ k, p k * q k : EReal) := by
  pointwise [k0_pay2]
  simp only [hp, hq]
theorem pay1_at (r : Fin 1024) (j : Fin 1024) : k0_pay1 (F := Ideal) (ix2 r j) = (0 : EReal) := by
  pointwise [k0_pay1]
theorem pay3_at (r : Fin 1024) (j : Fin 1024) : k0_pay3 xs (ix3 0 r j) = xs (ix2 r j) := by
  pointwise [k0_pay3]
end body

/-- The first argument's entries. -/
def A (r : Fin 4096) (k : Fin 1024) : EReal := m ((c : Thread nD τ).loc main_arg0) (ix2 r k)
/-- The second argument's entries. -/
def B (r : Fin 4096) (j : Fin 1024) : EReal := m ((c : Thread nD τ).loc main_arg1) (ix2 r j)

theorem idx0 : ∀ t : Fin cfg0.N, win0_0.index t = ![t.val % 2, 0] := (by decide +kernel : ∀ t : Fin grid0.N, _)
theorem idx1 : ∀ t : Fin cfg0.N, win0_1.index t = ![t.val % 2, 0] := (by decide +kernel : ∀ t : Fin grid0.N, _)

theorem blk0 (t : Fin cfg0.N) (k : Fin 2048) (r : Fin 1024) :
    (show Vec Ideal S2048x1024 .bf16 from iblk m c 0 t) (ix2 k r) = A m c (half t.val k) r := by
  unfold A
  blk_ext [iblk, V, idx0 t, half]
theorem blk1 (t : Fin cfg0.N) (k : Fin 2048) (j : Fin 1024) :
    (show Vec Ideal S2048x1024 .bf16 from iblk m c 1 t) (ix2 k j) = B m c (half t.val k) j := by
  unfold B
  blk_ext [iblk, V, idx1 t, half]

/-- What the first point leaves in the accumulator. -/
theorem acc_eq (t : Fin cfg0.N) (h : t.val % 2 = 0) :
    (outsAt0 m c t.val t.isLt).2 = k0_pay2 k0_pay1 (iblk m c 0 t) (iblk m c 1 t) := by
  rw [outsAt0_A m c t h (by omega)]
  dsimp only
  rw [first]
theorem acc_at (t : Fin cfg0.N) (h : t.val % 2 = 0) (r : Fin 1024) (j : Fin 1024) :
    (outsAt0 m c t.val t.isLt).2 (ix2 r j) = ∑ k : Fin 2048, A m c (half 0 k) r * B m c (half 0 k) j := by
  have e : half t.val = half 0 := funext fun k => Fin.ext (by show 2048 * (t.val % 2) + _ = 2048 * (0 % 2) + _; rw [h])
  rw [acc_eq m c t h, step_at _ _ _ r j _ _ (fun k => blk0 m c t k r) (fun k => blk1 m c t k j), pay1_at, zero_add, e]

/-- What the second leaves in the output block. -/
theorem out_eq (t : Fin cfg0.N) (h : t.val % 2 = 1) : (outsAt0 m c t.val t.isLt).1 =
    k0_pay3 (k0_pay2 (outsAt0 m c (t.val - 1) (Nat.lt_of_le_of_lt (Nat.sub_le _ _) t.isLt)).2 (iblk m c 0 t) (iblk m c 1 t)) := by
  rw [outsAt0_B m c t (by omega) h]
  dsimp only
  rw [second]
theorem out_at (t : Fin cfg0.N) (h : t.val % 2 = 1) (r : Fin 1024) (j : Fin 1024) :
    (outsAt0 m c t.val t.isLt).1 (ix3 0 r j) = ∑ k : Fin 4096, A m c k r * B m c k j := by
  have e : half t.val = half 1 := funext fun k => Fin.ext (by show 2048 * (t.val % 2) + _ = 2048 * (1 % 2) + _; rw [h])
  rw [out_eq m c t h, pay3_at, step_at _ _ _ r j _ _ (fun k => blk0 m c t k r) (fun k => blk1 m c t k j), e,
    acc_at m c ⟨t.val - 1, lt_of_le_of_lt (Nat.sub_le _ _) t.isLt⟩ (by dsimp only; omega) r j]
  exact (Fin.sum_univ_add (a := 2048) (b := 2048) (fun k : Fin (2048 + 2048) => A m c k r * B m c k j)).symm

/-- The result array after the run. -/
theorem result (r : Fin 1024) (j : Fin 1024) :
    Value.G2 m c (ix3 0 r j) = (∑ k : Fin 4096, A m c k r * B m c k j : EReal) := by
  have hl : Value.loc2Of (ix3 0 r j) = ix3 0 r j := by
    funext a; apply Fin.ext
    match a with
    | ⟨0, _⟩ => rfl
    | ⟨1, _⟩ => show r.val % 1024 = r.val; omega
    | ⟨2, _⟩ => show j.val % 1024 = j.val; omega
  have hp : Value.pt2Of (ix3 0 r j) = 1 := by
    show 2 * (1 * (0 / 1 - 0) + 1 * (r.val / 1024 - 0) + 1 * (j.val / 1024 - 0)) + 1 = 1
    omega
  have hlt : 1 < cfg0.N := lt_of_lt_of_eq (show 1 < 2 by omega) N_0.symm
  unfold Value.G2
  rw [dif_pos (by rw [hp]; exact hlt), hl, Value.fold0_congr m c _ _ _ (by rw [Nat.zero_add]; exact hlt) hp, ← Value.outsAt0_sweep m c _ hlt]
  exact out_at m c ⟨1, hlt⟩ rfl r j

/-- The reference's result. -/
theorem reference (x0 : (⟨Cert.Reference8Ideal.S4096x1024, .bf16⟩ : BufTy).Contents (Elt Ideal))
    (x1 : (⟨Cert.Reference8Ideal.S4096x1024, .bf16⟩ : BufTy).Contents (Elt Ideal)) (k : Fin 1024) (j : Fin 1024) :
    Cert.Reference8Ideal.Read.val_main_v7 (F := Ideal) x0 x1 (ix3 0 k j) = (∑ r : Fin 4096, x0 (ix2 r k) * x1 (ix2 r j) : EReal) := by
  pointwise [Cert.Reference8Ideal.Read.val_main_v7, Cert.Reference8Ideal.Read.val_main_v6, Cert.Reference8Ideal.Read.val_main_v5,
    Cert.Reference8Ideal.Read.val_main_v4, Cert.Reference8Ideal.Read.val_main_v1, Cert.Reference8Ideal.Read.val_main_v0]
  exact Finset.sum_congr rfl fun k _ => mul_comm _ _

/-- The value claim. -/
theorem algebraic : Cert.algebraic_Kernel8Ideal_Reference8Ideal (hKernel8Ideal := Cert.Kernel8Ideal.Gen.facts)
    (hReference8Ideal := Cert.Reference8Ideal.Gen.facts) := by
  intro m g m' g' _ hag
  refine ⟨fun c => Value.G2 m c, Value.run m g, ?_⟩
  refine (θ_run _ _ _).mono (fun r h c => ?_) (Cert.Reference8Ideal.Value.run (F := Ideal) m' g')
  obtain ⟨a0, a1⟩ := hag c
  obtain ⟨h0, hargs⟩ := h c
  refine ⟨h0.trans ((Cert.Reference8Ideal.Read.val_main_v7_eq _ _).trans ?_), hargs⟩
  funext x
  rw [eq_ix3 x, Subsingleton.elim (α := Fin 1) (x 0) 0]
  refine (reference _ _ _ _).trans ?_
  rw [a0, a1]
  exact (result m c _ _).symm

end Cert.Kernel8Ideal.Dw

end
-- ==== Proof.DwBranch.lean ====
module

public import proofs.«01_k».proof.Defs
public import proofs.«01_k».proof.Proof.Consts
public import proofs.«01_k».proof.Proof.DwUp
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Lib.Pipeline.ValueKit
public import Idealize.ShloMosaic.Lib.WholeRead
public import Idealize.ShloMosaic.Lib.Claim

@[expose] public section

set_option maxRecDepth 16384

noncomputable section

/-! The gradient of a branch's weight: one block, accumulated over two halves of the rows. -/

namespace Cert.Kernel9Ideal.Dw

open Cert.Kernel9Ideal Cert.Kernel9Ideal.Gen Cert.Consts Idealize.ShloMosaic Idealize.ShloMosaic.TcCoe Idealize.SL.Sem
open Cert.Kernel3Ideal.Dw (hz2 hz3 half)

variable (m : (ℓ : Loc nD τ sig) → Buf (Elt Ideal) ℓ) (c : Dev nD)

section body
variable (i : grid0.Coords) (a2 : Memref sig .tc .vmem S2048x1024 .bf16) (h2 : a2.IsWhole) (a3 : Memref sig .tc .vmem S2048x512 .bf16) (h3 : a3.IsWhole)
  (a4 : Memref sig .tc .vmem S1x1024x512 .bf16) (h4 : a4.IsWhole) (a5 : Memref sig .tc .vmem S1024x512 .f32) (h5 : a5.IsWhole)
  (x0 : Vec Ideal S2048x1024 .bf16) (x1 : Vec Ideal S2048x512 .bf16) (xs : Vec Ideal S1024x512 .f32)

/-- At the first of the two points the accumulator ends with zero plus the half's product. -/
theorem first (hc0 : cond0_0 i) (hc1 : ¬cond0_1 i) : sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x512) hz2, View.readCov_unit_zero (S := S1024x512) _ hz2]
  simp only [View.readAt_eq_ld, h2.read_unread, h3.read_unread, View.ld_unit_zero (S := S2048x1024) hz2, View.ld_unit_zero (S := S2048x512) hz2]

/-- At the second the output is the accumulator plus the half's product. -/
theorem second (hc0 : ¬cond0_0 i) (hc1 : cond0_1 i) :
    out0_B_2 c i a2 h2 a3 h3 a4 h4 a5 h5 hc0 hc1 x0 x1 xs = k0_pay3 (k0_pay2 xs x0 x1) := by
  unfold out0_B_2
  rw [View.read_writes_eq_canon _ _ _ (cover0_B_2 c i a2 h2 a3 h3 a4 h4 a5 h5 hc0 hc1 x0 x1 xs)]
  unfold kernelRun0_B
  dsimp only
  sl_unfold_words
  rw [View.canon_unit_zero (S := S1x1024x512) hz3, View.readCov_unit_zero (S := S1024x512) _ hz2]
  simp only [View.readAt_eq_ld, h2.read_unread, h3.read_unread, h5.read_unread, View.ld_unit_zero (S := S2048x1024) hz2, View.ld_unit_zero (S := S2048x512) hz2,
    View.ld_unit_zero (S := S1024x512) hz2]

/-- The accumulator's step, of blocks whose entries are known. -/
theorem step_at (r : Fin 1024) (j : Fin 512) (p q : Fin 2048 → EReal) (hp : ∀ k, x0 (ix2 k r) = p k) (hq : ∀ k, x1 (ix2 k j) = q k) :
    k0_pay2 xs x0 x1 (ix2 r j) = (xs (ix2 r j) + ∑ k, p k * q k : EReal) := by
  pointwise [k0_pay2]
  simp only [hp, hq]
theorem pay1_at (r : Fin 1024) (j : Fin 512) : k0_pay1 (F := Ideal) (ix2 r j) = (0 : EReal) := by
  pointwise [k0_pay1]
theorem pay3_at (r : Fin 1024) (j : Fin 512) : k0_pay3 xs (ix3 0 r j) = xs (ix2 r j) := by
  pointwise [k0_pay3]
end body

/-- The first argument's entries. -/
def A (r : Fin 4096) (k : Fin 1024) : EReal := m ((c : Thread nD τ).loc main_arg0) (ix2 r k)
/-- The second argument's entries. -/
def B (r : Fin 4096) (j : Fin 512) : EReal := m ((c : Thread nD τ).loc main_arg1) (ix2 r j)

theorem idx0 : ∀ t : Fin cfg0.N, win0_0.index t = ![t.val % 2, 0] := (by decide +kernel : ∀ t : Fin grid0.N, _)
theorem idx1 : ∀ t : Fin cfg0.N, win0_1.index t = ![t.val % 2, 0] := (by decide +kernel : ∀ t : Fin grid0.N, _)

theorem blk0 (t : Fin cfg0.N) (k : Fin 2048) (r : Fin 1024) :
    (show Vec Ideal S2048x1024 .bf16 from iblk m c 0 t) (ix2 k r) = A m c (half t.val k) r := by
  unfold A
  blk_ext [iblk, V, idx0 t, half]
theorem blk1 (t : Fin cfg0.N) (k : Fin 2048) (j : Fin 512) :
    (show Vec Ideal S2048x512 .bf16 from iblk m c 1 t) (ix2 k j) = B m c (half t.val k) j := by
  unfold B
  blk_ext [iblk, V, idx1 t, half]

/-- What the first point leaves in the accumulator. -/
theorem acc_eq (t : Fin cfg0.N) (h : t.val % 2 = 0) :
    (outsAt0 m c t.val t.isLt).2 = k0_pay2 k0_pay1 (iblk m c 0 t) (iblk m c 1 t) := by
  rw [outsAt0_A m c t h (by omega)]
  dsimp only
  rw [first]
theorem acc_at (t : Fin cfg0.N) (h : t.val % 2 = 0) (r : Fin 1024) (j : Fin 512) :
    (outsAt0 m c t.val t.isLt).2 (ix2 r j) = ∑ k : Fin 2048, A m c (half 0 k) r * B m c (half 0 k) j := by
  have e : half t.val = half 0 := funext fun k => Fin.ext (by show 2048 * (t.val % 2) + _ = 2048 * (0 % 2) + _; rw [h])
  rw [acc_eq m c t h, step_at _ _ _ r j _ _ (fun k => blk0 m c t k r) (fun k => blk1 m c t k j), pay1_at, zero_add, e]

/-- What the second leaves in the output block. -/
theorem out_eq (t : Fin cfg0.N) (h : t.val % 2 = 1) : (outsAt0 m c t.val t.isLt).1 =
    k0_pay3 (k0_pay2 (outsAt0 m c (t.val - 1) (Nat.lt_of_le_of_lt (Nat.sub_le _ _) t.isLt)).2 (iblk m c 0 t) (iblk m c 1 t)) := by
  rw [outsAt0_B m c t (by omega) h]
  dsimp only
  rw [second]
theorem out_at (t : Fin cfg0.N) (h : t.val % 2 = 1) (r : Fin 1024) (j : Fin 512) :
    (outsAt0 m c t.val t.isLt).1 (ix3 0 r j) = ∑ k : Fin 4096, A m c k r * B m c k j := by
  have e : half t.val = half 1 := funext fun k => Fin.ext (by show 2048 * (t.val % 2) + _ = 2048 * (1 % 2) + _; rw [h])
  rw [out_eq m c t h, pay3_at, step_at _ _ _ r j _ _ (fun k => blk0 m c t k r) (fun k => blk1 m c t k j), e,
    acc_at m c ⟨t.val - 1, lt_of_le_of_lt (Nat.sub_le _ _) t.isLt⟩ (by dsimp only; omega) r j]
  exact (Fin.sum_univ_add (a := 2048) (b := 2048) (fun k : Fin (2048 + 2048) => A m c k r * B m c k j)).symm

/-- The result array after the run. -/
theorem result (r : Fin 1024) (j : Fin 512) :
    Value.G2 m c (ix3 0 r j) = (∑ k : Fin 4096, A m c k r * B m c k j : EReal) := by
  have hl : Value.loc2Of (ix3 0 r j) = ix3 0 r j := by
    funext a; apply Fin.ext
    match a with
    | ⟨0, _⟩ => rfl
    | ⟨1, _⟩ => show r.val % 1024 = r.val; omega
    | ⟨2, _⟩ => show j.val % 512 = j.val; omega
  have hp : Value.pt2Of (ix3 0 r j) = 1 := by
    show 2 * (1 * (0 / 1 - 0) + 1 * (r.val / 1024 - 0) + 1 * (j.val / 512 - 0)) + 1 = 1
    omega
  have hlt : 1 < cfg0.N := lt_of_lt_of_eq (show 1 < 2 by omega) N_0.symm
  unfold Value.G2
  rw [dif_pos (by rw [hp]; exact hlt), hl, Value.fold0_congr m c _ _ _ (by rw [Nat.zero_add]; exact hlt) hp, ← Value.outsAt0_sweep m c _ hlt]
  exact out_at m c ⟨1, hlt⟩ rfl r j

/-- The reference's result. -/
theorem reference (x0 : (⟨Cert.Reference9Ideal.S4096x1024, .bf16⟩ : BufTy).Contents (Elt Ideal))
    (x1 : (⟨Cert.Reference9Ideal.S4096x512, .bf16⟩ : BufTy).Contents (Elt Ideal)) (k : Fin 1024) (j : Fin 512) :
    Cert.Reference9Ideal.Read.val_main_v8 (F := Ideal) x0 x1 (ix3 0 k j) = (∑ r : Fin 4096, x0 (ix2 r k) * x1 (ix2 r j) : EReal) := by
  pointwise [Cert.Reference9Ideal.Read.val_main_v8, Cert.Reference9Ideal.Read.val_main_v7, Cert.Reference9Ideal.Read.val_main_v6,
    Cert.Reference9Ideal.Read.val_main_v5, Cert.Reference9Ideal.Read.val_main_v4, Cert.Reference9Ideal.Read.val_main_v1, Cert.Reference9Ideal.Read.val_main_v0]

/-- The value claim. -/
theorem algebraic : Cert.algebraic_Kernel9Ideal_Reference9Ideal (hKernel9Ideal := Cert.Kernel9Ideal.Gen.facts)
    (hReference9Ideal := Cert.Reference9Ideal.Gen.facts) := by
  intro m g m' g' _ hag
  refine ⟨fun c => Value.G2 m c, Value.run m g, ?_⟩
  refine (θ_run _ _ _).mono (fun r h c => ?_) (Cert.Reference9Ideal.Value.run (F := Ideal) m' g')
  obtain ⟨a0, a1⟩ := hag c
  obtain ⟨h0, hargs⟩ := h c
  refine ⟨h0.trans ((Cert.Reference9Ideal.Read.val_main_v8_eq _ _).trans ?_), hargs⟩
  funext x
  rw [eq_ix3 x, Subsingleton.elim (α := Fin 1) (x 0) 0]
  refine (reference _ _ _ _).trans ?_
  rw [a0, a1]
  exact (result m c _ _).symm

end Cert.Kernel9Ideal.Dw

end
-- ==== Proof.Rows.lean ====
module

public import proofs.«01_k».proof.Proof.NormSpec
public import Idealize.ShloMosaic.Lib.Pointwise

@[expose] public section

set_option maxRecDepth 16384

noncomputable section

/-! A block of 512 rows of an array of 4096. -/

namespace Cert.Rows

open Cert.NormSpec Idealize.ShloMosaic Idealize.SL.Sem

/-- An entry of the block is the array's entry in the block's row. -/
theorem entry {n : ℕ} (t : Fin 8) (f : (⟨2, ![512, n]⟩ : Shape).Idx → EReal) (g : Fin 4096 → Fin n → EReal)
    (h : ∀ a j, f (ix2 a j) = g (grow t a) j) (y : (⟨2, ![512, n]⟩ : Shape).Idx) (x : (⟨2, ![4096, n]⟩ : Shape).Idx)
    (h0 : (x 0).val = 512 * t.val + (y 0).val) (h1 : (x 1).val = (y 1).val) : f y = g (x 0) (x 1) := by
  rw [eq_ix2 y, show x 0 = grow t (y 0) from Fin.ext h0, show x 1 = y 1 from Fin.ext h1]
  exact h _ _

end Cert.Rows

end
-- ==== Proof.InProj.lean ====
module

public import proofs.«01_k».proof.Defs
public import proofs.«01_k».proof.Proof.Rows
public import proofs.«01_k».proof.Proof.Consts
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import Idealize.ShloMosaic.Lib.Pointwise
public import Idealize.ShloMosaic.Lib.Pipeline.ValueKit
public import Idealize.ShloMosaic.Lib.Claim

@[expose] public section

set_option maxRecDepth 16384

noncomputable section

/-! The normalisation and the product by the mixing block's input weight, cut in five: the kernel's six results are the reference's, on every
input. -/

namespace Cert.InProj

open Idealize.ShloMosaic

variable {ι : Type} (x : ι → Fin 1024 → EReal) (g : Fin 1024 → EReal) (w : Fin 3840 → Fin 1024 → EReal)

/-- The normalised row: over the root of the mean square and a little, times the gain. -/
def nrm (r : ι) (j : Fin 1024) : EReal :=
  x r j * Ideal.rsqrt (Ideal.div (∑ k, x r k * x r k) (Ideal.ofBits .f32 0x44800000#32) + Ideal.ofBits .f32 0x358637BD#32) * g j
/-- Column `k` of the `n` columns from `o` on of the normalised rows' product by the weight. -/
def prj (o n : ℕ) (ho : o + n ≤ 3840) (r : ι) (k : Fin n) : EReal := ∑ j, nrm x g r j * w ⟨o + k.val, by omega⟩ j

end Cert.InProj

namespace Cert.Kernel10Ideal.In

open Cert.Kernel10Ideal Cert.Kernel10Ideal.Gen Cert.InProj Cert.NormSpec Cert.Rows Idealize.ShloMosaic Idealize.ShloMosaic.TcCoe Idealize.SL.Sem

theorem hz2 : (![0, 0] : Fin 2 → Nat) = fun _ => 0 := funext fun a => by fin_cases a <;> rfl

section payloads
variable (v0 : Vec Ideal S512x1024 .f32) (v11 : Vec Ideal S1x1024 .f32)
variable (x : Fin 512 → Fin 1024 → EReal) (g : Fin 1024 → EReal) (w : Fin 3840 → Fin 1024 → EReal)
variable (h0 : ∀ r j, v0 (ix2 r j) = x r j) (h11 : ∀ j, v11 (ix2 0 j) = g j)

include h0 h11 in
/-- The normalised rows. -/
theorem p3 (r : Fin 512) (j : Fin 1024) : k0_pay3 v0 v11 (ix2 r j) = nrm x g r j := by
  pointwise [k0_pay3]
  simp only [h0, h11]; rfl

/-! The five products, `v` the rows of the weight from `o` on. -/

include h0 h11 in
theorem p4 (o : ℕ) (ho : o + 768 ≤ 3840) (v : Vec Ideal S768x1024 .bf16) (hv : ∀ k j, v (ix2 k j) = w ⟨o + k.val, by omega⟩ j)
    (r : Fin 512) (k : Fin 768) : k0_pay4 v0 v11 v (ix2 r k) = prj x g w o 768 ho r k := by
  pointwise [k0_pay4]
  simp only [p3 v0 v11 x g h0 h11, hv]; rfl
include h0 h11 in
theorem p5 (o : ℕ) (ho : o + 512 ≤ 3840) (v : Vec Ideal S512x1024 .bf16) (hv : ∀ k j, v (ix2 k j) = w ⟨o + k.val, by omega⟩ j)
    (r : Fin 512) (k : Fin 512) : k0_pay5 v0 v11 v (ix2 r k) = prj x g w o 512 ho r k := by
  pointwise [k0_pay5]
  simp only [p3 v0 v11 x g h0 h11, hv]; rfl
include h0 h11 in
theorem p6 (o : ℕ) (ho : o + 512 ≤ 3840) (v : Vec Ideal S512x1024 .bf16) (hv : ∀ k j, v (ix2 k j) = w ⟨o + k.val, by omega⟩ j)
    (r : Fin 512) (k : Fin 512) : k0_pay6 v0 v11 v (ix2 r k) = prj x g w o 512 ho r k := by
  pointwise [k0_pay6]
  simp only [p3 v0 v11 x g h0 h11, hv]; rfl
include h0 h11 in
theorem p1 (o : ℕ) (ho : o + 1024 ≤ 3840) (v : Vec Ideal S1024x1024 .bf16) (hv : ∀ k j, v (ix2 k j) = w ⟨o + k.val, by omega⟩ j)
    (r : Fin 512) (k : Fin 1024) : k0_pay1 (k0_pay3 v0 v11) v (ix2 r k) = prj x g w o 1024 ho r k := by
  pointwise [k0_pay1]
  simp only [p3 v0 v11 x g h0 h11, hv]; rfl
include h0 h11 in
theorem p2 (o : ℕ) (ho : o + 1024 ≤ 3840) (v : Vec Ideal S1024x1024 .bf16) (hv : ∀ k j, v (ix2 k j) = w ⟨o + k.val, by omega⟩ j)
    (r : Fin 512) (k : Fin 1024) : k0_pay2 (k0_pay3 v0 v11) v (ix2 r k) = prj x g w o 1024 ho r k := by
  pointwise [k0_pay2]
  simp only [p3 v0 v11 x g h0 h11, hv]; rfl
end payloads

section outs
variable (x0 : Vec Ideal S512x1024 .f32) (x1 : Vec Ideal S1x1024 .f32) (x2 : Vec Ideal S3840x1024 .bf16)

/-- The rows of the weight from row `o` on. -/
abbrev rws (o n : ℕ) (inb : ∀ a, (![o, 0] : Fin 2 → ℕ) a + (![n, 1024] : Fin 2 → ℕ) a ≤ S3840x1024.size a) :
    (⟨2, ![n, 1024]⟩ : Shape).Idx → EReal := View.ld x2 (Rect.unit (s := S3840x1024) ![o, 0] ![n, 1024] inb)

theorem rws_at (w : Fin 3840 → Fin 1024 → EReal) (h2 : ∀ k j, x2 (ix2 k j) = w k j) (o n : ℕ) (ho : o + n ≤ 3840)
    (inb : ∀ a, (![o, 0] : Fin 2 → ℕ) a + (![n, 1024] : Fin 2 → ℕ) a ≤ S3840x1024.size a) (k : Fin n) (j : Fin 1024) :
    rws x2 o n inb (ix2 k j) = w ⟨o + k.val, by omega⟩ j := by
  rw [rws, View.ld_unit, ← h2]
  refine congrArg x2 (funext fun a => Fin.ext ?_)
  match a with
  | ⟨0, _⟩ => rfl
  | ⟨1, _⟩ => exact Nat.zero_add _

theorem mm : k0_pay7 x0 x1 x2 = k0_pay3 x0 x1 := by
  unfold k0_pay7
  simp only [View.ld_unit_zero (S := S512x1024) hz2, View.ld_unit_zero (S := S1x1024) hz2]
theorem o8 : out0_8 x0 x1 x2 = k0_pay3 x0 x1 := by
  unfold out0_8
  rw [View.canon_unit_zero (S := S512x1024) hz2]
  simp only [View.ld_unit_zero (S := S512x1024) hz2, View.ld_unit_zero (S := S1x1024) hz2]
theorem o3 : out0_3 x0 x1 x2 = k0_pay4 x0 x1 (rws x2 0 768 inb_S3840x1024_S768x1024_0_0) := by
  unfold out0_3
  rw [View.canon_unit_zero (S := S512x768) hz2]
  simp only [View.ld_unit_zero (S := S512x1024) hz2, View.ld_unit_zero (S := S1x1024) hz2]
theorem o4 : out0_4 x0 x1 x2 = k0_pay5 x0 x1 (rws x2 768 512 inb_S3840x1024_S512x1024_768_0) := by
  unfold out0_4
  rw [View.canon_unit_zero (S := S512x512) hz2]
  simp only [View.ld_unit_zero (S := S512x1024) hz2, View.ld_unit_zero (S := S1x1024) hz2]
theorem o5 : out0_5 x0 x1 x2 = k0_pay6 x0 x1 (rws x2 1280 512 inb_S3840x1024_S512x1024_1280_0) := by
  unfold out0_5
  rw [View.canon_unit_zero (S := S512x512) hz2]
  simp only [View.ld_unit_zero (S := S512x1024) hz2, View.ld_unit_zero (S := S1x1024) hz2]
theorem o6 : out0_6 x0 x1 x2 = k0_pay1 (k0_pay3 x0 x1) (rws x2 1792 1024 inb_S3840x1024_S1024x1024_1792_0) := by
  unfold out0_6
  rw [View.canon_unit_zero (S := S512x1024) hz2, mm]
theorem o7 : out0_7 x0 x1 x2 = k0_pay2 (k0_pay3 x0 x1) (rws x2 2816 1024 inb_S3840x1024_S1024x1024_2816_0) := by
  unfold out0_7
  rw [View.canon_unit_zero (S := S512x1024) hz2, mm]
end outs

variable (m : (ℓ : Loc nD τ sig) → Buf (Elt Ideal) ℓ) (c : Dev nD)

/-! The arguments' entries: the rows, the gain, the weight. -/

def X (r : Fin 4096) (j : Fin 1024) : EReal := m ((c : Thread nD τ).loc main_arg0) (ix2 r j)
def G (j : Fin 1024) : EReal := m ((c : Thread nD τ).loc main_arg1) (ix1 j)
def W (k : Fin 3840) (j : Fin 1024) : EReal := m ((c : Thread nD τ).loc main_arg2) (ix2 k j)

/-- A grid point's number. -/
def pt (t : Fin cfg0.N) : Fin 8 := ⟨t.val, lt_of_lt_of_eq t.isLt N_0⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

section blocks
variable (t : Fin cfg0.N)
theorem blk0 (a : Fin 512) (j : Fin 1024) : (show Vec Ideal S512x1024 .f32 from iblk m c 0 t) (ix2 a j) = X m c (grow (pt t) a) j := by
  unfold X
  blk_ext [iblk, V, idx0 t, grow, pt]
theorem blk1 (j : Fin 1024) : (show Vec Ideal S1x1024 .f32 from iblk m c 1 t) (ix2 0 j) = G m c j := by
  unfold G
  blk_simp [iblk]
  entry_read
  pointwise
  blk_ext [idx1 t]
theorem blk2 (k : Fin 3840) (j : Fin 1024) : (show Vec Ideal S3840x1024 .bf16 from iblk m c 2 t) (ix2 k j) = W m c k j := by
  unfold W
  blk_ext [iblk, V, idx2 t]
end blocks

/-! The six result arrays after the run. -/

theorem arr3 : (dats m 0 c).arrAt 3 cfg0.N = fun x : S4096x768.Idx => prj (X m c) (G m c) (W m c) 0 768 (by norm_num) (x 0) (x 1) := by
  refine (dats m 0 c).arrAt_eq_of_covers 3 _ (by decide +kernel) fun t _ y => ?_
  blk_simp [idx3 t]
  rw [after0_3, o3]
  refine entry (pt t) _ (prj (X m c) (G m c) (W m c) 0 768 (by norm_num)) (p4 _ _ (fun a => X m c (grow (pt t) a)) (G m c) (W m c) (blk0 m c t) (blk1 m c t) 0 (by norm_num) _
    (rws_at _ _ (blk2 m c t) 0 768 (by norm_num) _)) _ _ ?_ ?_
    <;> blk_simp [idx3 t, pt] <;> try (dsimp only; omega)
theorem arr4 : (dats m 0 c).arrAt 4 cfg0.N = fun x : S4096x512.Idx => prj (X m c) (G m c) (W m c) 768 512 (by norm_num) (x 0) (x 1) := by
  refine (dats m 0 c).arrAt_eq_of_covers 4 _ (by decide +kernel) fun t _ y => ?_
  blk_simp [idx4 t]
  rw [after0_4, o4]
  refine entry (pt t) _ (prj (X m c) (G m c) (W m c) 768 512 (by norm_num)) (p5 _ _ (fun a => X m c (grow (pt t) a)) (G m c) (W m c) (blk0 m c t) (blk1 m c t) 768 (by norm_num) _
    (rws_at _ _ (blk2 m c t) 768 512 (by norm_num) _)) _ _ ?_ ?_
    <;> blk_simp [idx4 t, pt] <;> try (dsimp only; omega)
theorem arr5 : (dats m 0 c).arrAt 5 cfg0.N = fun x : S4096x512.Idx => prj (X m c) (G m c) (W m c) 1280 512 (by norm_num) (x 0) (x 1) := by
  refine (dats m 0 c).arrAt_eq_of_covers 5 _ (by decide +kernel) fun t _ y => ?_
  blk_simp [idx5 t]
  rw [after0_5, o5]
  refine entry (pt t) _ (prj (X m c) (G m c) (W m c) 1280 512 (by norm_num)) (p6 _ _ (fun a => X m c (grow (pt t) a)) (G m c) (W m c) (blk0 m c t) (blk1 m c t) 1280 (by norm_num) _
    (rws_at _ _ (blk2 m c t) 1280 512 (by norm_num) _)) _ _ ?_ ?_
    <;> blk_simp [idx5 t, pt] <;> try (dsimp only; omega)
theorem arr6 : (dats m 0 c).arrAt 6 cfg0.N = fun x : S4096x1024.Idx => prj (X m c) (G m c) (W m c) 1792 1024 (by norm_num) (x 0) (x 1) := by
  refine (dats m 0 c).arrAt_eq_of_covers 6 _ (by decide +kernel) fun t _ y => ?_
  blk_simp [idx6 t]
  rw [after0_6, o6]
  refine entry (pt t) _ (prj (X m c) (G m c) (W m c) 1792 1024 (by norm_num)) (p1 _ _ (fun a => X m c (grow (pt t) a)) (G m c) (W m c) (blk0 m c t) (blk1 m c t) 1792 (by norm_num) _
    (rws_at _ _ (blk2 m c t) 1792 1024 (by norm_num) _)) _ _ ?_ ?_
    <;> blk_simp [idx6 t, pt] <;> try (dsimp only; omega)
theorem arr7 : (dats m 0 c).arrAt 7 cfg0.N = fun x : S4096x1024.Idx => prj (X m c) (G m c) (W m c) 2816 1024 (by norm_num) (x 0) (x 1) := by
  refine (dats m 0 c).arrAt_eq_of_covers 7 _ (by decide +kernel) fun t _ y => ?_
  blk_simp [idx7 t]
  rw [after0_7, o7]
  refine entry (pt t) _ (prj (X m c) (G m c) (W m c) 2816 1024 (by norm_num)) (p2 _ _ (fun a => X m c (grow (pt t) a)) (G m c) (W m c) (blk0 m c t) (blk1 m c t) 2816 (by norm_num) _
    (rws_at _ _ (blk2 m c t) 2816 1024 (by norm_num) _)) _ _ ?_ ?_
    <;> blk_simp [idx7 t, pt] <;> try (dsimp only; omega)
theorem arr8 : (dats m 0 c).arrAt 8 cfg0.N = fun x : S4096x1024.Idx => nrm (X m c) (G m c) (x 0) (x 1) := by
  refine (dats m 0 c).arrAt_eq_of_covers 8 _ (by decide +kernel) fun t _ y => ?_
  blk_simp [idx8 t]
  rw [after0_8, o8]
  refine entry (pt t) _ (nrm (X m c) (G m c)) (p3 _ _ (fun a => X m c (grow (pt t) a)) (G m c) (blk0 m c t) (blk1 m c t)) _ _ ?_ ?_
    <;> blk_simp [idx8 t, pt] <;> try (dsimp only; omega)

end Cert.Kernel10Ideal.In

namespace Cert.Reference10Ideal.In

open Cert.Reference10Ideal Cert.Reference10Ideal.Read Cert.Consts Cert.InProj Idealize.ShloMosaic Idealize.SL.Sem

variable (x0 : (⟨S4096x1024, .f32⟩ : BufTy).Contents (Elt Ideal)) (x1 : (⟨S1024, .f32⟩ : BufTy).Contents (Elt Ideal))
  (x2 : (⟨S3840x1024, .bf16⟩ : BufTy).Contents (Elt Ideal))
variable (x : Fin 4096 → Fin 1024 → EReal) (g : Fin 1024 → EReal) (w : Fin 3840 → Fin 1024 → EReal)
variable (h0 : ∀ r j, x0 (ix2 r j) = x r j) (h1 : ∀ j, x1 (ix1 j) = g j) (h2 : ∀ k j, x2 (ix2 k j) = w k j)

include h0 h1 in
theorem s12 (r : Fin 4096) (j : Fin 1024) : val_main_v12 (F := Ideal) x0 x1 (ix2 r j) = nrm x g r j := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
  simp only [h0, h1, w_zero, EReal.coe_zero, zero_add]; rfl
include h0 h1 in
/-- The normalised rows. -/
theorem s25 (r : Fin 4096) (j : Fin 1024) : val_main_v25 (F := Ideal) x0 x1 (ix2 r j) = nrm x g r j := by
  pointwise [val_main_v25]
  exact s12 _ _ _ _ h0 h1 _ _
include h0 h1 h2 in
/-- The whole product. -/
theorem s15 (r : Fin 4096) (k : Fin 3840) : val_main_v15 (F := Ideal) x0 x1 x2 (ix2 r k) = ∑ j, nrm x g r j * w k j := by
  pointwise [val_main_v15, val_main_v14, val_main_v13]
  simp only [s12 x0 x1 x g h0 h1, h2]

/-! Its five slices. -/

include h0 h1 h2 in
theorem s16 (r : Fin 4096) (k : Fin 768) : val_main_v16 (F := Ideal) x0 x1 x2 (ix2 r k) = prj x g w 0 768 (by norm_num) r k := by
  pointwise [val_main_v16]
  exact (s15 x0 x1 x2 x g w h0 h1 h2 _ _).trans (Finset.sum_congr rfl fun j _ =>
    congrArg (fun q => nrm x g r j * w q j) (Fin.ext (Nat.zero_add _).symm))
include h0 h1 h2 in
theorem s21 (r : Fin 4096) (k : Fin 512) : val_main_v21 (F := Ideal) x0 x1 x2 (ix2 r k) = prj x g w 768 512 (by norm_num) r k := by
  pointwise [val_main_v21, val_main_v17]
  exact (s15 x0 x1 x2 x g w h0 h1 h2 _ _).trans rfl
include h0 h1 h2 in
theorem s22 (r : Fin 4096) (k : Fin 512) : val_main_v22 (F := Ideal) x0 x1 x2 (ix2 r k) = prj x g w 1280 512 (by norm_num) r k := by
  pointwise [val_main_v22, val_main_v18]
  exact (s15 x0 x1 x2 x g w h0 h1 h2 _ _).trans rfl
include h0 h1 h2 in
theorem s23 (r : Fin 4096) (k : Fin 1024) : val_main_v23 (F := Ideal) x0 x1 x2 (ix2 r k) = prj x g w 1792 1024 (by norm_num) r k := by
  pointwise [val_main_v23, val_main_v19]
  exact (s15 x0 x1 x2 x g w h0 h1 h2 _ _).trans rfl
include h0 h1 h2 in
theorem s24 (r : Fin 4096) (k : Fin 1024) : val_main_v24 (F := Ideal) x0 x1 x2 (ix2 r k) = prj x g w 2816 1024 (by norm_num) r k := by
  pointwise [val_main_v24, val_main_v20]
  exact (s15 x0 x1 x2 x g w h0 h1 h2 _ _).trans rfl

end Cert.Reference10Ideal.In

namespace Cert.Kernel10Ideal.In

open Cert.Reference10Ideal.Read Idealize.ShloMosaic Idealize.SL.Sem

/-- The value claim. -/
theorem algebraic : Cert.algebraic_Kernel10Ideal_Reference10Ideal (hKernel10Ideal := Cert.Kernel10Ideal.Gen.facts)
    (hReference10Ideal := Cert.Reference10Ideal.Gen.facts) := by
  intro m g m' g' _ hag
  refine ⟨fun c => (Cert.Kernel10Ideal.Gen.dats m 0 c).arrAt 3 Cert.Kernel10Ideal.cfg0.N,
    fun c => (Cert.Kernel10Ideal.Gen.dats m 0 c).arrAt 4 Cert.Kernel10Ideal.cfg0.N,
    fun c => (Cert.Kernel10Ideal.Gen.dats m 0 c).arrAt 5 Cert.Kernel10Ideal.cfg0.N,
    fun c => (Cert.Kernel10Ideal.Gen.dats m 0 c).arrAt 6 Cert.Kernel10Ideal.cfg0.N,
    fun c => (Cert.Kernel10Ideal.Gen.dats m 0 c).arrAt 7 Cert.Kernel10Ideal.cfg0.N,
    fun c => (Cert.Kernel10Ideal.Gen.dats m 0 c).arrAt 8 Cert.Kernel10Ideal.cfg0.N, Cert.Kernel10Ideal.Value.run_blocks m g, ?_⟩
  refine (θ_run _ _ _).mono (fun r h c => ?_) (Cert.Reference10Ideal.Value.run (F := Ideal) m' g')
  obtain ⟨a0, a1, a2⟩ := hag c
  obtain ⟨q0, q1, q2, q3, q4, q5, hargs⟩ := h c
  have f0 : ∀ r k, _ = X m c r k := fun r k => congrFun a0 (ix2 r k)
  have f1 : ∀ k, _ = G m c k := fun k => congrFun a1 (ix1 k)
  have f2 : ∀ r k, _ = W m c r k := fun r k => congrFun a2 (ix2 r k)
  refine ⟨q0.trans ((val_main_v16_eq _ _ _).trans ((funext fun x => ?_).trans (arr3 m c).symm)),
    q1.trans ((val_main_v21_eq _ _ _).trans ((funext fun x => ?_).trans (arr4 m c).symm)),
    q2.trans ((val_main_v22_eq _ _ _).trans ((funext fun x => ?_).trans (arr5 m c).symm)),
    q3.trans ((val_main_v23_eq _ _ _).trans ((funext fun x => ?_).trans (arr6 m c).symm)),
    q4.trans ((val_main_v24_eq _ _ _).trans ((funext fun x => ?_).trans (arr7 m c).symm)),
    q5.trans ((val_main_v25_eq _ _).trans ((funext fun x => ?_).trans (arr8 m c).symm)), hargs⟩
  · rw [eq_ix2 x]; exact Cert.Reference10Ideal.In.s16 _ _ _ _ _ _ f0 f1 f2 _ _
  · rw [eq_ix2 x]; exact Cert.Reference10Ideal.In.s21 _ _ _ _ _ _ f0 f1 f2 _ _
  · rw [eq_ix2 x]; exact Cert.Reference10Ideal.In.s22 _ _ _ _ _ _ f0 f1 f2 _ _
  · rw [eq_ix2 x]; exact Cert.Reference10Ideal.In.s23 _ _ _ _ _ _ f0 f1 f2 _ _
  · rw [eq_ix2 x]; exact Cert.Reference10Ideal.In.s24 _ _ _ _ _ _ f0 f1 f2 _ _
  · rw [eq_ix2 x]; exact Cert.Reference10Ideal.In.s25 _ _ _ _ f0 f1 _ _

end Cert.Kernel10Ideal.In

end
-- ==== Proof.MergeFwd.lean ====
module

public import proofs.«01_k».proof.Defs
public import proofs.«01_k».proof.Proof.Rows
public import proofs.«01_k».proof.Proof.Sigmoid
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import Idealize.ShloMosaic.Lib.Pointwise
public import Idealize.ShloMosaic.Lib.Pipeline.ValueKit
public import Idealize.ShloMosaic.Lib.Claim

@[expose] public section

set_option maxRecDepth 16384

noncomputable section

/-! The gated merge of the two branches: the kernel's four results are the reference's, on every input. -/

namespace Cert.MergeFwd

open Cert.Sigmoid

variable {ι : Type} (x : ι → Fin 1024 → EReal) (y y' : ι → Fin 512 → EReal) (g g' : ι → Fin 1024 → EReal)
  (o o' : Fin 1024 → Fin 512 → EReal) (w : Fin 1024 → Fin 1024 → EReal)

/-- A branch's output projection. -/
def br (r : ι) (j : Fin 1024) : EReal := ∑ q, y r q * o j q
/-- The two branches, each times its gate, added. -/
def mg (r : ι) (j : Fin 1024) : EReal := gate (g r j) * br y o r j + gate (g' r j) * br y' o' r j
/-- The block's output. -/
def out (r : ι) (j : Fin 1024) : EReal := x r j + ∑ k, mg y y' g g' o o' r k * w k j

end Cert.MergeFwd

namespace Cert.Kernel11Ideal.Merge

open Cert.Kernel11Ideal Cert.Kernel11Ideal.Gen Cert.Sigmoid Cert.MergeFwd Cert.NormSpec Cert.Rows Idealize.ShloMosaic
  Idealize.ShloMosaic.TcCoe Idealize.SL.Sem

theorem hz2 : (![0, 0] : Fin 2 → Nat) = fun _ => 0 := funext fun a => by fin_cases a <;> rfl

section payloads
variable (v33 : Vec Ideal S512x1024 .f32) (v0 v3 : Vec Ideal S512x512 .bf16) (v1 v4 : Vec Ideal S1024x512 .bf16)
variable (v34 : Vec Ideal S1024x1024 .bf16)
variable (x : Fin 512 → Fin 1024 → EReal) (y y' : Fin 512 → Fin 512 → EReal) (g g' : Fin 512 → Fin 1024 → EReal)
  (o o' : Fin 1024 → Fin 512 → EReal) (w : Fin 1024 → Fin 1024 → EReal)
variable (h0 : ∀ r q, v0 (ix2 r q) = y r q) (h3 : ∀ r q, v3 (ix2 r q) = y' r q) (h1 : ∀ j q, v1 (ix2 j q) = o j q)
  (h4 : ∀ j q, v4 (ix2 j q) = o' j q)

/-- The two branches' projections. -/
theorem p2 (h0 : ∀ r q, v0 (ix2 r q) = y r q) (h1 : ∀ j q, v1 (ix2 j q) = o j q) (r : Fin 512) (j : Fin 1024) :
    k0_pay2 v0 v1 (ix2 r j) = br y o r j := by
  pointwise [k0_pay2]
  simp only [h0, h1]; rfl
theorem p3 (h0 : ∀ r q, v0 (ix2 r q) = y r q) (h1 : ∀ j q, v1 (ix2 j q) = o j q) (r : Fin 512) (j : Fin 1024) :
    k0_pay3 v0 v1 (ix2 r j) = br y o r j := by
  pointwise [k0_pay3]
  simp only [h0, h1]; rfl
theorem p4 (h0 : ∀ r q, v0 (ix2 r q) = y r q) (h1 : ∀ j q, v1 (ix2 j q) = o j q) (r : Fin 512) (j : Fin 1024) :
    k0_pay4 v0 v1 (ix2 r j) = br y o r j := by
  pointwise [k0_pay4]
  exact p2 _ _ _ _ h0 h1 _ _
theorem p5 (h0 : ∀ r q, v0 (ix2 r q) = y r q) (h1 : ∀ j q, v1 (ix2 j q) = o j q) (r : Fin 512) (j : Fin 1024) :
    k0_pay5 v0 v1 (ix2 r j) = br y o r j := by
  pointwise [k0_pay5]
  exact p3 _ _ _ _ h0 h1 _ _
include h0 h1 h3 h4 in
/-- The merged branches. -/
theorem p6 (v10 v20 : Vec Ideal S512x1024 .bf16) (h10 : ∀ r j, v10 (ix2 r j) = g r j) (h20 : ∀ r j, v20 (ix2 r j) = g' r j)
    (r : Fin 512) (j : Fin 1024) : k0_pay6 v0 v1 v3 v4 v10 v20 (ix2 r j) = mg y y' g g' o o' r j := by
  pointwise [k0_pay6]
  rw [p2 _ _ _ _ h0 h1, p3 _ _ _ _ h3 h4, h10, h20, tanh_form, tanh_form]; rfl
/-- The output, from the merged branches. -/
theorem p1 (v31 : FVec Ideal S512x1024 .bf16) (h31 : ∀ r j, v31 (ix2 r j) = mg y y' g g' o o' r j) (h33 : ∀ r j, v33 (ix2 r j) = x r j)
    (h34 : ∀ k j, v34 (ix2 k j) = w k j) (r : Fin 512) (j : Fin 1024) :
    k0_pay1 v31 v33 v34 (ix2 r j) = out x y y' g g' o o' w r j := by
  pointwise [k0_pay1]
  simp only [h31, h33, h34]; rfl
end payloads

section outs
variable (x0 : Vec Ideal S512x1024 .f32) (x1 x2 : Vec Ideal S512x512 .bf16) (x3 x4 : Vec Ideal S512x1024 .bf16)
  (x5 x6 : Vec Ideal S1024x512 .bf16) (x7 : Vec Ideal S1024x1024 .bf16)

/-- The merged branches, from the blocks. -/
theorem mm : k0_pay7 x0 x1 x2 x3 x4 x5 x6 x7 = k0_pay6 x1 x5 x2 x6 x3 x4 := by
  unfold k0_pay7
  simp only [View.ld_unit_zero (S := S512x1024) hz2, View.ld_unit_zero (S := S512x512) hz2, View.ld_unit_zero (S := S1024x512) hz2]
theorem o8 : out0_8 x0 x1 x2 x3 x4 x5 x6 x7 = k0_pay1 (k0_pay6 x1 x5 x2 x6 x3 x4) x0 x7 := by
  unfold out0_8
  rw [View.canon_unit_zero (S := S512x1024) hz2, mm]
  simp only [View.ld_unit_zero (S := S512x1024) hz2, View.ld_unit_zero (S := S1024x1024) hz2]
theorem o9 : out0_9 x0 x1 x2 x3 x4 x5 x6 x7 = k0_pay6 x1 x5 x2 x6 x3 x4 := by
  unfold out0_9
  rw [View.canon_unit_zero (S := S512x1024) hz2, mm]
theorem o10 : out0_10 x0 x1 x2 x3 x4 x5 x6 x7 = k0_pay4 x1 x5 := by
  unfold out0_10
  rw [View.canon_unit_zero (S := S512x1024) hz2]
  simp only [View.ld_unit_zero (S := S512x512) hz2, View.ld_unit_zero (S := S1024x512) hz2]
theorem o11 : out0_11 x0 x1 x2 x3 x4 x5 x6 x7 = k0_pay5 x2 x6 := by
  unfold out0_11
  rw [View.canon_unit_zero (S := S512x1024) hz2]
  simp only [View.ld_unit_zero (S := S512x512) hz2, View.ld_unit_zero (S := S1024x512) hz2]
end outs

variable (m : (ℓ : Loc nD τ sig) → Buf (Elt Ideal) ℓ) (c : Dev nD)

/-! The arguments' entries: the residual stream, the two branches, the two gates, the two output projections, the merge's weight. -/

def X (r : Fin 4096) (j : Fin 1024) : EReal := m ((c : Thread nD τ).loc main_arg0) (ix2 r j)
def Y1 (r : Fin 4096) (q : Fin 512) : EReal := m ((c : Thread nD τ).loc main_arg1) (ix2 r q)
def Y2 (r : Fin 4096) (q : Fin 512) : EReal := m ((c : Thread nD τ).loc main_arg2) (ix2 r q)
def G1 (r : Fin 4096) (j : Fin 1024) : EReal := m ((c : Thread nD τ).loc main_arg3) (ix2 r j)
def G2 (r : Fin 4096) (j : Fin 1024) : EReal := m ((c : Thread nD τ).loc main_arg4) (ix2 r j)
def O1 (j : Fin 1024) (q : Fin 512) : EReal := m ((c : Thread nD τ).loc main_arg5) (ix2 j q)
def O2 (j : Fin 1024) (q : Fin 512) : EReal := m ((c : Thread nD τ).loc main_arg6) (ix2 j q)
def W (k j : Fin 1024) : EReal := m ((c : Thread nD τ).loc main_arg7) (ix2 k j)

/-- A grid point's number. -/
def pt (t : Fin cfg0.N) : Fin 8 := ⟨t.val, lt_of_lt_of_eq t.isLt N_0⟩

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)

section blocks
variable (t : Fin cfg0.N)
theorem blk0 (a : Fin 512) (j : Fin 1024) : (show Vec Ideal S512x1024 .f32 from iblk m c 0 t) (ix2 a j) = X m c (grow (pt t) a) j := by
  unfold X
  blk_ext [iblk, V, idx0 t, grow, pt]
theorem blk1 (a : Fin 512) (j : Fin 512) : (show Vec Ideal S512x512 .bf16 from iblk m c 1 t) (ix2 a j) = Y1 m c (grow (pt t) a) j := by
  unfold Y1
  blk_ext [iblk, V, idx1 t, grow, pt]
theorem blk2 (a : Fin 512) (j : Fin 512) : (show Vec Ideal S512x512 .bf16 from iblk m c 2 t) (ix2 a j) = Y2 m c (grow (pt t) a) j := by
  unfold Y2
  blk_ext [iblk, V, idx2 t, grow, pt]
theorem blk3 (a : Fin 512) (j : Fin 1024) : (show Vec Ideal S512x1024 .bf16 from iblk m c 3 t) (ix2 a j) = G1 m c (grow (pt t) a) j := by
  unfold G1
  blk_ext [iblk, V, idx3 t, grow, pt]
theorem blk4 (a : Fin 512) (j : Fin 1024) : (show Vec Ideal S512x1024 .bf16 from iblk m c 4 t) (ix2 a j) = G2 m c (grow (pt t) a) j := by
  unfold G2
  blk_ext [iblk, V, idx4 t, grow, pt]
theorem blk5 (a : Fin 1024) (j : Fin 512) : (show Vec Ideal S1024x512 .bf16 from iblk m c 5 t) (ix2 a j) = O1 m c a j := by
  unfold O1
  blk_ext [iblk, V, idx5 t]
theorem blk6 (a : Fin 1024) (j : Fin 512) : (show Vec Ideal S1024x512 .bf16 from iblk m c 6 t) (ix2 a j) = O2 m c a j := by
  unfold O2
  blk_ext [iblk, V, idx6 t]
theorem blk7 (a : Fin 1024) (j : Fin 1024) : (show Vec Ideal S1024x1024 .bf16 from iblk m c 7 t) (ix2 a j) = W m c a j := by
  unfold W
  blk_ext [iblk, V, idx7 t]
/-- The merged branches' block. -/
theorem mblk (a : Fin 512) (j : Fin 1024) : k0_pay6 (F := Ideal) (iblk m c 1 t) (iblk m c 5 t) (iblk m c 2 t) (iblk m c 6 t) (iblk m c 3 t)
    (iblk m c 4 t) (ix2 a j) = mg (Y1 m c) (Y2 m c) (G1 m c) (G2 m c) (O1 m c) (O2 m c) (grow (pt t) a) j :=
  p6 _ _ _ _ _ _ (fun a => G1 m c (grow (pt t) a)) (fun a => G2 m c (grow (pt t) a)) _ _ (blk1 m c t) (blk2 m c t) (blk5 m c t)
    (blk6 m c t) _ _ (blk3 m c t) (blk4 m c t) a j
end blocks

/-! The four result arrays after the run. -/

theorem arr8 : (dats m 0 c).arrAt 8 cfg0.N = fun x : S4096x1024.Idx => out (X m c) (Y1 m c) (Y2 m c) (G1 m c) (G2 m c) (O1 m c) (O2 m c) (W m c) (x 0) (x 1) := by
  refine (dats m 0 c).arrAt_eq_of_covers 8 _ (by decide +kernel) fun t _ y => ?_
  blk_simp [idx8 t]
  rw [after0_8, o8]
  refine entry (pt t) _ (out (X m c) (Y1 m c) (Y2 m c) (G1 m c) (G2 m c) (O1 m c) (O2 m c) (W m c)) (p1 _ _ (fun a => X m c (grow (pt t) a)) (fun a => Y1 m c (grow (pt t) a)) (fun a => Y2 m c (grow (pt t) a))
    (fun a => G1 m c (grow (pt t) a)) (fun a => G2 m c (grow (pt t) a)) _ _ _ _ (mblk m c t) (blk0 m c t) (blk7 m c t)) _ _ ?_ ?_
    <;> blk_simp [idx8 t, pt] <;> try (dsimp only; omega)
theorem arr9 : (dats m 0 c).arrAt 9 cfg0.N = fun x : S4096x1024.Idx => mg (Y1 m c) (Y2 m c) (G1 m c) (G2 m c) (O1 m c) (O2 m c) (x 0) (x 1) := by
  refine (dats m 0 c).arrAt_eq_of_covers 9 _ (by decide +kernel) fun t _ y => ?_
  blk_simp [idx9 t]
  rw [after0_9, o9]
  refine entry (pt t) _ (mg (Y1 m c) (Y2 m c) (G1 m c) (G2 m c) (O1 m c) (O2 m c)) (mblk m c t) _ _ ?_ ?_
    <;> blk_simp [idx9 t, pt] <;> try (dsimp only; omega)
theorem arr10 : (dats m 0 c).arrAt 10 cfg0.N = fun x : S4096x1024.Idx => br (Y1 m c) (O1 m c) (x 0) (x 1) := by
  refine (dats m 0 c).arrAt_eq_of_covers 10 _ (by decide +kernel) fun t _ y => ?_
  blk_simp [idx10 t]
  rw [after0_10, o10]
  refine entry (pt t) _ (br (Y1 m c) (O1 m c)) (p4 _ _ _ _ (blk1 m c t) (blk5 m c t)) _ _ ?_ ?_
    <;> blk_simp [idx10 t, pt] <;> try (dsimp only; omega)
theorem arr11 : (dats m 0 c).arrAt 11 cfg0.N = fun x : S4096x1024.Idx => br (Y2 m c) (O2 m c) (x 0) (x 1) := by
  refine (dats m 0 c).arrAt_eq_of_covers 11 _ (by decide +kernel) fun t _ y => ?_
  blk_simp [idx11 t]
  rw [after0_11, o11]
  refine entry (pt t) _ (br (Y2 m c) (O2 m c)) (p5 _ _ _ _ (blk2 m c t) (blk6 m c t)) _ _ ?_ ?_
    <;> blk_simp [idx11 t, pt] <;> try (dsimp only; omega)

end Cert.Kernel11Ideal.Merge

namespace Cert.Reference11Ideal.Merge

open Cert.Reference11Ideal Cert.Reference11Ideal.Read Cert.Sigmoid Cert.MergeFwd Idealize.ShloMosaic Idealize.SL.Sem

variable (x0 : (⟨S4096x1024, .f32⟩ : BufTy).Contents (Elt Ideal)) (x1 x2 : (⟨S4096x512, .bf16⟩ : BufTy).Contents (Elt Ideal))
  (x3 x4 : (⟨S4096x1024, .bf16⟩ : BufTy).Contents (Elt Ideal)) (x5 x6 : (⟨S1024x512, .bf16⟩ : BufTy).Contents (Elt Ideal))
  (x7 : (⟨S1024x1024, .bf16⟩ : BufTy).Contents (Elt Ideal))
variable (x : Fin 4096 → Fin 1024 → EReal) (y y' : Fin 4096 → Fin 512 → EReal) (g g' : Fin 4096 → Fin 1024 → EReal)
  (o o' : Fin 1024 → Fin 512 → EReal) (w : Fin 1024 → Fin 1024 → EReal)
variable (h1 : ∀ r q, x1 (ix2 r q) = y r q) (h2 : ∀ r q, x2 (ix2 r q) = y' r q) (h3 : ∀ r j, x3 (ix2 r j) = g r j)
  (h4 : ∀ r j, x4 (ix2 r j) = g' r j) (h5 : ∀ j q, x5 (ix2 j q) = o j q) (h6 : ∀ j q, x6 (ix2 j q) = o' j q)

include h1 h5 in
theorem s8 (r : Fin 4096) (j : Fin 1024) : val_main_v8 (F := Ideal) x1 x5 (ix2 r j) = br y o r j := by
  pointwise [val_main_v8, val_main_v7, val_main_v4, val_main_v0]
  simp only [h1, h5]; rfl
include h1 h5 in
/-- The two branches' projections. -/
theorem s29 (r : Fin 4096) (j : Fin 1024) : val_main_v29 (F := Ideal) x1 x5 (ix2 r j) = br y o r j := by
  pointwise [val_main_v29]
  exact s8 _ _ _ _ h1 h5 _ _
include h2 h6 in
theorem s10 (r : Fin 4096) (j : Fin 1024) : val_main_v10 (F := Ideal) x2 x6 (ix2 r j) = br y' o' r j := by
  pointwise [val_main_v10, val_main_v9, val_main_v5, val_main_v1]
  simp only [h2, h6]; rfl
include h2 h6 in
theorem s30 (r : Fin 4096) (j : Fin 1024) : val_main_v30 (F := Ideal) x2 x6 (ix2 r j) = br y' o' r j := by
  pointwise [val_main_v30]
  exact s10 _ _ _ _ h2 h6 _ _
include h3 in
theorem s16 (r : Fin 4096) (j : Fin 1024) : val_main_v16 (F := Ideal) x3 (ix2 r j) = gate (g r j) := by
  pointwise [val_main_v16, val_main_v15, val_main_v14, val_main_v13, val_main_v12, val_main_v11, val_main_v2, val_main_cst, val_main_cst_0]
  rw [h3]; exact exp_form _
include h4 in
theorem s23 (r : Fin 4096) (j : Fin 1024) : val_main_v23 (F := Ideal) x4 (ix2 r j) = gate (g' r j) := by
  pointwise [val_main_v23, val_main_v22, val_main_v21, val_main_v20, val_main_v19, val_main_v18, val_main_v3, val_main_cst_1, val_main_cst_2]
  rw [h4]; exact exp_form _
include h1 h2 h3 h4 h5 h6 in
theorem s25 (r : Fin 4096) (j : Fin 1024) : val_main_v25 (F := Ideal) x1 x2 x3 x4 x5 x6 (ix2 r j) = mg y y' g g' o o' r j := by
  pointwise [val_main_v25, val_main_v24, val_main_v17]
  rw [s8 x1 x5 y o h1 h5, s10 x2 x6 y' o' h2 h6, s16 x3 g h3, s23 x4 g' h4]; rfl
include h1 h2 h3 h4 h5 h6 in
/-- The merged branches. -/
theorem s28 (r : Fin 4096) (j : Fin 1024) : val_main_v28 (F := Ideal) x1 x2 x3 x4 x5 x6 (ix2 r j) = mg y y' g g' o o' r j := by
  pointwise [val_main_v28]
  exact s25 x1 x2 x3 x4 x5 x6 y y' g g' o o' h1 h2 h3 h4 h5 h6 _ _
include h1 h2 h3 h4 h5 h6 in
/-- The block's output. -/
theorem s27 (h0 : ∀ r j, x0 (ix2 r j) = x r j) (h7 : ∀ k j, x7 (ix2 k j) = w k j) (r : Fin 4096) (j : Fin 1024) :
    val_main_v27 (F := Ideal) x0 x1 x2 x3 x4 x5 x6 x7 (ix2 r j) = out x y y' g g' o o' w r j := by
  pointwise [val_main_v27, val_main_v26, val_main_v6]
  simp only [s25 x1 x2 x3 x4 x5 x6 y y' g g' o o' h1 h2 h3 h4 h5 h6, h0, h7]; rfl

end Cert.Reference11Ideal.Merge

namespace Cert.Kernel11Ideal.Merge

open Cert.Reference11Ideal.Read Idealize.ShloMosaic Idealize.SL.Sem

/-- The value claim. -/
theorem algebraic : Cert.algebraic_Kernel11Ideal_Reference11Ideal (hKernel11Ideal := Cert.Kernel11Ideal.Gen.facts)
    (hReference11Ideal := Cert.Reference11Ideal.Gen.facts) := by
  intro m g m' g' _ hag
  refine ⟨fun c => (Cert.Kernel11Ideal.Gen.dats m 0 c).arrAt 8 Cert.Kernel11Ideal.cfg0.N,
    fun c => (Cert.Kernel11Ideal.Gen.dats m 0 c).arrAt 9 Cert.Kernel11Ideal.cfg0.N,
    fun c => (Cert.Kernel11Ideal.Gen.dats m 0 c).arrAt 10 Cert.Kernel11Ideal.cfg0.N,
    fun c => (Cert.Kernel11Ideal.Gen.dats m 0 c).arrAt 11 Cert.Kernel11Ideal.cfg0.N, Cert.Kernel11Ideal.Value.run_blocks m g, ?_⟩
  refine (θ_run _ _ _).mono (fun r h c => ?_) (Cert.Reference11Ideal.Value.run (F := Ideal) m' g')
  obtain ⟨a0, a1, a2, a3, a4, a5, a6, a7⟩ := hag c
  obtain ⟨q0, q1, q2, q3, hargs⟩ := h c
  have f0 : ∀ r k, _ = X m c r k := fun r k => congrFun a0 (ix2 r k)
  have f1 : ∀ r k, _ = Y1 m c r k := fun r k => congrFun a1 (ix2 r k)
  have f2 : ∀ r k, _ = Y2 m c r k := fun r k => congrFun a2 (ix2 r k)
  have f3 : ∀ r k, _ = G1 m c r k := fun r k => congrFun a3 (ix2 r k)
  have f4 : ∀ r k, _ = G2 m c r k := fun r k => congrFun a4 (ix2 r k)
  have f5 : ∀ r k, _ = O1 m c r k := fun r k => congrFun a5 (ix2 r k)
  have f6 : ∀ r k, _ = O2 m c r k := fun r k => congrFun a6 (ix2 r k)
  have f7 : ∀ r k, _ = W m c r k := fun r k => congrFun a7 (ix2 r k)
  refine ⟨q0.trans ((val_main_v27_eq _ _ _ _ _ _ _ _).trans ((funext fun x => ?_).trans (arr8 m c).symm)),
    q1.trans ((val_main_v28_eq _ _ _ _ _ _).trans ((funext fun x => ?_).trans (arr9 m c).symm)),
    q2.trans ((val_main_v29_eq _ _).trans ((funext fun x => ?_).trans (arr10 m c).symm)),
    q3.trans ((val_main_v30_eq _ _).trans ((funext fun x => ?_).trans (arr11 m c).symm)), hargs⟩
  · rw [eq_ix2 x]; exact Cert.Reference11Ideal.Merge.s27 _ _ _ _ _ _ _ _ _ _ _ _ _ _ _ _ f1 f2 f3 f4 f5 f6 f0 f7 _ _
  · rw [eq_ix2 x]; exact Cert.Reference11Ideal.Merge.s28 _ _ _ _ _ _ _ _ _ _ _ _ f1 f2 f3 f4 f5 f6 _ _
  · rw [eq_ix2 x]; exact Cert.Reference11Ideal.Merge.s29 _ _ _ _ f1 f5 _ _
  · rw [eq_ix2 x]; exact Cert.Reference11Ideal.Merge.s30 _ _ _ _ f2 f6 _ _

end Cert.Kernel11Ideal.Merge

end
-- ==== Proof.FfnDown.lean ====
module

public import proofs.«01_k».proof.Defs
public import proofs.«01_k».proof.Proof.Rows
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import Idealize.ShloMosaic.Lib.Pointwise
public import Idealize.ShloMosaic.Lib.Pipeline.ValueKit
public import Idealize.ShloMosaic.Lib.Claim

@[expose] public section

set_option maxRecDepth 16384

noncomputable section

/-! The feed-forward block's second product and the residual: the kernel's result is the reference's, on every input. -/

namespace Cert.FfnDown

variable {ι : Type} (x : ι → Fin 1024 → EReal) (a : ι → Fin 2816 → EReal) (w : Fin 2816 → Fin 1024 → EReal)

/-- The block's output. -/
def out (r : ι) (j : Fin 1024) : EReal := x r j + ∑ k, a r k * w k j

end Cert.FfnDown

namespace Cert.Kernel12Ideal.Down

open Cert.Kernel12Ideal Cert.Kernel12Ideal.Gen Cert.FfnDown Cert.NormSpec Cert.Rows Idealize.ShloMosaic Idealize.ShloMosaic.TcCoe Idealize.SL.Sem

theorem hz2 : (![0, 0] : Fin 2 → Nat) = fun _ => 0 := funext fun a => by fin_cases a <;> rfl

theorem p1 (v0 : Vec Ideal S512x1024 .f32) (v1 : Vec Ideal S512x2816 .bf16) (v2 : Vec Ideal S2816x1024 .bf16)
    (x : Fin 512 → Fin 1024 → EReal) (a : Fin 512 → Fin 2816 → EReal) (w : Fin 2816 → Fin 1024 → EReal)
    (h0 : ∀ r j, v0 (ix2 r j) = x r j) (h1 : ∀ r k, v1 (ix2 r k) = a r k) (h2 : ∀ k j, v2 (ix2 k j) = w k j)
    (r : Fin 512) (j : Fin 1024) : k0_pay1 v0 v1 v2 (ix2 r j) = out x a w r j := by
  pointwise [k0_pay1]
  simp only [h0, h1, h2]; rfl

theorem o4 (x0 : Vec Ideal S512x1024 .f32) (x1 : Vec Ideal S512x2816 .bf16) (x2 : Vec Ideal S2816x1024 .bf16) (x3 : Vec Ideal S1x1 .f32) :
    out0_4 x0 x1 x2 x3 = k0_pay1 x0 x1 x2 := by
  unfold out0_4
  rw [View.canon_unit_zero (S := S512x1024) hz2]
  simp only [View.ld_unit_zero (S := S512x1024) hz2, View.ld_unit_zero (S := S512x2816) hz2, View.ld_unit_zero (S := S2816x1024) hz2]

variable (m : (ℓ : Loc nD τ sig) → Buf (Elt Ideal) ℓ) (c : Dev nD)

/-! The arguments' entries: the residual stream, the activations, the weight. -/

def X (r : Fin 4096) (j : Fin 1024) : EReal := m ((c : Thread nD τ).loc main_arg0) (ix2 r j)
def A (r : Fin 4096) (k : Fin 2816) : EReal := m ((c : Thread nD τ).loc main_arg1) (ix2 r k)
def W (k : Fin 2816) (j : Fin 1024) : EReal := m ((c : Thread nD τ).loc main_arg2) (ix2 k j)

/-- A grid point's number. -/
def pt (t : Fin cfg0.N) : Fin 8 := ⟨t.val, lt_of_lt_of_eq t.isLt N_0⟩

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx4 : ∀ t : Fin cfg0.N, win0_4.index t = ![t.val, 0] := (by decide +kernel : ∀ t : Fin grid0.N, _)

section blocks
variable (t : Fin cfg0.N)
theorem blk0 (a : Fin 512) (j : Fin 1024) : (show Vec Ideal S512x1024 .f32 from iblk m c 0 t) (ix2 a j) = X m c (grow (pt t) a) j := by
  unfold X
  blk_ext [iblk, V, idx0 t, grow, pt]
theorem blk1 (a : Fin 512) (k : Fin 2816) : (show Vec Ideal S512x2816 .bf16 from iblk m c 1 t) (ix2 a k) = A m c (grow (pt t) a) k := by
  unfold A
  blk_ext [iblk, V, idx1 t, grow, pt]
theorem blk2 (k : Fin 2816) (j : Fin 1024) : (show Vec Ideal S2816x1024 .bf16 from iblk m c 2 t) (ix2 k j) = W m c k j := by
  unfold W
  blk_ext [iblk, V, idx2 t]
end blocks

/-- The result array after the run. -/
theorem arr4 : (dats m 0 c).arrAt 4 cfg0.N = fun x : S4096x1024.Idx => out (X m c) (A m c) (W m c) (x 0) (x 1) := by
  refine (dats m 0 c).arrAt_eq_of_covers 4 _ (by decide +kernel) fun t _ y => ?_
  blk_simp [idx4 t]
  rw [after0_4, o4]
  refine entry (pt t) _ (out (X m c) (A m c) (W m c)) (p1 _ _ _ _ _ _ (blk0 m c t) (blk1 m c t) (blk2 m c t)) _ _ ?_ ?_
    <;> blk_simp [idx4 t, pt] <;> try (dsimp only; omega)

end Cert.Kernel12Ideal.Down

namespace Cert.Kernel12Ideal.Down

open Cert.Reference12Ideal.Read Cert.FfnDown Idealize.ShloMosaic Idealize.SL.Sem

/-- The reference's result. -/
theorem s3 (x0 : (⟨Cert.Reference12Ideal.S4096x1024, .f32⟩ : BufTy).Contents (Elt Ideal))
    (x1 : (⟨Cert.Reference12Ideal.S4096x2816, .bf16⟩ : BufTy).Contents (Elt Ideal))
    (x2 : (⟨Cert.Reference12Ideal.S2816x1024, .bf16⟩ : BufTy).Contents (Elt Ideal))
    (x : Fin 4096 → Fin 1024 → EReal) (a : Fin 4096 → Fin 2816 → EReal) (w : Fin 2816 → Fin 1024 → EReal)
    (h0 : ∀ r j, x0 (ix2 r j) = x r j) (h1 : ∀ r k, x1 (ix2 r k) = a r k) (h2 : ∀ k j, x2 (ix2 k j) = w k j)
    (r : Fin 4096) (j : Fin 1024) : val_main_v3 (F := Ideal) x0 x1 x2 (ix2 r j) = out x a w r j := by
  pointwise [val_main_v3, val_main_v2, val_main_v1, val_main_v0]
  simp only [h0, h1, h2]; rfl

/-- The value claim. -/
theorem algebraic : Cert.algebraic_Kernel12Ideal_Reference12Ideal (hKernel12Ideal := Cert.Kernel12Ideal.Gen.facts)
    (hReference12Ideal := Cert.Reference12Ideal.Gen.facts) := by
  intro m g m' g' _ hag
  refine ⟨fun c => (Cert.Kernel12Ideal.Gen.dats m 0 c).arrAt 4 Cert.Kernel12Ideal.cfg0.N, Cert.Kernel12Ideal.Value.run_blocks m g, ?_⟩
  refine (θ_run _ _ _).mono (fun r h c => ?_) (Cert.Reference12Ideal.Value.run (F := Ideal) m' g')
  obtain ⟨a0, a1, a2, a3⟩ := hag c
  obtain ⟨q0, hargs⟩ := h c
  have f0 : ∀ r k, _ = X m c r k := fun r k => congrFun a0 (ix2 r k)
  have f1 : ∀ r k, _ = A m c r k := fun r k => congrFun a1 (ix2 r k)
  have f2 : ∀ r k, _ = W m c r k := fun r k => congrFun a2 (ix2 r k)
  refine ⟨q0.trans ((val_main_v3_eq _ _ _).trans ((funext fun x => ?_).trans (arr4 m c).symm)), hargs⟩
  rw [eq_ix2 x]; exact s3 _ _ _ _ _ _ f0 f1 f2 _ _

end Cert.Kernel12Ideal.Down

end
-- ==== Proof.Loss.lean ====
module

public import proofs.«01_k».proof.Defs
public import proofs.«01_k».proof.Proof.Rows
public import proofs.«01_k».proof.Proof.Consts
public import proofs.«01_k».proof.Proof.NormSpec
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import Idealize.ShloMosaic.Lib.Pointwise
public import Idealize.ShloMosaic.Lib.Pipeline.ValueKit
public import Idealize.ShloMosaic.Lib.Claim

@[expose] public section

set_option maxRecDepth 16384

noncomputable section

/-! The last layer's second feed-forward product, the loss and the loss's gradient: the kernel's three results are the reference's, on every
input. -/

namespace Cert.LossSpec

open Idealize.ShloMosaic Cert.Consts

theorem w_two : Ideal.ofBits .f32 0x40000000#32 = ((2 : ℝ) : EReal) := by
  simp [Ideal.ofBits, Ideal.ieee, -EReal.coe_mul]; norm_num
theorem w_inv : Ideal.ofBits .f32 0x3A800000#32 = ((1 / 1024 : ℝ) : EReal) := by
  simp [Ideal.ofBits, Ideal.ieee, -EReal.coe_mul]; norm_num

variable {ι : Type} (x : ι → Fin 1024 → EReal) (a : ι → Fin 2816 → EReal) (w : Fin 2816 → Fin 1024 → EReal) (y : ι → Fin 1024 → EReal)

/-- The model's output less the target. -/
def diff (r : ι) (j : Fin 1024) : EReal := x r j + (∑ k, a r k * w k j) - y r j
/-- The loss's gradient. -/
def grad (r : ι) (j : Fin 1024) : EReal := diff x a w y r j * ((1 / 1024 : ℝ) : EReal)
/-- A row's mean of squares. -/
def ms (r : ι) : EReal := Ideal.div (∑ j, diff x a w y r j * diff x a w y r j) ((1024 : ℝ) : EReal)
/-- A row's part of the loss. -/
def row (r : ι) : EReal := ((1 / 2 : ℝ) : EReal) * ms x a w y r

/-- A half of a sum is the sum of the halves, of infinite terms too. -/
theorem half_sum {κ : Type} [Fintype κ] (f : κ → EReal) : ((1 / 2 : ℝ) : EReal) * ∑ i, f i = ∑ i, ((1 / 2 : ℝ) : EReal) * f i :=
  map_sum (⟨⟨fun z => ((1 / 2 : ℝ) : EReal) * z, mul_zero _⟩,
    fun u v => EReal.left_distrib_of_nonneg_of_ne_top (EReal.coe_nonneg.2 (by norm_num)) (EReal.coe_ne_top _) u v⟩ : EReal →+ EReal) f _

/-- The gradient as the derivative of the square, times a half over the row's length. -/
theorem grad_eq (d : EReal) : Ideal.div ((1 / 2 : ℝ) : EReal) ((1024 : ℝ) : EReal) * (((2 : ℝ) : EReal) * d)
    = d * ((1 / 1024 : ℝ) : EReal) := by
  rw [div_real _ _ (by norm_num), ← mul_assoc, ← EReal.coe_mul, mul_comm]
  norm_num

end Cert.LossSpec

namespace Cert.Kernel13Ideal.Loss

open Cert.Kernel13Ideal Cert.Kernel13Ideal.Gen Cert.Consts Cert.LossSpec Cert.Rows Cert.NormSpec Idealize.ShloMosaic
  Idealize.ShloMosaic.TcCoe Idealize.SL.Sem

theorem hz2 : (![0, 0] : Fin 2 → Nat) = fun _ => 0 := funext fun a => by fin_cases a <;> rfl

section payloads
variable (v3 v8 : Vec Ideal S512x1024 .f32) (v4 : Vec Ideal S512x2816 .bf16) (v5 : Vec Ideal S2816x1024 .bf16)
variable (x : Fin 512 → Fin 1024 → EReal) (a : Fin 512 → Fin 2816 → EReal) (w : Fin 2816 → Fin 1024 → EReal) (y : Fin 512 → Fin 1024 → EReal)
variable (h3 : ∀ r j, v3 (ix2 r j) = x r j) (h4 : ∀ r k, v4 (ix2 r k) = a r k) (h5 : ∀ k j, v5 (ix2 k j) = w k j)
  (h8 : ∀ r j, v8 (ix2 r j) = y r j)

include h3 h4 h5 h8 in
theorem p2 (r : Fin 512) (j : Fin 1024) : k0_pay2 v3 v4 v5 v8 (ix2 r j) = diff x a w y r j := by
  pointwise [k0_pay2]
  simp only [h3, h4, h5, h8]; rfl
include h3 h4 h5 h8 in
/-- The gradient. -/
theorem p4 (r : Fin 512) (j : Fin 1024) : k0_pay4 v3 v4 v5 v8 (ix2 r j) = grad x a w y r j := by
  pointwise [k0_pay4]
  rw [p2 v3 v8 v4 v5 x a w y h3 h4 h5 h8, w_inv]; rfl
include h3 h4 h5 h8 in
theorem p5 (r : Fin 512) (j : Fin 1024) : k0_pay5 v3 v4 v5 v8 (ix2 r j) = grad x a w y r j := by
  pointwise [k0_pay5]
  exact p4 v3 v8 v4 v5 x a w y h3 h4 h5 h8 _ _
/-- The loss starts from zero. -/
theorem p1 (i : Fin 8) (k : Fin 128) : k0_pay1 (F := Ideal) (ix2 i k) = 0 := by
  pointwise [k0_pay1]
include h3 h4 h5 h8 in
/-- A block adds its rows' parts to the loss. -/
theorem p3 (v10 : Vec Ideal S8x128 .f32) (l : EReal) (h10 : ∀ i k, v10 (ix2 i k) = l) (i : Fin 8) (k : Fin 128) :
    k0_pay3 v3 v4 v5 v8 v10 (ix2 i k) = l + ∑ r, row x a w y r := by
  pointwise [k0_pay3]
  simp only [p2 v3 v8 v4 v5 x a w y h3 h4 h5 h8, h10, w_half, w_1024, half_sum]; rfl
end payloads

section body
variable (c : Dev nD) (i : grid0.Coords) (a1 : Memref sig .tc .vmem S512x1024 .f32) (h1 : a1.IsWhole)
  (a2 : Memref sig .tc .vmem S512x2816 .bf16) (h2 : a2.IsWhole)
  (a3 : Memref sig .tc .vmem S2816x1024 .bf16) (h3 : a3.IsWhole)
  (a4 : Memref sig .tc .vmem S512x1024 .f32) (h4 : a4.IsWhole)
  (a5 : Memref sig .tc .vmem S512x1024 .f32) (h5 : a5.IsWhole)
  (a6 : Memref sig .tc .vmem S512x1024 .bf16) (h6 : a6.IsWhole)
  (a7 : Memref sig .tc .vmem S8x128 .f32) (h7 : a7.IsWhole)
  (x0 : Vec Ideal S512x1024 .f32) (x1 : Vec Ideal S512x2816 .bf16) (x2 : Vec Ideal S2816x1024 .bf16) (x3 : Vec Ideal S512x1024 .f32)
  (xo : Vec Ideal S8x128 .f32)

/-! What the body leaves in its outputs: at the first point the loss starts from zero, at a later one from what the point before left. -/

theorem A4 (hc : cond0_0 i) : out0_A_4 c i a1 h1 a2 h2 a3 h3 a4 h4 a5 h5 a6 h6 a7 h7 hc x0 x1 x2 x3 = k0_pay4 x0 x1 x2 x3 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  sl_unfold_words
  rw [View.canon_unit_zero (S := S512x1024) hz2]
  simp only [View.readAt_eq_ld, h1.read_unread, h2.read_unread, h3.read_unread, h4.read_unread, h7.read_unread,
    View.ld_unit_zero (S := S512x1024) hz2, View.ld_unit_zero (S := S512x2816) hz2, View.ld_unit_zero (S := S2816x1024) hz2,
    View.ld_unit_zero (S := S8x128) hz2]
theorem A5 (hc : cond0_0 i) : out0_A_5 c i a1 h1 a2 h2 a3 h3 a4 h4 a5 h5 a6 h6 a7 h7 hc x0 x1 x2 x3 = k0_pay5 x0 x1 x2 x3 := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_unit_zero (S := S512x1024) hz2]
  simp only [View.readAt_eq_ld, h1.read_unread, h2.read_unread, h3.read_unread, h4.read_unread, h7.read_unread,
    View.ld_unit_zero (S := S512x1024) hz2, View.ld_unit_zero (S := S512x2816) hz2, View.ld_unit_zero (S := S2816x1024) hz2,
    View.ld_unit_zero (S := S8x128) hz2]
theorem A6 (hc : cond0_0 i) : out0_A_6 c i a1 h1 a2 h2 a3 h3 a4 h4 a5 h5 a6 h6 a7 h7 hc x0 x1 x2 x3 = k0_pay3 x0 x1 x2 x3 (k0_pay1 (F := Ideal)) := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S8x128) hz2, View.readCov_unit_zero (S := S8x128) _ hz2]
  simp only [View.readAt_eq_ld, h1.read_unread, h2.read_unread, h3.read_unread, h4.read_unread, h7.read_unread,
    View.ld_unit_zero (S := S512x1024) hz2, View.ld_unit_zero (S := S512x2816) hz2, View.ld_unit_zero (S := S2816x1024) hz2,
    View.ld_unit_zero (S := S8x128) hz2]
theorem B4 (hc : ¬cond0_0 i) : out0_B_4 c i a1 h1 a2 h2 a3 h3 a4 h4 a5 h5 a6 h6 a7 h7 hc x0 x1 x2 x3 xo = k0_pay4 x0 x1 x2 x3 := by
  unfold out0_B_4
  rw [View.read_writes_eq_canon _ _ _ (cover0_B_4 c i a1 h1 a2 h2 a3 h3 a4 h4 a5 h5 a6 h6 a7 h7 hc x0 x1 x2 x3 xo)]
  unfold kernelRun0_B
  dsimp only
  sl_unfold_words
  rw [View.canon_unit_zero (S := S512x1024) hz2]
  simp only [View.readAt_eq_ld, h1.read_unread, h2.read_unread, h3.read_unread, h4.read_unread, h7.read_unread,
    View.ld_unit_zero (S := S512x1024) hz2, View.ld_unit_zero (S := S512x2816) hz2, View.ld_unit_zero (S := S2816x1024) hz2,
    View.ld_unit_zero (S := S8x128) hz2]
theorem B5 (hc : ¬cond0_0 i) : out0_B_5 c i a1 h1 a2 h2 a3 h3 a4 h4 a5 h5 a6 h6 a7 h7 hc x0 x1 x2 x3 xo = k0_pay5 x0 x1 x2 x3 := by
  unfold out0_B_5
  rw [View.read_writes_eq_canon _ _ _ (cover0_B_5 c i a1 h1 a2 h2 a3 h3 a4 h4 a5 h5 a6 h6 a7 h7 hc x0 x1 x2 x3 xo)]
  unfold kernelRun0_B
  dsimp only
  sl_unfold_words
  rw [View.canon_unit_zero (S := S512x1024) hz2]
  simp only [View.readAt_eq_ld, h1.read_unread, h2.read_unread, h3.read_unread, h4.read_unread, h7.read_unread,
    View.ld_unit_zero (S := S512x1024) hz2, View.ld_unit_zero (S := S512x2816) hz2, View.ld_unit_zero (S := S2816x1024) hz2,
    View.ld_unit_zero (S := S8x128) hz2]
theorem B6 (hc : ¬cond0_0 i) : out0_B_6 c i a1 h1 a2 h2 a3 h3 a4 h4 a5 h5 a6 h6 a7 h7 hc x0 x1 x2 x3 xo = k0_pay3 x0 x1 x2 x3 xo := by
  unfold out0_B_6
  rw [View.read_writes_eq_canon _ _ _ (cover0_B_6 c i a1 h1 a2 h2 a3 h3 a4 h4 a5 h5 a6 h6 a7 h7 hc x0 x1 x2 x3 xo)]
  unfold kernelRun0_B
  dsimp only
  sl_unfold_words
  rw [View.canon_unit_zero (S := S8x128) hz2]
  simp only [View.readAt_eq_ld, h1.read_unread, h2.read_unread, h3.read_unread, h4.read_unread, h7.read_unread,
    View.ld_unit_zero (S := S512x1024) hz2, View.ld_unit_zero (S := S512x2816) hz2, View.ld_unit_zero (S := S2816x1024) hz2,
    View.ld_unit_zero (S := S8x128) hz2]
end body

variable (m : (ℓ : Loc nD τ sig) → Buf (Elt Ideal) ℓ) (c : Dev nD)

/-! The arguments' entries: the residual stream, the activations, the weight, the target. -/

def X (r : Fin 4096) (j : Fin 1024) : EReal := m ((c : Thread nD τ).loc main_arg0) (ix2 r j)
def A (r : Fin 4096) (k : Fin 2816) : EReal := m ((c : Thread nD τ).loc main_arg1) (ix2 r k)
def W (k : Fin 2816) (j : Fin 1024) : EReal := m ((c : Thread nD τ).loc main_arg2) (ix2 k j)
def T (r : Fin 4096) (j : Fin 1024) : EReal := m ((c : Thread nD τ).loc main_arg3) (ix2 r j)

/-- A grid point's number. -/
def pt (t : Fin cfg0.N) : Fin 8 := ⟨t.val, lt_of_lt_of_eq t.isLt N_0⟩

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

section points
variable (t : Fin cfg0.N)
theorem blk0 (a : Fin 512) (j : Fin 1024) : (show Vec Ideal S512x1024 .f32 from iblk m c 0 t) (ix2 a j) = X m c (grow (pt t) a) j := by
  unfold X
  blk_ext [iblk, V, idx0 t, grow, pt]
theorem blk1 (a : Fin 512) (j : Fin 2816) : (show Vec Ideal S512x2816 .bf16 from iblk m c 1 t) (ix2 a j) = A m c (grow (pt t) a) j := by
  unfold A
  blk_ext [iblk, V, idx1 t, grow, pt]
theorem blk2 (a : Fin 2816) (j : Fin 1024) : (show Vec Ideal S2816x1024 .bf16 from iblk m c 2 t) (ix2 a j) = W m c a j := by
  unfold W
  blk_ext [iblk, V, idx2 t]
theorem blk3 (a : Fin 512) (j : Fin 1024) : (show Vec Ideal S512x1024 .f32 from iblk m c 3 t) (ix2 a j) = T m c (grow (pt t) a) j := by
  unfold T
  blk_ext [iblk, V, idx3 t, grow, pt]

/-! The three outputs at a point. -/

theorem o4 : (outsAt0 m c t.val t.isLt).1 = k0_pay4 (F := Ideal) (iblk m c 0 t) (iblk m c 1 t) (iblk m c 2 t) (iblk m c 3 t) := by
  by_cases h : t.val % 8 = 0
  · rw [outsAt0_A m c t h]; dsimp only; rw [A4]
  · rw [outsAt0_B m c t h]; dsimp only; rw [B4]
theorem o5 : (outsAt0 m c t.val t.isLt).2.1 = k0_pay5 (F := Ideal) (iblk m c 0 t) (iblk m c 1 t) (iblk m c 2 t) (iblk m c 3 t) := by
  by_cases h : t.val % 8 = 0
  · rw [outsAt0_A m c t h]; dsimp only; rw [A5]
  · rw [outsAt0_B m c t h]; dsimp only; rw [B5]
theorem o6_A (h : t.val % 8 = 0) : (outsAt0 m c t.val t.isLt).2.2
    = k0_pay3 (F := Ideal) (iblk m c 0 t) (iblk m c 1 t) (iblk m c 2 t) (iblk m c 3 t) (k0_pay1 (F := Ideal)) := by
  rw [outsAt0_A m c t h]; dsimp only; rw [A6]
theorem o6_B (h : ¬t.val % 8 = 0) : (outsAt0 m c t.val t.isLt).2.2
    = k0_pay3 (F := Ideal) (iblk m c 0 t) (iblk m c 1 t) (iblk m c 2 t) (iblk m c 3 t)
      (outsAt0 m c (t.val - 1) (Nat.lt_of_le_of_lt (Nat.sub_le _ _) t.isLt)).2.2 := by
  rw [outsAt0_B m c t h]; dsimp only; rw [B6]
/-- A point adds its block's rows' parts. -/
theorem step (v : Vec Ideal S8x128 .f32) (l : EReal) (hv : ∀ i k, v (ix2 i k) = l) (i : Fin 8) (k : Fin 128) :
    k0_pay3 (F := Ideal) (iblk m c 0 t) (iblk m c 1 t) (iblk m c 2 t) (iblk m c 3 t) v (ix2 i k)
      = l + ∑ a, row (X m c) (A m c) (W m c) (T m c) (grow (pt t) a) :=
  p3 _ _ _ _ (fun a => X m c (grow (pt t) a)) (fun a => A m c (grow (pt t) a)) _ (fun a => T m c (grow (pt t) a)) (blk0 m c t) (blk1 m c t)
    (blk2 m c t) (blk3 m c t) v l hv i k
end points

/-- The loss after point `n`. -/
theorem at6 : ∀ (n : ℕ) (h : n < cfg0.N) (i : Fin 8) (k : Fin 128),
    (outsAt0 m c n h).2.2 (ix2 i k) = part (row (X m c) (A m c) (W m c) (T m c)) n
  | 0, h, i, k => by
    rw [← part_zero, o6_A m c ⟨0, h⟩ rfl]
    exact step m c ⟨0, h⟩ _ 0 p1 i k
  | n + 1, h, i, k => by
    have hN : n + 1 < 8 := lt_of_lt_of_eq h N_0
    rw [← part_succ _ n hN, o6_B m c ⟨n + 1, h⟩ (by dsimp only; omega)]
    exact step m c ⟨n + 1, h⟩ _ _ (fun i k => at6 n _ i k) i k

/-! The three result arrays after the run. -/

theorem arr4 : (dats m 0 c).arrAt 4 cfg0.N = fun x : S4096x1024.Idx => grad (X m c) (A m c) (W m c) (T m c) (x 0) (x 1) := by
  refine (dats m 0 c).arrAt_eq_of_covers 4 _ (by decide +kernel) fun t _ y => ?_
  blk_simp [idx4 t]
  rw [after0_4, o4]
  refine entry (pt t) _ (grad (X m c) (A m c) (W m c) (T m c)) (p4 _ _ _ _ (fun a => X m c (grow (pt t) a)) (fun a => A m c (grow (pt t) a)) _
    (fun a => T m c (grow (pt t) a)) (blk0 m c t) (blk1 m c t) (blk2 m c t) (blk3 m c t)) _ _ ?_ ?_
    <;> blk_simp [idx4 t, pt] <;> try (dsimp only; omega)
theorem arr5 : (dats m 0 c).arrAt 5 cfg0.N = fun x : S4096x1024.Idx => grad (X m c) (A m c) (W m c) (T m c) (x 0) (x 1) := by
  refine (dats m 0 c).arrAt_eq_of_covers 5 _ (by decide +kernel) fun t _ y => ?_
  blk_simp [idx5 t]
  rw [after0_5, o5]
  refine entry (pt t) _ (grad (X m c) (A m c) (W m c) (T m c)) (p5 _ _ _ _ (fun a => X m c (grow (pt t) a)) (fun a => A m c (grow (pt t) a)) _
    (fun a => T m c (grow (pt t) a)) (blk0 m c t) (blk1 m c t) (blk2 m c t) (blk3 m c t)) _ _ ?_ ?_
    <;> blk_simp [idx5 t, pt] <;> try (dsimp only; omega)
theorem arr6 : (dats m 0 c).arrAt 6 cfg0.N = fun x : S8x128.Idx => ∑ r, row (X m c) (A m c) (W m c) (T m c) r := by
  have key : ∀ x : S8x128.Idx, (outsAt0 m c 7 (by rw [show cfg0.N = 8 from N_0]; decide)).2.2 x
      = ∑ r, row (X m c) (A m c) (W m c) (T m c) r := fun x => by
    rw [eq_ix2 x, at6 m c 7 _ (x 0) (x 1), part_last]
  refine (dats m 0 c).arrAt_eq_of_after_last 6 t0_7 (by decide +kernel) _ fun y => ?_
  blk_simp
  rw [after0_6]
  exact key _

end Cert.Kernel13Ideal.Loss

namespace Cert.Reference13Ideal.Loss

open Cert.Reference13Ideal Cert.Reference13Ideal.Read Cert.Consts Cert.LossSpec Idealize.ShloMosaic Idealize.SL.Sem

variable (x0 : (⟨S4096x1024, .f32⟩ : BufTy).Contents (Elt Ideal)) (x1 : (⟨S4096x2816, .bf16⟩ : BufTy).Contents (Elt Ideal))
  (x2 : (⟨S2816x1024, .bf16⟩ : BufTy).Contents (Elt Ideal)) (x3 : (⟨S4096x1024, .f32⟩ : BufTy).Contents (Elt Ideal))
variable (x : Fin 4096 → Fin 1024 → EReal) (a : Fin 4096 → Fin 2816 → EReal) (w : Fin 2816 → Fin 1024 → EReal) (y : Fin 4096 → Fin 1024 → EReal)
variable (h0 : ∀ r j, x0 (ix2 r j) = x r j) (h1 : ∀ r k, x1 (ix2 r k) = a r k) (h2 : ∀ k j, x2 (ix2 k j) = w k j)
  (h3 : ∀ r j, x3 (ix2 r j) = y r j)

include h0 h1 h2 h3 in
theorem s4 (r : Fin 4096) (j : Fin 1024) : val_main_v4 (F := Ideal) x0 x1 x2 x3 (ix2 r j) = diff x a w y r j := by
  pointwise [val_main_v4, val_main_v3, val_main_v2, val_main_v1, val_main_v0]
  simp only [h0, h1, h2, h3]; rfl
include h0 h1 h2 h3 in
/-- The gradient. -/
theorem s18 (r : Fin 4096) (j : Fin 1024) : val_main_v18 (F := Ideal) x0 x1 x2 x3 (ix2 r j) = grad x a w y r j := by
  pointwise [val_main_v18, val_main_v17, val_main_v16, val_main_v15, val_main_v14, val_main_v13, val_main_v7, val_main_v6, val_main_cst,
    val_main_cst_4, val_main_cst_5, val_main_cst_6]
  rw [s4 x0 x1 x2 x3 x a w y h0 h1 h2 h3, w_half, w_1024, w_two]; exact grad_eq _
include h0 h1 h2 h3 in
theorem s19 (r : Fin 4096) (j : Fin 1024) : val_main_v19 (F := Ideal) x0 x1 x2 x3 (ix2 r j) = grad x a w y r j := by
  pointwise [val_main_v19]
  exact s18 x0 x1 x2 x3 x a w y h0 h1 h2 h3 _ _
include h0 h1 h2 h3 in
theorem s10 (r : Fin 4096) : val_main_v10 (F := Ideal) x0 x1 x2 x3 (ix1 r) = ms x a w y r := by
  pointwise [val_main_v10, val_main_v9, val_main_v8, val_main_v5, val_main_cst_0, val_main_cst_1]
  simp only [s4 x0 x1 x2 x3 x a w y h0 h1 h2 h3, w_zero, w_1024, EReal.coe_zero, zero_add]; rfl
include h0 h1 h2 h3 in
/-- The rows' means of squares, summed. -/
theorem s11 (i : S_.Idx) : val_main_v11 (F := Ideal) x0 x1 x2 x3 i = ∑ r, ms x a w y r := by
  rw [val_main_v11_apply, val_main_cst_2_apply]
  show Ideal.ofBits .f32 0#32 + _ = (_ : EReal)
  rw [w_zero, EReal.coe_zero, zero_add]
  refine Fintype.sum_equiv (⟨fun q => q 0, fun r => ix1 r, fun q => (eq_ix1 q).symm, fun _ => rfl⟩ : S4096.Idx ≃ Fin 4096) _ _ fun q => ?_
  rw [eq_ix1 q]
  exact s10 x0 x1 x2 x3 x a w y h0 h1 h2 h3 _
include h0 h1 h2 h3 in
/-- The loss. -/
theorem s20 (i : Fin 8) (k : Fin 128) : val_main_v20 (F := Ideal) x0 x1 x2 x3 (ix2 i k) = ∑ r, row x a w y r := by
  rw [val_main_v20_apply, val_main_v12_apply, s11 x0 x1 x2 x3 x a w y h0 h1 h2 h3, val_main_cst_3_apply]
  show Ideal.ofBits .f32 1056964608#32 * _ = (_ : EReal)
  rw [w_half]
  exact half_sum _

end Cert.Reference13Ideal.Loss

namespace Cert.Kernel13Ideal.Loss

open Cert.Reference13Ideal.Read Idealize.ShloMosaic Idealize.SL.Sem

/-- The value claim. -/
theorem algebraic : Cert.algebraic_Kernel13Ideal_Reference13Ideal (hKernel13Ideal := Cert.Kernel13Ideal.Gen.facts)
    (hReference13Ideal := Cert.Reference13Ideal.Gen.facts) := by
  intro m g m' g' _ hag
  refine ⟨fun c => (Cert.Kernel13Ideal.Gen.dats m 0 c).arrAt 4 Cert.Kernel13Ideal.cfg0.N,
    fun c => (Cert.Kernel13Ideal.Gen.dats m 0 c).arrAt 5 Cert.Kernel13Ideal.cfg0.N,
    fun c => (Cert.Kernel13Ideal.Gen.dats m 0 c).arrAt 6 Cert.Kernel13Ideal.cfg0.N, Cert.Kernel13Ideal.Value.run_blocks m g, ?_⟩
  refine (θ_run _ _ _).mono (fun r h c => ?_) (Cert.Reference13Ideal.Value.run (F := Ideal) m' g')
  obtain ⟨a0, a1, a2, a3⟩ := hag c
  obtain ⟨q0, q1, q2, hargs⟩ := h c
  have f0 : ∀ r k, _ = X m c r k := fun r k => congrFun a0 (ix2 r k)
  have f1 : ∀ r k, _ = A m c r k := fun r k => congrFun a1 (ix2 r k)
  have f2 : ∀ r k, _ = W m c r k := fun r k => congrFun a2 (ix2 r k)
  have f3 : ∀ r k, _ = T m c r k := fun r k => congrFun a3 (ix2 r k)
  refine ⟨q0.trans ((val_main_v18_eq _ _ _ _).trans ((funext fun x => ?_).trans (arr4 m c).symm)),
    q1.trans ((val_main_v19_eq _ _ _ _).trans ((funext fun x => ?_).trans (arr5 m c).symm)),
    q2.trans ((val_main_v20_eq _ _ _ _).trans ((funext fun x => ?_).trans (arr6 m c).symm)), hargs⟩
  · rw [eq_ix2 x]; exact Cert.Reference13Ideal.Loss.s18 _ _ _ _ _ _ _ _ f0 f1 f2 f3 _ _
  · rw [eq_ix2 x]; exact Cert.Reference13Ideal.Loss.s19 _ _ _ _ _ _ _ _ f0 f1 f2 f3 _ _
  · rw [eq_ix2 x]; exact Cert.Reference13Ideal.Loss.s20 _ _ _ _ _ _ _ _ f0 f1 f2 f3 _ _

end Cert.Kernel13Ideal.Loss

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.SguFinal
public import proofs.«01_k».proof.Proof.NormFinal
public import proofs.«01_k».proof.Proof.DwUp
public import proofs.«01_k».proof.Proof.MixFinal
public import proofs.«01_k».proof.Proof.DwIn
public import proofs.«01_k».proof.Proof.DwDown
public import proofs.«01_k».proof.Proof.Merge
public import proofs.«01_k».proof.Proof.DwOut
public import proofs.«01_k».proof.Proof.DwBranch
public import proofs.«01_k».proof.Proof.InProj
public import proofs.«01_k».proof.Proof.MergeFwd
public import proofs.«01_k».proof.Proof.FfnDown
public import proofs.«01_k».proof.Proof.Loss

@[expose] public section

noncomputable section

namespace Cert.Proof

open Idealize.ShloMosaic Idealize.SL.Sem

/-- The reference runs, leaves its arguments alone and every counter at zero. -/
theorem frame_ref : Cert.quiescent_ReferenceIdeal (hReferenceIdeal := Cert.ReferenceIdeal.Gen.facts) := by
  intro m g _
  exact (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m g)

/-- The same of the feed-forward norm's reference. -/
theorem frame_ref2 : Cert.quiescent_Reference2Ideal (hReference2Ideal := Cert.Reference2Ideal.Gen.facts) := by
  intro m g _
  exact (θ_run Cert.Reference2Ideal.defs _ _).mono
    (fun r h => ⟨fun c => (h c).2.2.2, Idealize.ShloMosaic.sem_eq_zero_of_no_sems (by decide) r.2⟩)
    (Cert.Reference2Ideal.Value.run (F := Ideal) m g)

/-- The same of the up projection's weight gradient. -/
theorem frame_ref3 : Cert.quiescent_Reference3Ideal (hReference3Ideal := Cert.Reference3Ideal.Gen.facts) := by
  intro m g _
  exact (θ_run Cert.Reference3Ideal.defs _ _).mono
    (fun r h => ⟨fun c => (h c).2, Idealize.ShloMosaic.sem_eq_zero_of_no_sems (by decide) r.2⟩)
    (Cert.Reference3Ideal.Value.run (F := Ideal) m g)

/-- The same of the mixer norm's reference. -/
theorem frame_ref4 : Cert.quiescent_Reference4Ideal (hReference4Ideal := Cert.Reference4Ideal.Gen.facts) := by
  intro m g _
  exact (θ_run Cert.Reference4Ideal.defs _ _).mono
    (fun r h => ⟨fun c => (h c).2.2.2, Idealize.ShloMosaic.sem_eq_zero_of_no_sems (by decide) r.2⟩)
    (Cert.Reference4Ideal.Value.run (F := Ideal) m g)

/-- The same of the input projection's weight gradient. -/
theorem frame_ref5 : Cert.quiescent_Reference5Ideal (hReference5Ideal := Cert.Reference5Ideal.Gen.facts) := by
  intro m g _
  exact (θ_run Cert.Reference5Ideal.defs _ _).mono
    (fun r h => ⟨fun c => (h c).2, Idealize.ShloMosaic.sem_eq_zero_of_no_sems (by decide) r.2⟩)
    (Cert.Reference5Ideal.Value.run (F := Ideal) m g)

/-- The same of the down projection's weight gradient. -/
theorem frame_ref6 : Cert.quiescent_Reference6Ideal (hReference6Ideal := Cert.Reference6Ideal.Gen.facts) := by
  intro m g _
  exact (θ_run Cert.Reference6Ideal.defs _ _).mono
    (fun r h => ⟨fun c => (h c).2, Idealize.ShloMosaic.sem_eq_zero_of_no_sems (by decide) r.2⟩)
    (Cert.Reference6Ideal.Value.run (F := Ideal) m g)

/-- The same of the merge's reference. -/
theorem frame_ref7 : Cert.quiescent_Reference7Ideal (hReference7Ideal := Cert.Reference7Ideal.Gen.facts) := by
  intro m g _
  exact (θ_run Cert.Reference7Ideal.defs _ _).mono
    (fun r h => ⟨fun c => (h c).2.2.2.2.2.2, Idealize.ShloMosaic.sem_eq_zero_of_no_sems (by decide) r.2⟩)
    (Cert.Reference7Ideal.Value.run (F := Ideal) m g)

/-- The same of the output projection's weight gradient. -/
theorem frame_ref8 : Cert.quiescent_Reference8Ideal (hReference8Ideal := Cert.Reference8Ideal.Gen.facts) := by
  intro m g _
  exact (θ_run Cert.Reference8Ideal.defs _ _).mono
    (fun r h => ⟨fun c => (h c).2, Idealize.ShloMosaic.sem_eq_zero_of_no_sems (by decide) r.2⟩)
    (Cert.Reference8Ideal.Value.run (F := Ideal) m g)

/-- The same of a branch projection's weight gradient. -/
theorem frame_ref9 : Cert.quiescent_Reference9Ideal (hReference9Ideal := Cert.Reference9Ideal.Gen.facts) := by
  intro m g _
  exact (θ_run Cert.Reference9Ideal.defs _ _).mono
    (fun r h => ⟨fun c => (h c).2, Idealize.ShloMosaic.sem_eq_zero_of_no_sems (by decide) r.2⟩)
    (Cert.Reference9Ideal.Value.run (F := Ideal) m g)

/-- The same of the input projection. -/
theorem frame_ref10 : Cert.quiescent_Reference10Ideal (hReference10Ideal := Cert.Reference10Ideal.Gen.facts) := by
  intro m g _
  exact (θ_run Cert.Reference10Ideal.defs _ _).mono
    (fun r h => ⟨fun c => (h c).2.2.2.2.2.2, Idealize.ShloMosaic.sem_eq_zero_of_no_sems (by decide) r.2⟩)
    (Cert.Reference10Ideal.Value.run (F := Ideal) m g)

/-- The same of the forward merge. -/
theorem frame_ref11 : Cert.quiescent_Reference11Ideal (hReference11Ideal := Cert.Reference11Ideal.Gen.facts) := by
  intro m g _
  exact (θ_run Cert.Reference11Ideal.defs _ _).mono
    (fun r h => ⟨fun c => (h c).2.2.2.2, Idealize.ShloMosaic.sem_eq_zero_of_no_sems (by decide) r.2⟩)
    (Cert.Reference11Ideal.Value.run (F := Ideal) m g)

/-- The same of the down projection. -/
theorem frame_ref12 : Cert.quiescent_Reference12Ideal (hReference12Ideal := Cert.Reference12Ideal.Gen.facts) := by
  intro m g _
  exact (θ_run Cert.Reference12Ideal.defs _ _).mono
    (fun r h => ⟨fun c => (h c).2, Idealize.ShloMosaic.sem_eq_zero_of_no_sems (by decide) r.2⟩)
    (Cert.Reference12Ideal.Value.run (F := Ideal) m g)

/-- The same of the down projection with the loss. -/
theorem frame_ref13 : Cert.quiescent_Reference13Ideal (hReference13Ideal := Cert.Reference13Ideal.Gen.facts) := by
  intro m g _
  exact (θ_run Cert.Reference13Ideal.defs _ _).mono
    (fun r h => ⟨fun c => (h c).2.2.2, Idealize.ShloMosaic.sem_eq_zero_of_no_sems (by decide) r.2⟩)
    (Cert.Reference13Ideal.Value.run (F := Ideal) m g)

/-- The claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Finite.facts, Cert.NormFinal.facts, Cert.MixFinal.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial,
  fun m ρ _ => Cert.Kernel2.Gen.frame m ρ, fun m ρ _ => Cert.Kernel2Ideal.Gen.frame m ρ, fun m ρ _ => Cert.Kernel2Ideal.Gen.frame m ρ,
  frame_ref2, fun m ρ _ => frame_ref2 m ρ trivial,
  fun m ρ _ => Cert.Kernel3.Gen.frame m ρ, fun m ρ _ => Cert.Kernel3Ideal.Gen.frame m ρ, frame_ref3,
  fun m ρ _ => Cert.Kernel4.Gen.frame m ρ, fun m ρ _ => Cert.Kernel4Ideal.Gen.frame m ρ, fun m ρ _ => Cert.Kernel4Ideal.Gen.frame m ρ,
  frame_ref4, fun m ρ _ => frame_ref4 m ρ trivial,
  fun m ρ _ => Cert.Kernel5.Gen.frame m ρ, fun m ρ _ => Cert.Kernel5Ideal.Gen.frame m ρ, frame_ref5,
  fun m ρ _ => Cert.Kernel6.Gen.frame m ρ, fun m ρ _ => Cert.Kernel6Ideal.Gen.frame m ρ, frame_ref6,
  fun m ρ _ => Cert.Kernel7.Gen.frame m ρ, fun m ρ _ => Cert.Kernel7Ideal.Gen.frame m ρ, frame_ref7,
  fun m ρ _ => Cert.Kernel8.Gen.frame m ρ, fun m ρ _ => Cert.Kernel8Ideal.Gen.frame m ρ, frame_ref8,
  fun m ρ _ => Cert.Kernel9.Gen.frame m ρ, fun m ρ _ => Cert.Kernel9Ideal.Gen.frame m ρ, frame_ref9,
  fun m ρ _ => Cert.Kernel10.Gen.frame m ρ, fun m ρ _ => Cert.Kernel10Ideal.Gen.frame m ρ, frame_ref10,
  fun m ρ _ => Cert.Kernel11.Gen.frame m ρ, fun m ρ _ => Cert.Kernel11Ideal.Gen.frame m ρ, frame_ref11,
  fun m ρ _ => Cert.Kernel12.Gen.frame m ρ, fun m ρ _ => Cert.Kernel12Ideal.Gen.frame m ρ, frame_ref12,
  fun m ρ _ => Cert.Kernel13.Gen.frame m ρ, fun m ρ _ => Cert.Kernel13Ideal.Gen.frame m ρ, frame_ref13,
  ⟨IdealRules.named_const.statement Cert.KernelIdeal.κ "gelu_cubic" .f32 0x3D372713#32 _ rfl,
    IdealRules.named_const.statement Cert.KernelIdeal.κ "gelu_cubic3" .f32 0x3E095D4F#32 _ rfl⟩,
  Cert.SguFinal.algebraic, trivial, Cert.NormFinal.algebraic, trivial, Cert.Kernel3Ideal.Dw.algebraic,
  trivial, Cert.MixFinal.algebraic, trivial, Cert.Kernel5Ideal.Dw.algebraic, trivial, Cert.Kernel6Ideal.Dw.algebraic,
  trivial, Cert.Kernel7Ideal.Merge.algebraic,
  trivial, Cert.Kernel8Ideal.Dw.algebraic,
  trivial, Cert.Kernel9Ideal.Dw.algebraic,
  trivial, Cert.Kernel10Ideal.In.algebraic,
  trivial, Cert.Kernel11Ideal.Merge.algebraic,
  trivial, Cert.Kernel12Ideal.Down.algebraic,
  trivial, Cert.Kernel13Ideal.Loss.algebraic⟩

end Cert.Proof

end
